-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sortable [hPre_sortable : Cert.Pre_sortable.Facts] (m : (ℓ : Loc Cert.KernelIdeal.nD Cert.KernelIdeal.τ Cert.KernelIdeal.sig) → Buf (Elt Ideal) ℓ) : Prop :=
  ∀ c : Dev Cert.KernelIdeal.nD,
    (Cert.Pre_sortable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_sortable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sortable [hPre_sortable : Cert.Pre_sortable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sortable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_sortable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_sortable [hKernelIdeal : Cert.KernelIdeal.Facts] [hPre_sortable : Cert.Pre_sortable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sortable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sortable [hReferenceIdeal : Cert.ReferenceIdeal.Facts] [hPre_sortable : Cert.Pre_sortable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sortable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_sortable [hKernelIdeal : Cert.KernelIdeal.Facts] [hReferenceIdeal : Cert.ReferenceIdeal.Facts] [hPre_sortable : Cert.Pre_sortable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sortable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sortable : Cert.Pre_sortable.Facts),
    quiescent_Kernel (hKernel := hKernel)
    ∧ quiescent_KernelIdeal (hKernelIdeal := hKernelIdeal)
    ∧ quiescent_KernelIdeal_pre_sortable (hKernelIdeal := hKernelIdeal) (hPre_sortable := hPre_sortable)
    ∧ quiescent_ReferenceIdeal (hReferenceIdeal := hReferenceIdeal)
    ∧ quiescent_ReferenceIdeal_pre_sortable (hReferenceIdeal := hReferenceIdeal) (hPre_sortable := hPre_sortable)
    ∧ preserves_Kernel_KernelIdeal
    ∧ algebraic_KernelIdeal_ReferenceIdeal_pre_sortable (hKernelIdeal := hKernelIdeal) (hReferenceIdeal := hReferenceIdeal) (hPre_sortable := hPre_sortable)
-- ==== Pre_sortable.lean ====
abbrev S65536x128 : Shape := ⟨2, ![65536, 128]⟩
abbrev S128 : Shape := ⟨1, ![128]⟩
abbrev S65536 : Shape := ⟨1, ![65536]⟩
abbrev S1x128 : Shape := ⟨2, ![1, 128]⟩
abbrev S_ : Shape := ⟨0, ![]⟩
abbrev S65535 : Shape := ⟨1, ![65535]⟩

class Facts : Prop where
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S1x128 : S_.BroadcastsInDim S1x128 (![] : Fin 0 → Fin S1x128.rank)
  bcast_S_S65536x128 : S_.BroadcastsInDim S65536x128 (![] : Fin 0 → Fin S65536x128.rank)
  slices_S65536_S65535_0 : S65536.Slices ![0] S65535
  slices_S65536_S65535_1 : S65536.Slices ![1] S65535

variable [Facts]

def fn {F : FTy → Type} [FloatOps F] (main_arg0 : FVec F S65536x128 .f32) (main_arg1 : FVec F S128 .f32) (main_arg2 : FVec F S128 .f32) (main_arg3 : FVec F S128 .f32) (main_arg4 : FVec F S128 .f32) (main_arg5 : FVec F S65536 .f32) : IVec S65536x128 1 × IVec S65535 1 :=
  let main_v0 : FVec F S1x128 .f32 := broadcastInDim S1x128 ![1] bcast_S128_S1x128_1 main_arg3
  let main_v1 : FVec F S65536x128 .f32 := broadcastInDim S65536x128 ![0, 1] bcast_S1x128_S65536x128_0_1 main_v0
  let main_v2 : FVec F S65536x128 .f32 := subf main_arg0 main_v1
  let main_v3 : FVec F S1x128 .f32 := broadcastInDim S1x128 ![1] bcast_S128_S1x128_1 main_arg4
  let main_cst : FVec F S_ .f32 := constant S_ .f32 0x3727C5AC#32
  let main_v4 : FVec F S1x128 .f32 := broadcastInDim S1x128 ![] bcast_S_S1x128 main_cst
  let main_v5 : FVec F S1x128 .f32 := addf main_v3 main_v4
  let main_v6 : FVec F S1x128 .f32 := Host.sqrt main_v5
  let main_v7 : FVec F S65536x128 .f32 := broadcastInDim S65536x128 ![0, 1] bcast_S1x128_S65536x128_0_1 main_v6
  let main_v8 : FVec F S65536x128 .f32 := Host.divf main_v2 main_v7
  let main_v9 : FVec F S1x128 .f32 := broadcastInDim S1x128 ![1] bcast_S128_S1x128_1 main_arg1
  let main_v10 : FVec F S65536x128 .f32 := broadcastInDim S65536x128 ![0, 1] bcast_S1x128_S65536x128_0_1 main_v9
  let main_v11 : FVec F S65536x128 .f32 := mulf main_v8 main_v10
  let main_v12 : FVec F S1x128 .f32 := broadcastInDim S1x128 ![1] bcast_S128_S1x128_1 main_arg2
  let main_v13 : FVec F S65536x128 .f32 := broadcastInDim S65536x128 ![0, 1] bcast_S1x128_S65536x128_0_1 main_v12
  let main_v14 : FVec F S65536x128 .f32 := addf main_v11 main_v13
  let main_v15 : FVec F S65536x128 .f32 := Host.absf main_v14
  let main_cst_0 : FVec F S_ .f32 := constant S_ .f32 0x7F800000#32
  let main_v16 : FVec F S65536x128 .f32 := broadcastInDim S65536x128 ![] bcast_S_S65536x128 main_cst_0
  let main_v17 : IVec S65536x128 1 := cmpf .olt main_v15 main_v16
  let main_v18 : FVec F S65535 .f32 := (extractStridedSlice S65535 ![0] · slices_S65536_S65535_0) main_arg5
  let main_v19 : FVec F S65535 .f32 := (extractStridedSlice S65535 ![1] · slices_S65536_S65535_1) main_arg5
  let main_v20 : IVec S65535 1 := cmpf .ole main_v18 main_v19
  (main_v17, main_v20)
-- ==== Kernel.lean ====
abbrev S65536x128 : Shape := ⟨2, ![65536, 128]⟩
abbrev S128 : Shape := ⟨1, ![128]⟩
abbrev S65536 : Shape := ⟨1, ![65536]⟩
abbrev S65536x1 : Shape := ⟨2, ![65536, 1]⟩
abbrev S1x128 : Shape := ⟨2, ![1, 128]⟩
abbrev S32768x128 : Shape := ⟨2, ![32768, 128]⟩
abbrev S_ : Shape := ⟨0, ![]⟩
abbrev S64x1 : Shape := ⟨2, ![64, 1]⟩
abbrev S64x128 : Shape := ⟨2, ![64, 128]⟩
abbrev S8x8x128 : Shape := ⟨3, ![8, 8, 128]⟩
abbrev S8x7x128 : Shape := ⟨3, ![8, 7, 128]⟩
abbrev S8x1x128 : Shape := ⟨3, ![8, 1, 128]⟩
abbrev S8x8x1 : Shape := ⟨3, ![8, 8, 1]⟩
abbrev S8x6x128 : Shape := ⟨3, ![8, 6, 128]⟩
abbrev S8x2x128 : Shape := ⟨3, ![8, 2, 128]⟩
abbrev S8x4x128 : Shape := ⟨3, ![8, 4, 128]⟩
abbrev S56x128 : Shape := ⟨2, ![56, 128]⟩
abbrev S8x128 : Shape := ⟨2, ![8, 128]⟩
abbrev S48x128 : Shape := ⟨2, ![48, 128]⟩
abbrev S16x128 : Shape := ⟨2, ![16, 128]⟩
abbrev S32x128 : Shape := ⟨2, ![32, 128]⟩
abbrev S2x2048x128 : Shape := ⟨3, ![2, 2048, 128]⟩
abbrev S2x2 : Shape := ⟨2, ![2, 2]⟩
abbrev S1x1 : Shape := ⟨2, ![1, 1]⟩
abbrev S1x2048x128 : Shape := ⟨3, ![1, 2048, 128]⟩
abbrev S2048x128 : Shape := ⟨2, ![2048, 128]⟩
abbrev S1x64x128 : Shape := ⟨3, ![1, 64, 128]⟩

abbrev nBuf : Space → Nat
  | .hbm => 15
  | .vmem => 10
  | .smem => 0
  | _ => 0

abbrev bufTy : (tb : Table) → Fin (tcTables nBuf tb) → BufTy
  | .hbm, ⟨0, _⟩ => ⟨S65536x128, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S65536, .f32⟩
  | .hbm, ⟨6, _⟩ => ⟨S65536x1, .f32⟩
  | .hbm, ⟨7, _⟩ => ⟨S65536x128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S65536x128, .f32⟩
  | .hbm, ⟨13, _⟩ => ⟨S65536x128, .f32⟩
  | .hbm, ⟨14, _⟩ => ⟨S65536x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S32768x128, .f32⟩
  | .local _ .vmem, ⟨5, _⟩ => ⟨S32768x128, .f32⟩
  | .local _ .vmem, ⟨6, _⟩ => ⟨S32768x128, .f32⟩
  | .local _ .vmem, ⟨7, _⟩ => ⟨S32768x128, .f32⟩
  | .local _ .vmem, ⟨8, _⟩ => ⟨S2x2048x128, .f32⟩
  | .local _ .vmem, ⟨9, _⟩ => ⟨S2x2048x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc1_scratch0 : Ref sig .tc := ⟨.vmem, 6, rfl⟩
abbrev cc1_scratch1 : Ref sig .tc := ⟨.vmem, 7, rfl⟩
abbrev cc1_scratch2 : Ref sig .tc := ⟨.vmem, 8, rfl⟩
abbrev cc1_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![2], ![false]⟩

def k0_off1 (i : grid0.Coords) : Fin 2 → Nat :=
  let arg0 : BitVec 32 := BitVec.ofNat 32 (i 0).val
  let c32768_i32 : BitVec 32 := 32768#32
  let v0 : BitVec 32 := Scalar.muli arg0 c32768_i32
  let c0_i32 : BitVec 32 := 0#32
  ![v0.toNat, 0]
@[reducible] def k0_t1_loop : Scf.Loop 32 :=
  let c0_i32_10 : BitVec 32 := 0#32
  let c512_i32 : BitVec 32 := 512#32
  let v17 : BitVec 32 := Scalar.addi c0_i32_10 c512_i32
  let c1_i32 : BitVec 32 := 1#32
  ⟨c0_i32_10, v17, c1_i32⟩
def k0_off2 (k0_t1 : Fin k0_t1_loop.trips) : Fin 2 → Nat :=
  let c0_i32_10 : BitVec 32 := 0#32
  let c1_i32 : BitVec 32 := 1#32
  let arg13 : BitVec 32 := Scf.iv c0_i32_10 c1_i32 k0_t1
  let c64_i32 : BitVec 32 := 64#32
  let v52 : BitVec 32 := Scalar.muli arg13 c64_i32
  let v53 : Index := Scalar.indexCast v52
  let c0_132 : Index := 0#32
  ![v53.toNat, 0]
@[reducible] def k0_t2_loop : Scf.Loop 32 :=
  let c0_i32_12 : BitVec 32 := 0#32
  let c256_i32 : BitVec 32 := 256#32
  let v18 : BitVec 32 := Scalar.addi c0_i32_12 c256_i32
  let c1_i32_13 : BitVec 32 := 1#32
  ⟨c0_i32_12, v18, c1_i32_13⟩
def k0_off3 (k0_t2 : Fin k0_t2_loop.trips) : Fin 2 → Nat :=
  let c0_i32_12 : BitVec 32 := 0#32
  let c1_i32_13 : BitVec 32 := 1#32
  let arg13 : BitVec 32 := Scf.iv c0_i32_12 c1_i32_13 k0_t2
  let c0_i32_133 : BitVec 32 := 0#32
  let v53 : BitVec 32 := Scalar.shrsi arg13 c0_i32_133
  let c128_i32 : BitVec 32 := 128#32
  let v54 : BitVec 32 := Scalar.muli v53 c128_i32
  let c0_i32_132 : BitVec 32 := 0#32
  let v52 : BitVec 32 := Scalar.andi arg13 c0_i32_132
  let c64_i32 : BitVec 32 := 64#32
  let v55 : BitVec 32 := Scalar.muli v52 c64_i32
  let v56 : BitVec 32 := Scalar.addi v54 v55
  let v61 : Index := Scalar.indexCast v56
  let c0_137 : Index := 0#32
  ![v61.toNat, 0]
def k0_off4 (k0_t2 : Fin k0_t2_loop.trips) : Fin 2 → Nat :=
  let c0_i32_12 : BitVec 32 := 0#32
  let c1_i32_13 : BitVec 32 := 1#32
  let arg13 : BitVec 32 := Scf.iv c0_i32_12 c1_i32_13 k0_t2
  let c0_i32_133 : BitVec 32 := 0#32
  let v53 : BitVec 32 := Scalar.shrsi arg13 c0_i32_133
  let c128_i32 : BitVec 32 := 128#32
  let v54 : BitVec 32 := Scalar.muli v53 c128_i32
  let c0_i32_132 : BitVec 32 := 0#32
  let v52 : BitVec 32 := Scalar.andi arg13 c0_i32_132
  let c64_i32 : BitVec 32 := 64#32
  let v55 : BitVec 32 := Scalar.muli v52 c64_i32
  let v56 : BitVec 32 := Scalar.addi v54 v55
  let c64_i32_134 : BitVec 32 := 64#32
  let v57 : BitVec 32 := Scalar.addi v56 c64_i32_134
  let v63 : Index := Scalar.indexCast v57
  let c0_138 : Index := 0#32
  ![v63.toNat, 0]
@[reducible] def k0_t3_loop : Scf.Loop 32 :=
  let c0_i32_15 : BitVec 32 := 0#32
  let c256_i32_16 : BitVec 32 := 256#32
  let v19 : BitVec 32 := Scalar.addi c0_i32_15 c256_i32_16
  let c1_i32_17 : BitVec 32 := 1#32
  ⟨c0_i32_15, v19, c1_i32_17⟩
def k0_off5 (k0_t3 : Fin k0_t3_loop.trips) : Fin 2 → Nat :=
  let c0_i32_15 : BitVec 32 := 0#32
  let c1_i32_17 : BitVec 32 := 1#32
  let arg13 : BitVec 32 := Scf.iv c0_i32_15 c1_i32_17 k0_t3
  let c1_i32_133 : BitVec 32 := 1#32
  let v53 : BitVec 32 := Scalar.shrsi arg13 c1_i32_133
  let c256_i32_134 : BitVec 32 := 256#32
  let v54 : BitVec 32 := Scalar.muli v53 c256_i32_134
  let c1_i32_132 : BitVec 32 := 1#32
  let v52 : BitVec 32 := Scalar.andi arg13 c1_i32_132
  let c64_i32 : BitVec 32 := 64#32
  let v55 : BitVec 32 := Scalar.muli v52 c64_i32
  let v56 : BitVec 32 := Scalar.addi v54 v55
  let v61 : Index := Scalar.indexCast v56
  let c0_137 : Index := 0#32
  ![v61.toNat, 0]
def k0_off6 (k0_t3 : Fin k0_t3_loop.trips) : Fin 2 → Nat :=
  let c0_i32_15 : BitVec 32 := 0#32
  let c1_i32_17 : BitVec 32 := 1#32
  let arg13 : BitVec 32 := Scf.iv c0_i32_15 c1_i32_17 k0_t3
  let c1_i32_133 : BitVec 32 := 1#32
  let v53 : BitVec 32 := Scalar.shrsi arg13 c1_i32_133
  let c256_i32_134 : BitVec 32 := 256#32
  let v54 : BitVec 32 := Scalar.muli v53 c256_i32_134
  let c1_i32_132 : BitVec 32 := 1#32
  let v52 : BitVec 32 := Scalar.andi arg13 c1_i32_132
  let c64_i32 : BitVec 32 := 64#32
  let v55 : BitVec 32 := Scalar.muli v52 c64_i32
  let v56 : BitVec 32 := Scalar.addi v54 v55
  let c128_i32 : BitVec 32 := 128#32
  let v57 : BitVec 32 := Scalar.addi v56 c128_i32
  let v63 : Index := Scalar.indexCast v57
  let c0_138 : Index := 0#32
  ![v63.toNat, 0]
@[reducible] def k0_t4_loop : Scf.Loop 32 :=
  let c0_i32_19 : BitVec 32 := 0#32
  let c256_i32_20 : BitVec 32 := 256#32
  let v20 : BitVec 32 := Scalar.addi c0_i32_19 c256_i32_20
  let c1_i32_21 : BitVec 32 := 1#32
  ⟨c0_i32_19, v20, c1_i32_21⟩
def k0_off7 (k0_t4 : Fin k0_t4_loop.trips) : Fin 2 → Nat :=
  let c0_i32_19 : BitVec 32 := 0#32
  let c1_i32_21 : BitVec 32 := 1#32
  let arg13 : BitVec 32 := Scf.iv c0_i32_19 c1_i32_21 k0_t4
  let c0_i32_133 : BitVec 32 := 0#32
  let v53 : BitVec 32 := Scalar.shrsi arg13 c0_i32_133
  let c128_i32 : BitVec 32 := 128#32
  let v54 : BitVec 32 := Scalar.muli v53 c128_i32
  let c0_i32_132 : BitVec 32 := 0#32
  let v52 : BitVec 32 := Scalar.andi arg13 c0_i32_132
  let c64_i32 : BitVec 32 := 64#32
  let v55 : BitVec 32 := Scalar.muli v52 c64_i32
  let v56 : BitVec 32 := Scalar.addi v54 v55
  let v61 : Index := Scalar.indexCast v56
  let c0_137 : Index := 0#32
  ![v61.toNat, 0]
def k0_off8 (k0_t4 : Fin k0_t4_loop.trips) : Fin 2 → Nat :=
  let c0_i32_19 : BitVec 32 := 0#32
  let c1_i32_21 : BitVec 32 := 1#32
  let arg13 : BitVec 32 := Scf.iv c0_i32_19 c1_i32_21 k0_t4
  let c0_i32_133 : BitVec 32 := 0#32
  let v53 : BitVec 32 := Scalar.shrsi arg13 c0_i32_133
  let c128_i32 : BitVec 32 := 128#32
  let v54 : BitVec 32 := Scalar.muli v53 c128_i32
  let c0_i32_132 : BitVec 32 := 0#32
  let v52 : BitVec 32 := Scalar.andi arg13 c0_i32_132
  let c64_i32 : BitVec 32 := 64#32
  let v55 : BitVec 32 := Scalar.muli v52 c64_i32
  let v56 : BitVec 32 := Scalar.addi v54 v55
  let c64_i32_134 : BitVec 32 := 64#32
  let v57 : BitVec 32 := Scalar.addi v56 c64_i32_134
  let v63 : Index := Scalar.indexCast v57
  let c0_138 : Index := 0#32
  ![v63.toNat, 0]
@[reducible] def k0_t5_loop : Scf.Loop 32 :=
  let c0_i32_23 : BitVec 32 := 0#32
  let c256_i32_24 : BitVec 32 := 256#32
  let v21 : BitVec 32 := Scalar.addi c0_i32_23 c256_i32_24
  let c1_i32_25 : BitVec 32 := 1#32
  ⟨c0_i32_23, v21, c1_i32_25⟩
def k0_off9 (k0_t5 : Fin k0_t5_loop.trips) : Fin 2 → Nat :=
  let c0_i32_23 : BitVec 32 := 0#32
  let c1_i32_25 : BitVec 32 := 1#32
  let arg13 : BitVec 32 := Scf.iv c0_i32_23 c1_i32_25 k0_t5
  let c2_i32 : BitVec 32 := 2#32
  let v53 : BitVec 32 := Scalar.shrsi arg13 c2_i32
  let c512_i32_132 : BitVec 32 := 512#32
  let v54 : BitVec 32 := Scalar.muli v53 c512_i32_132
  let c3_i32 : BitVec 32 := 3#32
  let v52 : BitVec 32 := Scalar.andi arg13 c3_i32
  let c32_i32 : BitVec 32 := 32#32
  let v55 : BitVec 32 := Scalar.muli v52 c32_i32
  let v56 : BitVec 32 := Scalar.addi v54 v55
  let v64 : Index := Scalar.indexCast v56
  let c0_138 : Index := 0#32
  ![v64.toNat, 0]
def k0_off10 (k0_t5 : Fin k0_t5_loop.trips) (c128_i32 : BitVec 32) : Fin 2 → Nat :=
  let c0_i32_23 : BitVec 32 := 0#32
  let c1_i32_25 : BitVec 32 := 1#32
  let arg13 : BitVec 32 := Scf.iv c0_i32_23 c1_i32_25 k0_t5
  let c2_i32 : BitVec 32 := 2#32
  let v53 : BitVec 32 := Scalar.shrsi arg13 c2_i32
  let c512_i32_132 : BitVec 32 := 512#32
  let v54 : BitVec 32 := Scalar.muli v53 c512_i32_132
  let c3_i32 : BitVec 32 := 3#32
  let v52 : BitVec 32 := Scalar.andi arg13 c3_i32
  let c32_i32 : BitVec 32 := 32#32
  let v55 : BitVec 32 := Scalar.muli v52 c32_i32
  let v56 : BitVec 32 := Scalar.addi v54 v55
  let v60 : BitVec 32 := Scalar.addi v56 c128_i32
  let v66 : Index := Scalar.indexCast v60
  let c0_139 : Index := 0#32
  ![v66.toNat, 0]
def k0_off11 (k0_t5 : Fin k0_t5_loop.trips) : Fin 2 → Nat :=
  let c0_i32_23 : BitVec 32 := 0#32
  let c1_i32_25 : BitVec 32 := 1#32
  let arg13 : BitVec 32 := Scf.iv c0_i32_23 c1_i32_25 k0_t5
  let c2_i32 : BitVec 32 := 2#32
  let v53 : BitVec 32 := Scalar.shrsi arg13 c2_i32
  let c512_i32_132 : BitVec 32 := 512#32
  let v54 : BitVec 32 := Scalar.muli v53 c512_i32_132
  let c3_i32 : BitVec 32 := 3#32
  let v52 : BitVec 32 := Scalar.andi arg13 c3_i32
  let c32_i32 : BitVec 32 := 32#32
  let v55 : BitVec 32 := Scalar.muli v52 c32_i32
  let v56 : BitVec 32 := Scalar.addi v54 v55
  let c256_i32_136 : BitVec 32 := 256#32
  let v62 : BitVec 32 := Scalar.addi v56 c256_i32_136
  let c128_i32_137 : BitVec 32 := 128#32
  let v63 : BitVec 32 := Scalar.addi v62 c128_i32_137
  let v70 : Index := Scalar.indexCast v63
  let c0_141 : Index := 0#32
  ![v70.toNat, 0]
@[reducible] def k0_t6_loop : Scf.Loop 32 :=
  let c0_i32_27 : BitVec 32 := 0#32
  let c256_i32_28 : BitVec 32 := 256#32
  let v22 : BitVec 32 := Scalar.addi c0_i32_27 c256_i32_28
  let c1_i32_29 : BitVec 32 := 1#32
  ⟨c0_i32_27, v22, c1_i32_29⟩
def k0_off12 (k0_t6 : Fin k0_t6_loop.trips) : Fin 2 → Nat :=
  let c0_i32_27 : BitVec 32 := 0#32
  let c1_i32_29 : BitVec 32 := 1#32
  let arg13 : BitVec 32 := Scf.iv c0_i32_27 c1_i32_29 k0_t6
  let c0_i32_133 : BitVec 32 := 0#32
  let v53 : BitVec 32 := Scalar.shrsi arg13 c0_i32_133
  let c128_i32 : BitVec 32 := 128#32
  let v54 : BitVec 32 := Scalar.muli v53 c128_i32
  let c0_i32_132 : BitVec 32 := 0#32
  let v52 : BitVec 32 := Scalar.andi arg13 c0_i32_132
  let c64_i32 : BitVec 32 := 64#32
  let v55 : BitVec 32 := Scalar.muli v52 c64_i32
  let v56 : BitVec 32 := Scalar.addi v54 v55
  let v61 : Index := Scalar.indexCast v56
  let c0_137 : Index := 0#32
  ![v61.toNat, 0]
def k0_off13 (k0_t6 : Fin k0_t6_loop.trips) : Fin 2 → Nat :=
  let c0_i32_27 : BitVec 32 := 0#32
  let c1_i32_29 : BitVec 32 := 1#32
  let arg13 : BitVec 32 := Scf.iv c0_i32_27 c1_i32_29 k0_t6
  let c0_i32_133 : BitVec 32 := 0#32
  let v53 : BitVec 32 := Scalar.shrsi arg13 c0_i32_133
  let c128_i32 : BitVec 32 := 128#32
  let v54 : BitVec 32 := Scalar.muli v53 c128_i32
  let c0_i32_132 : BitVec 32 := 0#32
  let v52 : BitVec 32 := Scalar.andi arg13 c0_i32_132
  let c64_i32 : BitVec 32 := 64#32
  let v55 : BitVec 32 := Scalar.muli v52 c64_i32
  let v56 : BitVec 32 := Scalar.addi v54 v55
  let c64_i32_134 : BitVec 32 := 64#32
  let v57 : BitVec 32 := Scalar.addi v56 c64_i32_134
  let v63 : Index := Scalar.indexCast v57
  let c0_138 : Index := 0#32
  ![v63.toNat, 0]
@[reducible] def k0_t7_loop : Scf.Loop 32 :=
  let c0_i32_31 : BitVec 32 := 0#32
  let c256_i32_32 : BitVec 32 := 256#32
  let v23 : BitVec 32 := Scalar.addi c0_i32_31 c256_i32_32
  let c1_i32_33 : BitVec 32 := 1#32
  ⟨c0_i32_31, v23, c1_i32_33⟩
def k0_off14 (k0_t7 : Fin k0_t7_loop.trips) : Fin 2 → Nat :=
  let c0_i32_31 : BitVec 32 := 0#32
  let c1_i32_33 : BitVec 32 := 1#32
  let arg13 : BitVec 32 := Scf.iv c0_i32_31 c1_i32_33 k0_t7
  let c3_i32 : BitVec 32 := 3#32
  let v53 : BitVec 32 := Scalar.shrsi arg13 c3_i32
  let c1024_i32 : BitVec 32 := 1024#32
  let v54 : BitVec 32 := Scalar.muli v53 c1024_i32
  let c7_i32 : BitVec 32 := 7#32
  let v52 : BitVec 32 := Scalar.andi arg13 c7_i32
  let c32_i32 : BitVec 32 := 32#32
  let v55 : BitVec 32 := Scalar.muli v52 c32_i32
  let v56 : BitVec 32 := Scalar.addi v54 v55
  let v64 : Index := Scalar.indexCast v56
  let c0_138 : Index := 0#32
  ![v64.toNat, 0]
def k0_off15 (k0_t7 : Fin k0_t7_loop.trips) (c256_i32_134 : BitVec 32) : Fin 2 → Nat :=
  let c0_i32_31 : BitVec 32 := 0#32
  let c1_i32_33 : BitVec 32 := 1#32
  let arg13 : BitVec 32 := Scf.iv c0_i32_31 c1_i32_33 k0_t7
  let c3_i32 : BitVec 32 := 3#32
  let v53 : BitVec 32 := Scalar.shrsi arg13 c3_i32
  let c1024_i32 : BitVec 32 := 1024#32
  let v54 : BitVec 32 := Scalar.muli v53 c1024_i32
  let c7_i32 : BitVec 32 := 7#32
  let v52 : BitVec 32 := Scalar.andi arg13 c7_i32
  let c32_i32 : BitVec 32 := 32#32
  let v55 : BitVec 32 := Scalar.muli v52 c32_i32
  let v56 : BitVec 32 := Scalar.addi v54 v55
  let v60 : BitVec 32 := Scalar.addi v56 c256_i32_134
  let v66 : Index := Scalar.indexCast v60
  let c0_139 : Index := 0#32
  ![v66.toNat, 0]
def k0_off16 (k0_t7 : Fin k0_t7_loop.trips) : Fin 2 → Nat :=
  let c0_i32_31 : BitVec 32 := 0#32
  let c1_i32_33 : BitVec 32 := 1#32
  let arg13 : BitVec 32 := Scf.iv c0_i32_31 c1_i32_33 k0_t7
  let c3_i32 : BitVec 32 := 3#32
  let v53 : BitVec 32 := Scalar.shrsi arg13 c3_i32
  let c1024_i32 : BitVec 32 := 1024#32
  let v54 : BitVec 32 := Scalar.muli v53 c1024_i32
  let c7_i32 : BitVec 32 := 7#32
  let v52 : BitVec 32 := Scalar.andi arg13 c7_i32
  let c32_i32 : BitVec 32 := 32#32
  let v55 : BitVec 32 := Scalar.muli v52 c32_i32
  let v56 : BitVec 32 := Scalar.addi v54 v55
  let c512_i32_136 : BitVec 32 := 512#32
  let v62 : BitVec 32 := Scalar.addi v56 c512_i32_136
  let c256_i32_137 : BitVec 32 := 256#32
  let v63 : BitVec 32 := Scalar.addi v62 c256_i32_137
  let v70 : Index := Scalar.indexCast v63
  let c0_141 : Index := 0#32
  ![v70.toNat, 0]
@[reducible] def k0_t8_loop : Scf.Loop 32 :=
  let c0_i32_35 : BitVec 32 := 0#32
  let c256_i32_36 : BitVec 32 := 256#32
  let v24 : BitVec 32 := Scalar.addi c0_i32_35 c256_i32_36
  let c1_i32_37 : BitVec 32 := 1#32
  ⟨c0_i32_35, v24, c1_i32_37⟩
def k0_off17 (k0_t8 : Fin k0_t8_loop.trips) : Fin 2 → Nat :=
  let c0_i32_35 : BitVec 32 := 0#32
  let c1_i32_37 : BitVec 32 := 1#32
  let arg13 : BitVec 32 := Scf.iv c0_i32_35 c1_i32_37 k0_t8
  let c1_i32_133 : BitVec 32 := 1#32
  let v53 : BitVec 32 := Scalar.shrsi arg13 c1_i32_133
  let c256_i32_134 : BitVec 32 := 256#32
  let v54 : BitVec 32 := Scalar.muli v53 c256_i32_134
  let c1_i32_132 : BitVec 32 := 1#32
  let v52 : BitVec 32 := Scalar.andi arg13 c1_i32_132
  let c64_i32 : BitVec 32 := 64#32
  let v55 : BitVec 32 := Scalar.muli v52 c64_i32
  let v56 : BitVec 32 := Scalar.addi v54 v55
  let v61 : Index := Scalar.indexCast v56
  let c0_136 : Index := 0#32
  ![v61.toNat, 0]
def k0_off18 (k0_t8 : Fin k0_t8_loop.trips) : Fin 2 → Nat :=
  let c0_i32_35 : BitVec 32 := 0#32
  let c1_i32_37 : BitVec 32 := 1#32
  let arg13 : BitVec 32 := Scf.iv c0_i32_35 c1_i32_37 k0_t8
  let c1_i32_133 : BitVec 32 := 1#32
  let v53 : BitVec 32 := Scalar.shrsi arg13 c1_i32_133
  let c256_i32_134 : BitVec 32 := 256#32
  let v54 : BitVec 32 := Scalar.muli v53 c256_i32_134
  let c1_i32_132 : BitVec 32 := 1#32
  let v52 : BitVec 32 := Scalar.andi arg13 c1_i32_132
  let c64_i32 : BitVec 32 := 64#32
  let v55 : BitVec 32 := Scalar.muli v52 c64_i32
  let v56 : BitVec 32 := Scalar.addi v54 v55
  let c128_i32 : BitVec 32 := 128#32
  let v57 : BitVec 32 := Scalar.addi v56 c128_i32
  let v63 : Index := Scalar.indexCast v57
  let c0_137 : Index := 0#32
  ![v63.toNat, 0]
@[reducible] def k0_t9_loop : Scf.Loop 32 :=
  let c0_i32_39 : BitVec 32 := 0#32
  let c256_i32_40 : BitVec 32 := 256#32
  let v25 : BitVec 32 := Scalar.addi c0_i32_39 c256_i32_40
  let c1_i32_41 : BitVec 32 := 1#32
  ⟨c0_i32_39, v25, c1_i32_41⟩
def k0_off19 (k0_t9 : Fin k0_t9_loop.trips) : Fin 2 → Nat :=
  let c0_i32_39 : BitVec 32 := 0#32
  let c1_i32_41 : BitVec 32 := 1#32
  let arg13 : BitVec 32 := Scf.iv c0_i32_39 c1_i32_41 k0_t9
  let c0_i32_133 : BitVec 32 := 0#32
  let v53 : BitVec 32 := Scalar.shrsi arg13 c0_i32_133
  let c128_i32 : BitVec 32 := 128#32
  let v54 : BitVec 32 := Scalar.muli v53 c128_i32
  let c0_i32_132 : BitVec 32 := 0#32
  let v52 : BitVec 32 := Scalar.andi arg13 c0_i32_132
  let c64_i32 : BitVec 32 := 64#32
  let v55 : BitVec 32 := Scalar.muli v52 c64_i32
  let v56 : BitVec 32 := Scalar.addi v54 v55
  let v61 : Index := Scalar.indexCast v56
  let c0_136 : Index := 0#32
  ![v61.toNat, 0]
def k0_off20 (k0_t9 : Fin k0_t9_loop.trips) : Fin 2 → Nat :=
  let c0_i32_39 : BitVec 32 := 0#32
  let c1_i32_41 : BitVec 32 := 1#32
  let arg13 : BitVec 32 := Scf.iv c0_i32_39 c1_i32_41 k0_t9
  let c0_i32_133 : BitVec 32 := 0#32
  let v53 : BitVec 32 := Scalar.shrsi arg13 c0_i32_133
  let c128_i32 : BitVec 32 := 128#32
  let v54 : BitVec 32 := Scalar.muli v53 c128_i32
  let c0_i32_132 : BitVec 32 := 0#32
  let v52 : BitVec 32 := Scalar.andi arg13 c0_i32_132
  let c64_i32 : BitVec 32 := 64#32
  let v55 : BitVec 32 := Scalar.muli v52 c64_i32
  let v56 : BitVec 32 := Scalar.addi v54 v55
  let c64_i32_134 : BitVec 32 := 64#32
  let v57 : BitVec 32 := Scalar.addi v56 c64_i32_134
  let v63 : Index := Scalar.indexCast v57
  let c0_137 : Index := 0#32
  ![v63.toNat, 0]
@[reducible] def k0_t10_loop : Scf.Loop 32 :=
  let c0_i32_43 : BitVec 32 := 0#32
  let c256_i32_44 : BitVec 32 := 256#32
  let v26 : BitVec 32 := Scalar.addi c0_i32_43 c256_i32_44
  let c1_i32_45 : BitVec 32 := 1#32
  ⟨c0_i32_43, v26, c1_i32_45⟩
def k0_off21 (k0_t10 : Fin k0_t10_loop.trips) : Fin 2 → Nat :=
  let c0_i32_43 : BitVec 32 := 0#32
  let c1_i32_45 : BitVec 32 := 1#32
  let arg13 : BitVec 32 := Scf.iv c0_i32_43 c1_i32_45 k0_t10
  let c4_i32 : BitVec 32 := 4#32
  let v53 : BitVec 32 := Scalar.shrsi arg13 c4_i32
  let c2048_i32 : BitVec 32 := 2048#32
  let v54 : BitVec 32 := Scalar.muli v53 c2048_i32
  let c15_i32 : BitVec 32 := 15#32
  let v52 : BitVec 32 := Scalar.andi arg13 c15_i32
  let c32_i32 : BitVec 32 := 32#32
  let v55 : BitVec 32 := Scalar.muli v52 c32_i32
  let v56 : BitVec 32 := Scalar.addi v54 v55
  let v64 : Index := Scalar.indexCast v56
  let c0_137 : Index := 0#32
  ![v64.toNat, 0]
def k0_off22 (k0_t10 : Fin k0_t10_loop.trips) (c512_i32_134 : BitVec 32) : Fin 2 → Nat :=
  let c0_i32_43 : BitVec 32 := 0#32
  let c1_i32_45 : BitVec 32 := 1#32
  let arg13 : BitVec 32 := Scf.iv c0_i32_43 c1_i32_45 k0_t10
  let c4_i32 : BitVec 32 := 4#32
  let v53 : BitVec 32 := Scalar.shrsi arg13 c4_i32
  let c2048_i32 : BitVec 32 := 2048#32
  let v54 : BitVec 32 := Scalar.muli v53 c2048_i32
  let c15_i32 : BitVec 32 := 15#32
  let v52 : BitVec 32 := Scalar.andi arg13 c15_i32
  let c32_i32 : BitVec 32 := 32#32
  let v55 : BitVec 32 := Scalar.muli v52 c32_i32
  let v56 : BitVec 32 := Scalar.addi v54 v55
  let v60 : BitVec 32 := Scalar.addi v56 c512_i32_134
  let v66 : Index := Scalar.indexCast v60
  let c0_138 : Index := 0#32
  ![v66.toNat, 0]
def k0_off23 (k0_t10 : Fin k0_t10_loop.trips) : Fin 2 → Nat :=
  let c0_i32_43 : BitVec 32 := 0#32
  let c1_i32_45 : BitVec 32 := 1#32
  let arg13 : BitVec 32 := Scf.iv c0_i32_43 c1_i32_45 k0_t10
  let c4_i32 : BitVec 32 := 4#32
  let v53 : BitVec 32 := Scalar.shrsi arg13 c4_i32
  let c2048_i32 : BitVec 32 := 2048#32
  let v54 : BitVec 32 := Scalar.muli v53 c2048_i32
  let c15_i32 : BitVec 32 := 15#32
  let v52 : BitVec 32 := Scalar.andi arg13 c15_i32
  let c32_i32 : BitVec 32 := 32#32
  let v55 : BitVec 32 := Scalar.muli v52 c32_i32
  let v56 : BitVec 32 := Scalar.addi v54 v55
  let c1024_i32_135 : BitVec 32 := 1024#32
  let v62 : BitVec 32 := Scalar.addi v56 c1024_i32_135
  let c512_i32_136 : BitVec 32 := 512#32
  let v63 : BitVec 32 := Scalar.addi v62 c512_i32_136
  let v70 : Index := Scalar.indexCast v63
  let c0_140 : Index := 0#32
  ![v70.toNat, 0]
@[reducible] def k0_t11_loop : Scf.Loop 32 :=
  let c0_i32_47 : BitVec 32 := 0#32
  let c256_i32_48 : BitVec 32 := 256#32
  let v27 : BitVec 32 := Scalar.addi c0_i32_47 c256_i32_48
  let c1_i32_49 : BitVec 32 := 1#32
  ⟨c0_i32_47, v27, c1_i32_49⟩
def k0_off24 (k0_t11 : Fin k0_t11_loop.trips) : Fin 2 → Nat :=
  let c0_i32_47 : BitVec 32 := 0#32
  let c1_i32_49 : BitVec 32 := 1#32
  let arg13 : BitVec 32 := Scf.iv c0_i32_47 c1_i32_49 k0_t11
  let c2_i32 : BitVec 32 := 2#32
  let v53 : BitVec 32 := Scalar.shrsi arg13 c2_i32
  let c512_i32_132 : BitVec 32 := 512#32
  let v54 : BitVec 32 := Scalar.muli v53 c512_i32_132
  let c3_i32 : BitVec 32 := 3#32
  let v52 : BitVec 32 := Scalar.andi arg13 c3_i32
  let c32_i32 : BitVec 32 := 32#32
  let v55 : BitVec 32 := Scalar.muli v52 c32_i32
  let v56 : BitVec 32 := Scalar.addi v54 v55
  let v64 : Index := Scalar.indexCast v56
  let c0_137 : Index := 0#32
  ![v64.toNat, 0]
def k0_off25 (k0_t11 : Fin k0_t11_loop.trips) (c128_i32 : BitVec 32) : Fin 2 → Nat :=
  let c0_i32_47 : BitVec 32 := 0#32
  let c1_i32_49 : BitVec 32 := 1#32
  let arg13 : BitVec 32 := Scf.iv c0_i32_47 c1_i32_49 k0_t11
  let c2_i32 : BitVec 32 := 2#32
  let v53 : BitVec 32 := Scalar.shrsi arg13 c2_i32
  let c512_i32_132 : BitVec 32 := 512#32
  let v54 : BitVec 32 := Scalar.muli v53 c512_i32_132
  let c3_i32 : BitVec 32 := 3#32
  let v52 : BitVec 32 := Scalar.andi arg13 c3_i32
  let c32_i32 : BitVec 32 := 32#32
  let v55 : BitVec 32 := Scalar.muli v52 c32_i32
  let v56 : BitVec 32 := Scalar.addi v54 v55
  let v60 : BitVec 32 := Scalar.addi v56 c128_i32
  let v66 : Index := Scalar.indexCast v60
  let c0_138 : Index := 0#32
  ![v66.toNat, 0]
def k0_off26 (k0_t11 : Fin k0_t11_loop.trips) : Fin 2 → Nat :=
  let c0_i32_47 : BitVec 32 := 0#32
  let c1_i32_49 : BitVec 32 := 1#32
  let arg13 : BitVec 32 := Scf.iv c0_i32_47 c1_i32_49 k0_t11
  let c2_i32 : BitVec 32 := 2#32
  let v53 : BitVec 32 := Scalar.shrsi arg13 c2_i32
  let c512_i32_132 : BitVec 32 := 512#32
  let v54 : BitVec 32 := Scalar.muli v53 c512_i32_132
  let c3_i32 : BitVec 32 := 3#32
  let v52 : BitVec 32 := Scalar.andi arg13 c3_i32
  let c32_i32 : BitVec 32 := 32#32
  let v55 : BitVec 32 := Scalar.muli v52 c32_i32
  let v56 : BitVec 32 := Scalar.addi v54 v55
  let c256_i32_135 : BitVec 32 := 256#32
  let v62 : BitVec 32 := Scalar.addi v56 c256_i32_135
  let c128_i32_136 : BitVec 32 := 128#32
  let v63 : BitVec 32 := Scalar.addi v62 c128_i32_136
  let v70 : Index := Scalar.indexCast v63
  let c0_140 : Index := 0#32
  ![v70.toNat, 0]
@[reducible] def k0_t12_loop : Scf.Loop 32 :=
  let c0_i32_51 : BitVec 32 := 0#32
  let c256_i32_52 : BitVec 32 := 256#32
  let v28 : BitVec 32 := Scalar.addi c0_i32_51 c256_i32_52
  let c1_i32_53 : BitVec 32 := 1#32
  ⟨c0_i32_51, v28, c1_i32_53⟩
def k0_off27 (k0_t12 : Fin k0_t12_loop.trips) : Fin 2 → Nat :=
  let c0_i32_51 : BitVec 32 := 0#32
  let c1_i32_53 : BitVec 32 := 1#32
  let arg13 : BitVec 32 := Scf.iv c0_i32_51 c1_i32_53 k0_t12
  let c0_i32_133 : BitVec 32 := 0#32
  let v53 : BitVec 32 := Scalar.shrsi arg13 c0_i32_133
  let c128_i32 : BitVec 32 := 128#32
  let v54 : BitVec 32 := Scalar.muli v53 c128_i32
  let c0_i32_132 : BitVec 32 := 0#32
  let v52 : BitVec 32 := Scalar.andi arg13 c0_i32_132
  let c64_i32 : BitVec 32 := 64#32
  let v55 : BitVec 32 := Scalar.muli v52 c64_i32
  let v56 : BitVec 32 := Scalar.addi v54 v55
  let v61 : Index := Scalar.indexCast v56
  let c0_136 : Index := 0#32
  ![v61.toNat, 0]
def k0_off28 (k0_t12 : Fin k0_t12_loop.trips) : Fin 2 → Nat :=
  let c0_i32_51 : BitVec 32 := 0#32
  let c1_i32_53 : BitVec 32 := 1#32
  let arg13 : BitVec 32 := Scf.iv c0_i32_51 c1_i32_53 k0_t12
  let c0_i32_133 : BitVec 32 := 0#32
  let v53 : BitVec 32 := Scalar.shrsi arg13 c0_i32_133
  let c128_i32 : BitVec 32 := 128#32
  let v54 : BitVec 32 := Scalar.muli v53 c128_i32
  let c0_i32_132 : BitVec 32 := 0#32
  let v52 : BitVec 32 := Scalar.andi arg13 c0_i32_132
  let c64_i32 : BitVec 32 := 64#32
  let v55 : BitVec 32 := Scalar.muli v52 c64_i32
  let v56 : BitVec 32 := Scalar.addi v54 v55
  let c64_i32_134 : BitVec 32 := 64#32
  let v57 : BitVec 32 := Scalar.addi v56 c64_i32_134
  let v63 : Index := Scalar.indexCast v57
  let c0_137 : Index := 0#32
  ![v63.toNat, 0]
@[reducible] def k0_t13_loop : Scf.Loop 32 :=
  let c0_i32_55 : BitVec 32 := 0#32
  let c256_i32_56 : BitVec 32 := 256#32
  let v29 : BitVec 32 := Scalar.addi c0_i32_55 c256_i32_56
  let c1_i32_57 : BitVec 32 := 1#32
  ⟨c0_i32_55, v29, c1_i32_57⟩
def k0_off29 (k0_t13 : Fin k0_t13_loop.trips) : Fin 2 → Nat :=
  let c0_i32_55 : BitVec 32 := 0#32
  let c1_i32_57 : BitVec 32 := 1#32
  let arg13 : BitVec 32 := Scf.iv c0_i32_55 c1_i32_57 k0_t13
  let c5_i32 : BitVec 32 := 5#32
  let v53 : BitVec 32 := Scalar.shrsi arg13 c5_i32
  let c4096_i32 : BitVec 32 := 4096#32
  let v54 : BitVec 32 := Scalar.muli v53 c4096_i32
  let c31_i32 : BitVec 32 := 31#32
  let v52 : BitVec 32 := Scalar.andi arg13 c31_i32
  let c32_i32 : BitVec 32 := 32#32
  let v55 : BitVec 32 := Scalar.muli v52 c32_i32
  let v56 : BitVec 32 := Scalar.addi v54 v55
  let v64 : Index := Scalar.indexCast v56
  let c0_136 : Index := 0#32
  ![v64.toNat, 0]
def k0_off30 (k0_t13 : Fin k0_t13_loop.trips) (c1024_i32 : BitVec 32) : Fin 2 → Nat :=
  let c0_i32_55 : BitVec 32 := 0#32
  let c1_i32_57 : BitVec 32 := 1#32
  let arg13 : BitVec 32 := Scf.iv c0_i32_55 c1_i32_57 k0_t13
  let c5_i32 : BitVec 32 := 5#32
  let v53 : BitVec 32 := Scalar.shrsi arg13 c5_i32
  let c4096_i32 : BitVec 32 := 4096#32
  let v54 : BitVec 32 := Scalar.muli v53 c4096_i32
  let c31_i32 : BitVec 32 := 31#32
  let v52 : BitVec 32 := Scalar.andi arg13 c31_i32
  let c32_i32 : BitVec 32 := 32#32
  let v55 : BitVec 32 := Scalar.muli v52 c32_i32
  let v56 : BitVec 32 := Scalar.addi v54 v55
  let v60 : BitVec 32 := Scalar.addi v56 c1024_i32
  let v66 : Index := Scalar.indexCast v60
  let c0_137 : Index := 0#32
  ![v66.toNat, 0]
def k0_off31 (k0_t13 : Fin k0_t13_loop.trips) : Fin 2 → Nat :=
  let c0_i32_55 : BitVec 32 := 0#32
  let c1_i32_57 : BitVec 32 := 1#32
  let arg13 : BitVec 32 := Scf.iv c0_i32_55 c1_i32_57 k0_t13
  let c5_i32 : BitVec 32 := 5#32
  let v53 : BitVec 32 := Scalar.shrsi arg13 c5_i32
  let c4096_i32 : BitVec 32 := 4096#32
  let v54 : BitVec 32 := Scalar.muli v53 c4096_i32
  let c31_i32 : BitVec 32 := 31#32
  let v52 : BitVec 32 := Scalar.andi arg13 c31_i32
  let c32_i32 : BitVec 32 := 32#32
  let v55 : BitVec 32 := Scalar.muli v52 c32_i32
  let v56 : BitVec 32 := Scalar.addi v54 v55
  let c2048_i32_134 : BitVec 32 := 2048#32
  let v62 : BitVec 32 := Scalar.addi v56 c2048_i32_134
  let c1024_i32_135 : BitVec 32 := 1024#32
  let v63 : BitVec 32 := Scalar.addi v62 c1024_i32_135
  let v70 : Index := Scalar.indexCast v63
  let c0_139 : Index := 0#32
  ![v70.toNat, 0]
@[reducible] def k0_t14_loop : Scf.Loop 32 :=
  let c0_i32_59 : BitVec 32 := 0#32
  let c256_i32_60 : BitVec 32 := 256#32
  let v30 : BitVec 32 := Scalar.addi c0_i32_59 c256_i32_60
  let c1_i32_61 : BitVec 32 := 1#32
  ⟨c0_i32_59, v30, c1_i32_61⟩
def k0_off32 (k0_t14 : Fin k0_t14_loop.trips) : Fin 2 → Nat :=
  let c0_i32_59 : BitVec 32 := 0#32
  let c1_i32_61 : BitVec 32 := 1#32
  let arg13 : BitVec 32 := Scf.iv c0_i32_59 c1_i32_61 k0_t14
  let c3_i32 : BitVec 32 := 3#32
  let v53 : BitVec 32 := Scalar.shrsi arg13 c3_i32
  let c1024_i32 : BitVec 32 := 1024#32
  let v54 : BitVec 32 := Scalar.muli v53 c1024_i32
  let c7_i32 : BitVec 32 := 7#32
  let v52 : BitVec 32 := Scalar.andi arg13 c7_i32
  let c32_i32 : BitVec 32 := 32#32
  let v55 : BitVec 32 := Scalar.muli v52 c32_i32
  let v56 : BitVec 32 := Scalar.addi v54 v55
  let v64 : Index := Scalar.indexCast v56
  let c0_137 : Index := 0#32
  ![v64.toNat, 0]
def k0_off33 (k0_t14 : Fin k0_t14_loop.trips) (c256_i32_133 : BitVec 32) : Fin 2 → Nat :=
  let c0_i32_59 : BitVec 32 := 0#32
  let c1_i32_61 : BitVec 32 := 1#32
  let arg13 : BitVec 32 := Scf.iv c0_i32_59 c1_i32_61 k0_t14
  let c3_i32 : BitVec 32 := 3#32
  let v53 : BitVec 32 := Scalar.shrsi arg13 c3_i32
  let c1024_i32 : BitVec 32 := 1024#32
  let v54 : BitVec 32 := Scalar.muli v53 c1024_i32
  let c7_i32 : BitVec 32 := 7#32
  let v52 : BitVec 32 := Scalar.andi arg13 c7_i32
  let c32_i32 : BitVec 32 := 32#32
  let v55 : BitVec 32 := Scalar.muli v52 c32_i32
  let v56 : BitVec 32 := Scalar.addi v54 v55
  let v60 : BitVec 32 := Scalar.addi v56 c256_i32_133
  let v66 : Index := Scalar.indexCast v60
  let c0_138 : Index := 0#32
  ![v66.toNat, 0]
def k0_off34 (k0_t14 : Fin k0_t14_loop.trips) : Fin 2 → Nat :=
  let c0_i32_59 : BitVec 32 := 0#32
  let c1_i32_61 : BitVec 32 := 1#32
  let arg13 : BitVec 32 := Scf.iv c0_i32_59 c1_i32_61 k0_t14
  let c3_i32 : BitVec 32 := 3#32
  let v53 : BitVec 32 := Scalar.shrsi arg13 c3_i32
  let c1024_i32 : BitVec 32 := 1024#32
  let v54 : BitVec 32 := Scalar.muli v53 c1024_i32
  let c7_i32 : BitVec 32 := 7#32
  let v52 : BitVec 32 := Scalar.andi arg13 c7_i32
  let c32_i32 : BitVec 32 := 32#32
  let v55 : BitVec 32 := Scalar.muli v52 c32_i32
  let v56 : BitVec 32 := Scalar.addi v54 v55
  let c512_i32_135 : BitVec 32 := 512#32
  let v62 : BitVec 32 := Scalar.addi v56 c512_i32_135
  let c256_i32_136 : BitVec 32 := 256#32
  let v63 : BitVec 32 := Scalar.addi v62 c256_i32_136
  let v70 : Index := Scalar.indexCast v63
  let c0_140 : Index := 0#32
  ![v70.toNat, 0]
@[reducible] def k0_t15_loop : Scf.Loop 32 :=
  let c0_i32_63 : BitVec 32 := 0#32
  let c256_i32_64 : BitVec 32 := 256#32
  let v31 : BitVec 32 := Scalar.addi c0_i32_63 c256_i32_64
  let c1_i32_65 : BitVec 32 := 1#32
  ⟨c0_i32_63, v31, c1_i32_65⟩
def k0_off35 (k0_t15 : Fin k0_t15_loop.trips) : Fin 2 → Nat :=
  let c0_i32_63 : BitVec 32 := 0#32
  let c1_i32_65 : BitVec 32 := 1#32
  let arg13 : BitVec 32 := Scf.iv c0_i32_63 c1_i32_65 k0_t15
  let c1_i32_133 : BitVec 32 := 1#32
  let v53 : BitVec 32 := Scalar.shrsi arg13 c1_i32_133
  let c256_i32_134 : BitVec 32 := 256#32
  let v54 : BitVec 32 := Scalar.muli v53 c256_i32_134
  let c1_i32_132 : BitVec 32 := 1#32
  let v52 : BitVec 32 := Scalar.andi arg13 c1_i32_132
  let c64_i32 : BitVec 32 := 64#32
  let v55 : BitVec 32 := Scalar.muli v52 c64_i32
  let v56 : BitVec 32 := Scalar.addi v54 v55
  let v61 : Index := Scalar.indexCast v56
  let c0_136 : Index := 0#32
  ![v61.toNat, 0]
def k0_off36 (k0_t15 : Fin k0_t15_loop.trips) : Fin 2 → Nat :=
  let c0_i32_63 : BitVec 32 := 0#32
  let c1_i32_65 : BitVec 32 := 1#32
  let arg13 : BitVec 32 := Scf.iv c0_i32_63 c1_i32_65 k0_t15
  let c1_i32_133 : BitVec 32 := 1#32
  let v53 : BitVec 32 := Scalar.shrsi arg13 c1_i32_133
  let c256_i32_134 : BitVec 32 := 256#32
  let v54 : BitVec 32 := Scalar.muli v53 c256_i32_134
  let c1_i32_132 : BitVec 32 := 1#32
  let v52 : BitVec 32 := Scalar.andi arg13 c1_i32_132
  let c64_i32 : BitVec 32 := 64#32
  let v55 : BitVec 32 := Scalar.muli v52 c64_i32
  let v56 : BitVec 32 := Scalar.addi v54 v55
  let c128_i32 : BitVec 32 := 128#32
  let v57 : BitVec 32 := Scalar.addi v56 c128_i32
  let v63 : Index := Scalar.indexCast v57
  let c0_137 : Index := 0#32
  ![v63.toNat, 0]
@[reducible] def k0_t16_loop : Scf.Loop 32 :=
  let c0_i32_67 : BitVec 32 := 0#32
  let c256_i32_68 : BitVec 32 := 256#32
  let v32 : BitVec 32 := Scalar.addi c0_i32_67 c256_i32_68
  let c1_i32_69 : BitVec 32 := 1#32
  ⟨c0_i32_67, v32, c1_i32_69⟩
def k0_off37 (k0_t16 : Fin k0_t16_loop.trips) : Fin 2 → Nat :=
  let c0_i32_67 : BitVec 32 := 0#32
  let c1_i32_69 : BitVec 32 := 1#32
  let arg13 : BitVec 32 := Scf.iv c0_i32_67 c1_i32_69 k0_t16
  let c0_i32_133 : BitVec 32 := 0#32
  let v53 : BitVec 32 := Scalar.shrsi arg13 c0_i32_133
  let c128_i32 : BitVec 32 := 128#32
  let v54 : BitVec 32 := Scalar.muli v53 c128_i32
  let c0_i32_132 : BitVec 32 := 0#32
  let v52 : BitVec 32 := Scalar.andi arg13 c0_i32_132
  let c64_i32 : BitVec 32 := 64#32
  let v55 : BitVec 32 := Scalar.muli v52 c64_i32
  let v56 : BitVec 32 := Scalar.addi v54 v55
  let v61 : Index := Scalar.indexCast v56
  let c0_136 : Index := 0#32
  ![v61.toNat, 0]
def k0_off38 (k0_t16 : Fin k0_t16_loop.trips) : Fin 2 → Nat :=
  let c0_i32_67 : BitVec 32 := 0#32
  let c1_i32_69 : BitVec 32 := 1#32
  let arg13 : BitVec 32 := Scf.iv c0_i32_67 c1_i32_69 k0_t16
  let c0_i32_133 : BitVec 32 := 0#32
  let v53 : BitVec 32 := Scalar.shrsi arg13 c0_i32_133
  let c128_i32 : BitVec 32 := 128#32
  let v54 : BitVec 32 := Scalar.muli v53 c128_i32
  let c0_i32_132 : BitVec 32 := 0#32
  let v52 : BitVec 32 := Scalar.andi arg13 c0_i32_132
  let c64_i32 : BitVec 32 := 64#32
  let v55 : BitVec 32 := Scalar.muli v52 c64_i32
  let v56 : BitVec 32 := Scalar.addi v54 v55
  let c64_i32_134 : BitVec 32 := 64#32
  let v57 : BitVec 32 := Scalar.addi v56 c64_i32_134
  let v63 : Index := Scalar.indexCast v57
  let c0_137 : Index := 0#32
  ![v63.toNat, 0]
@[reducible] def k0_t17_loop : Scf.Loop 32 :=
  let c0_i32_71 : BitVec 32 := 0#32
  let c256_i32_72 : BitVec 32 := 256#32
  let v33 : BitVec 32 := Scalar.addi c0_i32_71 c256_i32_72
  let c1_i32_73 : BitVec 32 := 1#32
  ⟨c0_i32_71, v33, c1_i32_73⟩
def k0_off39 (k0_t17 : Fin k0_t17_loop.trips) : Fin 2 → Nat :=
  let c0_i32_71 : BitVec 32 := 0#32
  let c1_i32_73 : BitVec 32 := 1#32
  let arg13 : BitVec 32 := Scf.iv c0_i32_71 c1_i32_73 k0_t17
  let c6_i32 : BitVec 32 := 6#32
  let v53 : BitVec 32 := Scalar.shrsi arg13 c6_i32
  let c8192_i32 : BitVec 32 := 8192#32
  let v54 : BitVec 32 := Scalar.muli v53 c8192_i32
  let c63_i32 : BitVec 32 := 63#32
  let v52 : BitVec 32 := Scalar.andi arg13 c63_i32
  let c32_i32 : BitVec 32 := 32#32
  let v55 : BitVec 32 := Scalar.muli v52 c32_i32
  let v56 : BitVec 32 := Scalar.addi v54 v55
  let v64 : Index := Scalar.indexCast v56
  let c0_136 : Index := 0#32
  ![v64.toNat, 0]
def k0_off40 (k0_t17 : Fin k0_t17_loop.trips) (c2048_i32 : BitVec 32) : Fin 2 → Nat :=
  let c0_i32_71 : BitVec 32 := 0#32
  let c1_i32_73 : BitVec 32 := 1#32
  let arg13 : BitVec 32 := Scf.iv c0_i32_71 c1_i32_73 k0_t17
  let c6_i32 : BitVec 32 := 6#32
  let v53 : BitVec 32 := Scalar.shrsi arg13 c6_i32
  let c8192_i32 : BitVec 32 := 8192#32
  let v54 : BitVec 32 := Scalar.muli v53 c8192_i32
  let c63_i32 : BitVec 32 := 63#32
  let v52 : BitVec 32 := Scalar.andi arg13 c63_i32
  let c32_i32 : BitVec 32 := 32#32
  let v55 : BitVec 32 := Scalar.muli v52 c32_i32
  let v56 : BitVec 32 := Scalar.addi v54 v55
  let v60 : BitVec 32 := Scalar.addi v56 c2048_i32
  let v66 : Index := Scalar.indexCast v60
  let c0_137 : Index := 0#32
  ![v66.toNat, 0]
def k0_off41 (k0_t17 : Fin k0_t17_loop.trips) : Fin 2 → Nat :=
  let c0_i32_71 : BitVec 32 := 0#32
  let c1_i32_73 : BitVec 32 := 1#32
  let arg13 : BitVec 32 := Scf.iv c0_i32_71 c1_i32_73 k0_t17
  let c6_i32 : BitVec 32 := 6#32
  let v53 : BitVec 32 := Scalar.shrsi arg13 c6_i32
  let c8192_i32 : BitVec 32 := 8192#32
  let v54 : BitVec 32 := Scalar.muli v53 c8192_i32
  let c63_i32 : BitVec 32 := 63#32
  let v52 : BitVec 32 := Scalar.andi arg13 c63_i32
  let c32_i32 : BitVec 32 := 32#32
  let v55 : BitVec 32 := Scalar.muli v52 c32_i32
  let v56 : BitVec 32 := Scalar.addi v54 v55
  let c4096_i32_134 : BitVec 32 := 4096#32
  let v62 : BitVec 32 := Scalar.addi v56 c4096_i32_134
  let c2048_i32_135 : BitVec 32 := 2048#32
  let v63 : BitVec 32 := Scalar.addi v62 c2048_i32_135
  let v70 : Index := Scalar.indexCast v63
  let c0_139 : Index := 0#32
  ![v70.toNat, 0]
@[reducible] def k0_t18_loop : Scf.Loop 32 :=
  let c0_i32_75 : BitVec 32 := 0#32
  let c256_i32_76 : BitVec 32 := 256#32
  let v34 : BitVec 32 := Scalar.addi c0_i32_75 c256_i32_76
  let c1_i32_77 : BitVec 32 := 1#32
  ⟨c0_i32_75, v34, c1_i32_77⟩
def k0_off42 (k0_t18 : Fin k0_t18_loop.trips) : Fin 2 → Nat :=
  let c0_i32_75 : BitVec 32 := 0#32
  let c1_i32_77 : BitVec 32 := 1#32
  let arg13 : BitVec 32 := Scf.iv c0_i32_75 c1_i32_77 k0_t18
  let c4_i32 : BitVec 32 := 4#32
  let v53 : BitVec 32 := Scalar.shrsi arg13 c4_i32
  let c2048_i32 : BitVec 32 := 2048#32
  let v54 : BitVec 32 := Scalar.muli v53 c2048_i32
  let c15_i32 : BitVec 32 := 15#32
  let v52 : BitVec 32 := Scalar.andi arg13 c15_i32
  let c32_i32 : BitVec 32 := 32#32
  let v55 : BitVec 32 := Scalar.muli v52 c32_i32
  let v56 : BitVec 32 := Scalar.addi v54 v55
  let v64 : Index := Scalar.indexCast v56
  let c0_136 : Index := 0#32
  ![v64.toNat, 0]
def k0_off43 (k0_t18 : Fin k0_t18_loop.trips) (c512_i32_133 : BitVec 32) : Fin 2 → Nat :=
  let c0_i32_75 : BitVec 32 := 0#32
  let c1_i32_77 : BitVec 32 := 1#32
  let arg13 : BitVec 32 := Scf.iv c0_i32_75 c1_i32_77 k0_t18
  let c4_i32 : BitVec 32 := 4#32
  let v53 : BitVec 32 := Scalar.shrsi arg13 c4_i32
  let c2048_i32 : BitVec 32 := 2048#32
  let v54 : BitVec 32 := Scalar.muli v53 c2048_i32
  let c15_i32 : BitVec 32 := 15#32
  let v52 : BitVec 32 := Scalar.andi arg13 c15_i32
  let c32_i32 : BitVec 32 := 32#32
  let v55 : BitVec 32 := Scalar.muli v52 c32_i32
  let v56 : BitVec 32 := Scalar.addi v54 v55
  let v60 : BitVec 32 := Scalar.addi v56 c512_i32_133
  let v66 : Index := Scalar.indexCast v60
  let c0_137 : Index := 0#32
  ![v66.toNat, 0]
def k0_off44 (k0_t18 : Fin k0_t18_loop.trips) : Fin 2 → Nat :=
  let c0_i32_75 : BitVec 32 := 0#32
  let c1_i32_77 : BitVec 32 := 1#32
  let arg13 : BitVec 32 := Scf.iv c0_i32_75 c1_i32_77 k0_t18
  let c4_i32 : BitVec 32 := 4#32
  let v53 : BitVec 32 := Scalar.shrsi arg13 c4_i32
  let c2048_i32 : BitVec 32 := 2048#32
  let v54 : BitVec 32 := Scalar.muli v53 c2048_i32
  let c15_i32 : BitVec 32 := 15#32
  let v52 : BitVec 32 := Scalar.andi arg13 c15_i32
  let c32_i32 : BitVec 32 := 32#32
  let v55 : BitVec 32 := Scalar.muli v52 c32_i32
  let v56 : BitVec 32 := Scalar.addi v54 v55
  let c1024_i32_134 : BitVec 32 := 1024#32
  let v62 : BitVec 32 := Scalar.addi v56 c1024_i32_134
  let c512_i32_135 : BitVec 32 := 512#32
  let v63 : BitVec 32 := Scalar.addi v62 c512_i32_135
  let v70 : Index := Scalar.indexCast v63
  let c0_139 : Index := 0#32
  ![v70.toNat, 0]
@[reducible] def k0_t19_loop : Scf.Loop 32 :=
  let c0_i32_79 : BitVec 32 := 0#32
  let c256_i32_80 : BitVec 32 := 256#32
  let v35 : BitVec 32 := Scalar.addi c0_i32_79 c256_i32_80
  let c1_i32_81 : BitVec 32 := 1#32
  ⟨c0_i32_79, v35, c1_i32_81⟩
def k0_off45 (k0_t19 : Fin k0_t19_loop.trips) : Fin 2 → Nat :=
  let c0_i32_79 : BitVec 32 := 0#32
  let c1_i32_81 : BitVec 32 := 1#32
  let arg13 : BitVec 32 := Scf.iv c0_i32_79 c1_i32_81 k0_t19
  let c2_i32 : BitVec 32 := 2#32
  let v53 : BitVec 32 := Scalar.shrsi arg13 c2_i32
  let c512_i32_132 : BitVec 32 := 512#32
  let v54 : BitVec 32 := Scalar.muli v53 c512_i32_132
  let c3_i32 : BitVec 32 := 3#32
  let v52 : BitVec 32 := Scalar.andi arg13 c3_i32
  let c32_i32 : BitVec 32 := 32#32
  let v55 : BitVec 32 := Scalar.muli v52 c32_i32
  let v56 : BitVec 32 := Scalar.addi v54 v55
  let v64 : Index := Scalar.indexCast v56
  let c0_137 : Index := 0#32
  ![v64.toNat, 0]
def k0_off46 (k0_t19 : Fin k0_t19_loop.trips) (c128_i32 : BitVec 32) : Fin 2 → Nat :=
  let c0_i32_79 : BitVec 32 := 0#32
  let c1_i32_81 : BitVec 32 := 1#32
  let arg13 : BitVec 32 := Scf.iv c0_i32_79 c1_i32_81 k0_t19
  let c2_i32 : BitVec 32 := 2#32
  let v53 : BitVec 32 := Scalar.shrsi arg13 c2_i32
  let c512_i32_132 : BitVec 32 := 512#32
  let v54 : BitVec 32 := Scalar.muli v53 c512_i32_132
  let c3_i32 : BitVec 32 := 3#32
  let v52 : BitVec 32 := Scalar.andi arg13 c3_i32
  let c32_i32 : BitVec 32 := 32#32
  let v55 : BitVec 32 := Scalar.muli v52 c32_i32
  let v56 : BitVec 32 := Scalar.addi v54 v55
  let v60 : BitVec 32 := Scalar.addi v56 c128_i32
  let v66 : Index := Scalar.indexCast v60
  let c0_138 : Index := 0#32
  ![v66.toNat, 0]
def k0_off47 (k0_t19 : Fin k0_t19_loop.trips) : Fin 2 → Nat :=
  let c0_i32_79 : BitVec 32 := 0#32
  let c1_i32_81 : BitVec 32 := 1#32
  let arg13 : BitVec 32 := Scf.iv c0_i32_79 c1_i32_81 k0_t19
  let c2_i32 : BitVec 32 := 2#32
  let v53 : BitVec 32 := Scalar.shrsi arg13 c2_i32
  let c512_i32_132 : BitVec 32 := 512#32
  let v54 : BitVec 32 := Scalar.muli v53 c512_i32_132
  let c3_i32 : BitVec 32 := 3#32
  let v52 : BitVec 32 := Scalar.andi arg13 c3_i32
  let c32_i32 : BitVec 32 := 32#32
  let v55 : BitVec 32 := Scalar.muli v52 c32_i32
  let v56 : BitVec 32 := Scalar.addi v54 v55
  let c256_i32_135 : BitVec 32 := 256#32
  let v62 : BitVec 32 := Scalar.addi v56 c256_i32_135
  let c128_i32_136 : BitVec 32 := 128#32
  let v63 : BitVec 32 := Scalar.addi v62 c128_i32_136
  let v70 : Index := Scalar.indexCast v63
  let c0_140 : Index := 0#32
  ![v70.toNat, 0]
@[reducible] def k0_t20_loop : Scf.Loop 32 :=
  let c0_i32_83 : BitVec 32 := 0#32
  let c256_i32_84 : BitVec 32 := 256#32
  let v36 : BitVec 32 := Scalar.addi c0_i32_83 c256_i32_84
  let c1_i32_85 : BitVec 32 := 1#32
  ⟨c0_i32_83, v36, c1_i32_85⟩
def k0_off48 (k0_t20 : Fin k0_t20_loop.trips) : Fin 2 → Nat :=
  let c0_i32_83 : BitVec 32 := 0#32
  let c1_i32_85 : BitVec 32 := 1#32
  let arg13 : BitVec 32 := Scf.iv c0_i32_83 c1_i32_85 k0_t20
  let c0_i32_133 : BitVec 32 := 0#32
  let v53 : BitVec 32 := Scalar.shrsi arg13 c0_i32_133
  let c128_i32 : BitVec 32 := 128#32
  let v54 : BitVec 32 := Scalar.muli v53 c128_i32
  let c0_i32_132 : BitVec 32 := 0#32
  let v52 : BitVec 32 := Scalar.andi arg13 c0_i32_132
  let c64_i32 : BitVec 32 := 64#32
  let v55 : BitVec 32 := Scalar.muli v52 c64_i32
  let v56 : BitVec 32 := Scalar.addi v54 v55
  let v61 : Index := Scalar.indexCast v56
  let c0_136 : Index := 0#32
  ![v61.toNat, 0]
def k0_off49 (k0_t20 : Fin k0_t20_loop.trips) : Fin 2 → Nat :=
  let c0_i32_83 : BitVec 32 := 0#32
  let c1_i32_85 : BitVec 32 := 1#32
  let arg13 : BitVec 32 := Scf.iv c0_i32_83 c1_i32_85 k0_t20
  let c0_i32_133 : BitVec 32 := 0#32
  let v53 : BitVec 32 := Scalar.shrsi arg13 c0_i32_133
  let c128_i32 : BitVec 32 := 128#32
  let v54 : BitVec 32 := Scalar.muli v53 c128_i32
  let c0_i32_132 : BitVec 32 := 0#32
  let v52 : BitVec 32 := Scalar.andi arg13 c0_i32_132
  let c64_i32 : BitVec 32 := 64#32
  let v55 : BitVec 32 := Scalar.muli v52 c64_i32
  let v56 : BitVec 32 := Scalar.addi v54 v55
  let c64_i32_134 : BitVec 32 := 64#32
  let v57 : BitVec 32 := Scalar.addi v56 c64_i32_134
  let v63 : Index := Scalar.indexCast v57
  let c0_137 : Index := 0#32
  ![v63.toNat, 0]
@[reducible] def k0_t21_loop : Scf.Loop 32 :=
  let c0_i32_87 : BitVec 32 := 0#32
  let c256_i32_88 : BitVec 32 := 256#32
  let v37 : BitVec 32 := Scalar.addi c0_i32_87 c256_i32_88
  let c1_i32_89 : BitVec 32 := 1#32
  ⟨c0_i32_87, v37, c1_i32_89⟩
def k0_off50 (k0_t21 : Fin k0_t21_loop.trips) : Fin 2 → Nat :=
  let c0_i32_87 : BitVec 32 := 0#32
  let c1_i32_89 : BitVec 32 := 1#32
  let arg13 : BitVec 32 := Scf.iv c0_i32_87 c1_i32_89 k0_t21
  let c7_i32 : BitVec 32 := 7#32
  let v53 : BitVec 32 := Scalar.shrsi arg13 c7_i32
  let c16384_i32 : BitVec 32 := 16384#32
  let v54 : BitVec 32 := Scalar.muli v53 c16384_i32
  let c127_i32 : BitVec 32 := 127#32
  let v52 : BitVec 32 := Scalar.andi arg13 c127_i32
  let c32_i32 : BitVec 32 := 32#32
  let v55 : BitVec 32 := Scalar.muli v52 c32_i32
  let v56 : BitVec 32 := Scalar.addi v54 v55
  let v64 : Index := Scalar.indexCast v56
  let c0_136 : Index := 0#32
  ![v64.toNat, 0]
def k0_off51 (k0_t21 : Fin k0_t21_loop.trips) (c4096_i32 : BitVec 32) : Fin 2 → Nat :=
  let c0_i32_87 : BitVec 32 := 0#32
  let c1_i32_89 : BitVec 32 := 1#32
  let arg13 : BitVec 32 := Scf.iv c0_i32_87 c1_i32_89 k0_t21
  let c7_i32 : BitVec 32 := 7#32
  let v53 : BitVec 32 := Scalar.shrsi arg13 c7_i32
  let c16384_i32 : BitVec 32 := 16384#32
  let v54 : BitVec 32 := Scalar.muli v53 c16384_i32
  let c127_i32 : BitVec 32 := 127#32
  let v52 : BitVec 32 := Scalar.andi arg13 c127_i32
  let c32_i32 : BitVec 32 := 32#32
  let v55 : BitVec 32 := Scalar.muli v52 c32_i32
  let v56 : BitVec 32 := Scalar.addi v54 v55
  let v60 : BitVec 32 := Scalar.addi v56 c4096_i32
  let v66 : Index := Scalar.indexCast v60
  let c0_137 : Index := 0#32
  ![v66.toNat, 0]
def k0_off52 (k0_t21 : Fin k0_t21_loop.trips) : Fin 2 → Nat :=
  let c0_i32_87 : BitVec 32 := 0#32
  let c1_i32_89 : BitVec 32 := 1#32
  let arg13 : BitVec 32 := Scf.iv c0_i32_87 c1_i32_89 k0_t21
  let c7_i32 : BitVec 32 := 7#32
  let v53 : BitVec 32 := Scalar.shrsi arg13 c7_i32
  let c16384_i32 : BitVec 32 := 16384#32
  let v54 : BitVec 32 := Scalar.muli v53 c16384_i32
  let c127_i32 : BitVec 32 := 127#32
  let v52 : BitVec 32 := Scalar.andi arg13 c127_i32
  let c32_i32 : BitVec 32 := 32#32
  let v55 : BitVec 32 := Scalar.muli v52 c32_i32
  let v56 : BitVec 32 := Scalar.addi v54 v55
  let c8192_i32_134 : BitVec 32 := 8192#32
  let v62 : BitVec 32 := Scalar.addi v56 c8192_i32_134
  let c4096_i32_135 : BitVec 32 := 4096#32
  let v63 : BitVec 32 := Scalar.addi v62 c4096_i32_135
  let v70 : Index := Scalar.indexCast v63
  let c0_139 : Index := 0#32
  ![v70.toNat, 0]
@[reducible] def k0_t22_loop : Scf.Loop 32 :=
  let c0_i32_91 : BitVec 32 := 0#32
  let c256_i32_92 : BitVec 32 := 256#32
  let v38 : BitVec 32 := Scalar.addi c0_i32_91 c256_i32_92
  let c1_i32_93 : BitVec 32 := 1#32
  ⟨c0_i32_91, v38, c1_i32_93⟩
def k0_off53 (k0_t22 : Fin k0_t22_loop.trips) : Fin 2 → Nat :=
  let c0_i32_91 : BitVec 32 := 0#32
  let c1_i32_93 : BitVec 32 := 1#32
  let arg13 : BitVec 32 := Scf.iv c0_i32_91 c1_i32_93 k0_t22
  let c5_i32 : BitVec 32 := 5#32
  let v53 : BitVec 32 := Scalar.shrsi arg13 c5_i32
  let c4096_i32 : BitVec 32 := 4096#32
  let v54 : BitVec 32 := Scalar.muli v53 c4096_i32
  let c31_i32 : BitVec 32 := 31#32
  let v52 : BitVec 32 := Scalar.andi arg13 c31_i32
  let c32_i32 : BitVec 32 := 32#32
  let v55 : BitVec 32 := Scalar.muli v52 c32_i32
  let v56 : BitVec 32 := Scalar.addi v54 v55
  let v64 : Index := Scalar.indexCast v56
  let c0_135 : Index := 0#32
  ![v64.toNat, 0]
def k0_off54 (k0_t22 : Fin k0_t22_loop.trips) (c1024_i32 : BitVec 32) : Fin 2 → Nat :=
  let c0_i32_91 : BitVec 32 := 0#32
  let c1_i32_93 : BitVec 32 := 1#32
  let arg13 : BitVec 32 := Scf.iv c0_i32_91 c1_i32_93 k0_t22
  let c5_i32 : BitVec 32 := 5#32
  let v53 : BitVec 32 := Scalar.shrsi arg13 c5_i32
  let c4096_i32 : BitVec 32 := 4096#32
  let v54 : BitVec 32 := Scalar.muli v53 c4096_i32
  let c31_i32 : BitVec 32 := 31#32
  let v52 : BitVec 32 := Scalar.andi arg13 c31_i32
  let c32_i32 : BitVec 32 := 32#32
  let v55 : BitVec 32 := Scalar.muli v52 c32_i32
  let v56 : BitVec 32 := Scalar.addi v54 v55
  let v60 : BitVec 32 := Scalar.addi v56 c1024_i32
  let v66 : Index := Scalar.indexCast v60
  let c0_136 : Index := 0#32
  ![v66.toNat, 0]
def k0_off55 (k0_t22 : Fin k0_t22_loop.trips) : Fin 2 → Nat :=
  let c0_i32_91 : BitVec 32 := 0#32
  let c1_i32_93 : BitVec 32 := 1#32
  let arg13 : BitVec 32 := Scf.iv c0_i32_91 c1_i32_93 k0_t22
  let c5_i32 : BitVec 32 := 5#32
  let v53 : BitVec 32 := Scalar.shrsi arg13 c5_i32
  let c4096_i32 : BitVec 32 := 4096#32
  let v54 : BitVec 32 := Scalar.muli v53 c4096_i32
  let c31_i32 : BitVec 32 := 31#32
  let v52 : BitVec 32 := Scalar.andi arg13 c31_i32
  let c32_i32 : BitVec 32 := 32#32
  let v55 : BitVec 32 := Scalar.muli v52 c32_i32
  let v56 : BitVec 32 := Scalar.addi v54 v55
  let c2048_i32_133 : BitVec 32 := 2048#32
  let v62 : BitVec 32 := Scalar.addi v56 c2048_i32_133
  let c1024_i32_134 : BitVec 32 := 1024#32
  let v63 : BitVec 32 := Scalar.addi v62 c1024_i32_134
  let v70 : Index := Scalar.indexCast v63
  let c0_138 : Index := 0#32
  ![v70.toNat, 0]
@[reducible] def k0_t23_loop : Scf.Loop 32 :=
  let c0_i32_95 : BitVec 32 := 0#32
  let c256_i32_96 : BitVec 32 := 256#32
  let v39 : BitVec 32 := Scalar.addi c0_i32_95 c256_i32_96
  let c1_i32_97 : BitVec 32 := 1#32
  ⟨c0_i32_95, v39, c1_i32_97⟩
def k0_off56 (k0_t23 : Fin k0_t23_loop.trips) : Fin 2 → Nat :=
  let c0_i32_95 : BitVec 32 := 0#32
  let c1_i32_97 : BitVec 32 := 1#32
  let arg13 : BitVec 32 := Scf.iv c0_i32_95 c1_i32_97 k0_t23
  let c3_i32 : BitVec 32 := 3#32
  let v53 : BitVec 32 := Scalar.shrsi arg13 c3_i32
  let c1024_i32 : BitVec 32 := 1024#32
  let v54 : BitVec 32 := Scalar.muli v53 c1024_i32
  let c7_i32 : BitVec 32 := 7#32
  let v52 : BitVec 32 := Scalar.andi arg13 c7_i32
  let c32_i32 : BitVec 32 := 32#32
  let v55 : BitVec 32 := Scalar.muli v52 c32_i32
  let v56 : BitVec 32 := Scalar.addi v54 v55
  let v64 : Index := Scalar.indexCast v56
  let c0_137 : Index := 0#32
  ![v64.toNat, 0]
def k0_off57 (k0_t23 : Fin k0_t23_loop.trips) (c256_i32_133 : BitVec 32) : Fin 2 → Nat :=
  let c0_i32_95 : BitVec 32 := 0#32
  let c1_i32_97 : BitVec 32 := 1#32
  let arg13 : BitVec 32 := Scf.iv c0_i32_95 c1_i32_97 k0_t23
  let c3_i32 : BitVec 32 := 3#32
  let v53 : BitVec 32 := Scalar.shrsi arg13 c3_i32
  let c1024_i32 : BitVec 32 := 1024#32
  let v54 : BitVec 32 := Scalar.muli v53 c1024_i32
  let c7_i32 : BitVec 32 := 7#32
  let v52 : BitVec 32 := Scalar.andi arg13 c7_i32
  let c32_i32 : BitVec 32 := 32#32
  let v55 : BitVec 32 := Scalar.muli v52 c32_i32
  let v56 : BitVec 32 := Scalar.addi v54 v55
  let v60 : BitVec 32 := Scalar.addi v56 c256_i32_133
  let v66 : Index := Scalar.indexCast v60
  let c0_138 : Index := 0#32
  ![v66.toNat, 0]
def k0_off58 (k0_t23 : Fin k0_t23_loop.trips) : Fin 2 → Nat :=
  let c0_i32_95 : BitVec 32 := 0#32
  let c1_i32_97 : BitVec 32 := 1#32
  let arg13 : BitVec 32 := Scf.iv c0_i32_95 c1_i32_97 k0_t23
  let c3_i32 : BitVec 32 := 3#32
  let v53 : BitVec 32 := Scalar.shrsi arg13 c3_i32
  let c1024_i32 : BitVec 32 := 1024#32
  let v54 : BitVec 32 := Scalar.muli v53 c1024_i32
  let c7_i32 : BitVec 32 := 7#32
  let v52 : BitVec 32 := Scalar.andi arg13 c7_i32
  let c32_i32 : BitVec 32 := 32#32
  let v55 : BitVec 32 := Scalar.muli v52 c32_i32
  let v56 : BitVec 32 := Scalar.addi v54 v55
  let c512_i32_135 : BitVec 32 := 512#32
  let v62 : BitVec 32 := Scalar.addi v56 c512_i32_135
  let c256_i32_136 : BitVec 32 := 256#32
  let v63 : BitVec 32 := Scalar.addi v62 c256_i32_136
  let v70 : Index := Scalar.indexCast v63
  let c0_140 : Index := 0#32
  ![v70.toNat, 0]
@[reducible] def k0_t24_loop : Scf.Loop 32 :=
  let c0_i32_99 : BitVec 32 := 0#32
  let c256_i32_100 : BitVec 32 := 256#32
  let v40 : BitVec 32 := Scalar.addi c0_i32_99 c256_i32_100
  let c1_i32_101 : BitVec 32 := 1#32
  ⟨c0_i32_99, v40, c1_i32_101⟩
def k0_off59 (k0_t24 : Fin k0_t24_loop.trips) : Fin 2 → Nat :=
  let c0_i32_99 : BitVec 32 := 0#32
  let c1_i32_101 : BitVec 32 := 1#32
  let arg13 : BitVec 32 := Scf.iv c0_i32_99 c1_i32_101 k0_t24
  let c1_i32_133 : BitVec 32 := 1#32
  let v53 : BitVec 32 := Scalar.shrsi arg13 c1_i32_133
  let c256_i32_134 : BitVec 32 := 256#32
  let v54 : BitVec 32 := Scalar.muli v53 c256_i32_134
  let c1_i32_132 : BitVec 32 := 1#32
  let v52 : BitVec 32 := Scalar.andi arg13 c1_i32_132
  let c64_i32 : BitVec 32 := 64#32
  let v55 : BitVec 32 := Scalar.muli v52 c64_i32
  let v56 : BitVec 32 := Scalar.addi v54 v55
  let v61 : Index := Scalar.indexCast v56
  let c0_136 : Index := 0#32
  ![v61.toNat, 0]
def k0_off60 (k0_t24 : Fin k0_t24_loop.trips) : Fin 2 → Nat :=
  let c0_i32_99 : BitVec 32 := 0#32
  let c1_i32_101 : BitVec 32 := 1#32
  let arg13 : BitVec 32 := Scf.iv c0_i32_99 c1_i32_101 k0_t24
  let c1_i32_133 : BitVec 32 := 1#32
  let v53 : BitVec 32 := Scalar.shrsi arg13 c1_i32_133
  let c256_i32_134 : BitVec 32 := 256#32
  let v54 : BitVec 32 := Scalar.muli v53 c256_i32_134
  let c1_i32_132 : BitVec 32 := 1#32
  let v52 : BitVec 32 := Scalar.andi arg13 c1_i32_132
  let c64_i32 : BitVec 32 := 64#32
  let v55 : BitVec 32 := Scalar.muli v52 c64_i32
  let v56 : BitVec 32 := Scalar.addi v54 v55
  let c128_i32 : BitVec 32 := 128#32
  let v57 : BitVec 32 := Scalar.addi v56 c128_i32
  let v63 : Index := Scalar.indexCast v57
  let c0_137 : Index := 0#32
  ![v63.toNat, 0]
@[reducible] def k0_t25_loop : Scf.Loop 32 :=
  let c0_i32_103 : BitVec 32 := 0#32
  let c256_i32_104 : BitVec 32 := 256#32
  let v41 : BitVec 32 := Scalar.addi c0_i32_103 c256_i32_104
  let c1_i32_105 : BitVec 32 := 1#32
  ⟨c0_i32_103, v41, c1_i32_105⟩
def k0_off61 (k0_t25 : Fin k0_t25_loop.trips) : Fin 2 → Nat :=
  let c0_i32_103 : BitVec 32 := 0#32
  let c1_i32_105 : BitVec 32 := 1#32
  let arg13 : BitVec 32 := Scf.iv c0_i32_103 c1_i32_105 k0_t25
  let c0_i32_133 : BitVec 32 := 0#32
  let v53 : BitVec 32 := Scalar.shrsi arg13 c0_i32_133
  let c128_i32 : BitVec 32 := 128#32
  let v54 : BitVec 32 := Scalar.muli v53 c128_i32
  let c0_i32_132 : BitVec 32 := 0#32
  let v52 : BitVec 32 := Scalar.andi arg13 c0_i32_132
  let c64_i32 : BitVec 32 := 64#32
  let v55 : BitVec 32 := Scalar.muli v52 c64_i32
  let v56 : BitVec 32 := Scalar.addi v54 v55
  let v61 : Index := Scalar.indexCast v56
  let c0_136 : Index := 0#32
  ![v61.toNat, 0]
def k0_off62 (k0_t25 : Fin k0_t25_loop.trips) : Fin 2 → Nat :=
  let c0_i32_103 : BitVec 32 := 0#32
  let c1_i32_105 : BitVec 32 := 1#32
  let arg13 : BitVec 32 := Scf.iv c0_i32_103 c1_i32_105 k0_t25
  let c0_i32_133 : BitVec 32 := 0#32
  let v53 : BitVec 32 := Scalar.shrsi arg13 c0_i32_133
  let c128_i32 : BitVec 32 := 128#32
  let v54 : BitVec 32 := Scalar.muli v53 c128_i32
  let c0_i32_132 : BitVec 32 := 0#32
  let v52 : BitVec 32 := Scalar.andi arg13 c0_i32_132
  let c64_i32 : BitVec 32 := 64#32
  let v55 : BitVec 32 := Scalar.muli v52 c64_i32
  let v56 : BitVec 32 := Scalar.addi v54 v55
  let c64_i32_134 : BitVec 32 := 64#32
  let v57 : BitVec 32 := Scalar.addi v56 c64_i32_134
  let v63 : Index := Scalar.indexCast v57
  let c0_137 : Index := 0#32
  ![v63.toNat, 0]
@[reducible] def k0_t26_loop : Scf.Loop 32 :=
  let c0_i32_108 : BitVec 32 := 0#32
  let c256_i32_109 : BitVec 32 := 256#32
  let v43 : BitVec 32 := Scalar.addi c0_i32_108 c256_i32_109
  let c1_i32_110 : BitVec 32 := 1#32
  ⟨c0_i32_108, v43, c1_i32_110⟩
def k0_off63 (k0_t26 : Fin k0_t26_loop.trips) : Fin 2 → Nat :=
  let c0_i32_108 : BitVec 32 := 0#32
  let c1_i32_110 : BitVec 32 := 1#32
  let arg13 : BitVec 32 := Scf.iv c0_i32_108 c1_i32_110 k0_t26
  let c8_i32 : BitVec 32 := 8#32
  let v53 : BitVec 32 := Scalar.shrsi arg13 c8_i32
  let c32768_i32_132 : BitVec 32 := 32768#32
  let v54 : BitVec 32 := Scalar.muli v53 c32768_i32_132
  let c255_i32 : BitVec 32 := 255#32
  let v52 : BitVec 32 := Scalar.andi arg13 c255_i32
  let c32_i32 : BitVec 32 := 32#32
  let v55 : BitVec 32 := Scalar.muli v52 c32_i32
  let v56 : BitVec 32 := Scalar.addi v54 v55
  let v64 : Index := Scalar.indexCast v56
  let c0_137 : Index := 0#32
  ![v64.toNat, 0]
def k0_off64 (k0_t26 : Fin k0_t26_loop.trips) (c8192_i32 : BitVec 32) : Fin 2 → Nat :=
  let c0_i32_108 : BitVec 32 := 0#32
  let c1_i32_110 : BitVec 32 := 1#32
  let arg13 : BitVec 32 := Scf.iv c0_i32_108 c1_i32_110 k0_t26
  let c8_i32 : BitVec 32 := 8#32
  let v53 : BitVec 32 := Scalar.shrsi arg13 c8_i32
  let c32768_i32_132 : BitVec 32 := 32768#32
  let v54 : BitVec 32 := Scalar.muli v53 c32768_i32_132
  let c255_i32 : BitVec 32 := 255#32
  let v52 : BitVec 32 := Scalar.andi arg13 c255_i32
  let c32_i32 : BitVec 32 := 32#32
  let v55 : BitVec 32 := Scalar.muli v52 c32_i32
  let v56 : BitVec 32 := Scalar.addi v54 v55
  let v60 : BitVec 32 := Scalar.addi v56 c8192_i32
  let v66 : Index := Scalar.indexCast v60
  let c0_138 : Index := 0#32
  ![v66.toNat, 0]
def k0_off65 (k0_t26 : Fin k0_t26_loop.trips) : Fin 2 → Nat :=
  let c0_i32_108 : BitVec 32 := 0#32
  let c1_i32_110 : BitVec 32 := 1#32
  let arg13 : BitVec 32 := Scf.iv c0_i32_108 c1_i32_110 k0_t26
  let c8_i32 : BitVec 32 := 8#32
  let v53 : BitVec 32 := Scalar.shrsi arg13 c8_i32
  let c32768_i32_132 : BitVec 32 := 32768#32
  let v54 : BitVec 32 := Scalar.muli v53 c32768_i32_132
  let c255_i32 : BitVec 32 := 255#32
  let v52 : BitVec 32 := Scalar.andi arg13 c255_i32
  let c32_i32 : BitVec 32 := 32#32
  let v55 : BitVec 32 := Scalar.muli v52 c32_i32
  let v56 : BitVec 32 := Scalar.addi v54 v55
  let c16384_i32_135 : BitVec 32 := 16384#32
  let v62 : BitVec 32 := Scalar.addi v56 c16384_i32_135
  let c8192_i32_136 : BitVec 32 := 8192#32
  let v63 : BitVec 32 := Scalar.addi v62 c8192_i32_136
  let v70 : Index := Scalar.indexCast v63
  let c0_140 : Index := 0#32
  ![v70.toNat, 0]
@[reducible] def k0_t27_loop : Scf.Loop 32 :=
  let c0_i32_112 : BitVec 32 := 0#32
  let c256_i32_113 : BitVec 32 := 256#32
  let v44 : BitVec 32 := Scalar.addi c0_i32_112 c256_i32_113
  let c1_i32_114 : BitVec 32 := 1#32
  ⟨c0_i32_112, v44, c1_i32_114⟩
def k0_off66 (k0_t27 : Fin k0_t27_loop.trips) : Fin 2 → Nat :=
  let c0_i32_112 : BitVec 32 := 0#32
  let c1_i32_114 : BitVec 32 := 1#32
  let arg13 : BitVec 32 := Scf.iv c0_i32_112 c1_i32_114 k0_t27
  let c6_i32 : BitVec 32 := 6#32
  let v53 : BitVec 32 := Scalar.shrsi arg13 c6_i32
  let c8192_i32 : BitVec 32 := 8192#32
  let v54 : BitVec 32 := Scalar.muli v53 c8192_i32
  let c63_i32 : BitVec 32 := 63#32
  let v52 : BitVec 32 := Scalar.andi arg13 c63_i32
  let c32_i32 : BitVec 32 := 32#32
  let v55 : BitVec 32 := Scalar.muli v52 c32_i32
  let v56 : BitVec 32 := Scalar.addi v54 v55
  let v64 : Index := Scalar.indexCast v56
  let c0_136 : Index := 0#32
  ![v64.toNat, 0]
def k0_off67 (k0_t27 : Fin k0_t27_loop.trips) (c2048_i32 : BitVec 32) : Fin 2 → Nat :=
  let c0_i32_112 : BitVec 32 := 0#32
  let c1_i32_114 : BitVec 32 := 1#32
  let arg13 : BitVec 32 := Scf.iv c0_i32_112 c1_i32_114 k0_t27
  let c6_i32 : BitVec 32 := 6#32
  let v53 : BitVec 32 := Scalar.shrsi arg13 c6_i32
  let c8192_i32 : BitVec 32 := 8192#32
  let v54 : BitVec 32 := Scalar.muli v53 c8192_i32
  let c63_i32 : BitVec 32 := 63#32
  let v52 : BitVec 32 := Scalar.andi arg13 c63_i32
  let c32_i32 : BitVec 32 := 32#32
  let v55 : BitVec 32 := Scalar.muli v52 c32_i32
  let v56 : BitVec 32 := Scalar.addi v54 v55
  let v60 : BitVec 32 := Scalar.addi v56 c2048_i32
  let v66 : Index := Scalar.indexCast v60
  let c0_137 : Index := 0#32
  ![v66.toNat, 0]
def k0_off68 (k0_t27 : Fin k0_t27_loop.trips) : Fin 2 → Nat :=
  let c0_i32_112 : BitVec 32 := 0#32
  let c1_i32_114 : BitVec 32 := 1#32
  let arg13 : BitVec 32 := Scf.iv c0_i32_112 c1_i32_114 k0_t27
  let c6_i32 : BitVec 32 := 6#32
  let v53 : BitVec 32 := Scalar.shrsi arg13 c6_i32
  let c8192_i32 : BitVec 32 := 8192#32
  let v54 : BitVec 32 := Scalar.muli v53 c8192_i32
  let c63_i32 : BitVec 32 := 63#32
  let v52 : BitVec 32 := Scalar.andi arg13 c63_i32
  let c32_i32 : BitVec 32 := 32#32
  let v55 : BitVec 32 := Scalar.muli v52 c32_i32
  let v56 : BitVec 32 := Scalar.addi v54 v55
  let c4096_i32_134 : BitVec 32 := 4096#32
  let v62 : BitVec 32 := Scalar.addi v56 c4096_i32_134
  let c2048_i32_135 : BitVec 32 := 2048#32
  let v63 : BitVec 32 := Scalar.addi v62 c2048_i32_135
  let v70 : Index := Scalar.indexCast v63
  let c0_139 : Index := 0#32
  ![v70.toNat, 0]
@[reducible] def k0_t28_loop : Scf.Loop 32 :=
  let c0_i32_116 : BitVec 32 := 0#32
  let c256_i32_117 : BitVec 32 := 256#32
  let v45 : BitVec 32 := Scalar.addi c0_i32_116 c256_i32_117
  let c1_i32_118 : BitVec 32 := 1#32
  ⟨c0_i32_116, v45, c1_i32_118⟩
def k0_off69 (k0_t28 : Fin k0_t28_loop.trips) : Fin 2 → Nat :=
  let c0_i32_116 : BitVec 32 := 0#32
  let c1_i32_118 : BitVec 32 := 1#32
  let arg13 : BitVec 32 := Scf.iv c0_i32_116 c1_i32_118 k0_t28
  let c4_i32 : BitVec 32 := 4#32
  let v53 : BitVec 32 := Scalar.shrsi arg13 c4_i32
  let c2048_i32 : BitVec 32 := 2048#32
  let v54 : BitVec 32 := Scalar.muli v53 c2048_i32
  let c15_i32 : BitVec 32 := 15#32
  let v52 : BitVec 32 := Scalar.andi arg13 c15_i32
  let c32_i32 : BitVec 32 := 32#32
  let v55 : BitVec 32 := Scalar.muli v52 c32_i32
  let v56 : BitVec 32 := Scalar.addi v54 v55
  let v64 : Index := Scalar.indexCast v56
  let c0_137 : Index := 0#32
  ![v64.toNat, 0]
def k0_off70 (k0_t28 : Fin k0_t28_loop.trips) (c512_i32_134 : BitVec 32) : Fin 2 → Nat :=
  let c0_i32_116 : BitVec 32 := 0#32
  let c1_i32_118 : BitVec 32 := 1#32
  let arg13 : BitVec 32 := Scf.iv c0_i32_116 c1_i32_118 k0_t28
  let c4_i32 : BitVec 32 := 4#32
  let v53 : BitVec 32 := Scalar.shrsi arg13 c4_i32
  let c2048_i32 : BitVec 32 := 2048#32
  let v54 : BitVec 32 := Scalar.muli v53 c2048_i32
  let c15_i32 : BitVec 32 := 15#32
  let v52 : BitVec 32 := Scalar.andi arg13 c15_i32
  let c32_i32 : BitVec 32 := 32#32
  let v55 : BitVec 32 := Scalar.muli v52 c32_i32
  let v56 : BitVec 32 := Scalar.addi v54 v55
  let v60 : BitVec 32 := Scalar.addi v56 c512_i32_134
  let v66 : Index := Scalar.indexCast v60
  let c0_138 : Index := 0#32
  ![v66.toNat, 0]
def k0_off71 (k0_t28 : Fin k0_t28_loop.trips) : Fin 2 → Nat :=
  let c0_i32_116 : BitVec 32 := 0#32
  let c1_i32_118 : BitVec 32 := 1#32
  let arg13 : BitVec 32 := Scf.iv c0_i32_116 c1_i32_118 k0_t28
  let c4_i32 : BitVec 32 := 4#32
  let v53 : BitVec 32 := Scalar.shrsi arg13 c4_i32
  let c2048_i32 : BitVec 32 := 2048#32
  let v54 : BitVec 32 := Scalar.muli v53 c2048_i32
  let c15_i32 : BitVec 32 := 15#32
  let v52 : BitVec 32 := Scalar.andi arg13 c15_i32
  let c32_i32 : BitVec 32 := 32#32
  let v55 : BitVec 32 := Scalar.muli v52 c32_i32
  let v56 : BitVec 32 := Scalar.addi v54 v55
  let c1024_i32_135 : BitVec 32 := 1024#32
  let v62 : BitVec 32 := Scalar.addi v56 c1024_i32_135
  let c512_i32_136 : BitVec 32 := 512#32
  let v63 : BitVec 32 := Scalar.addi v62 c512_i32_136
  let v70 : Index := Scalar.indexCast v63
  let c0_140 : Index := 0#32
  ![v70.toNat, 0]
@[reducible] def k0_t29_loop : Scf.Loop 32 :=
  let c0_i32_120 : BitVec 32 := 0#32
  let c256_i32_121 : BitVec 32 := 256#32
  let v46 : BitVec 32 := Scalar.addi c0_i32_120 c256_i32_121
  let c1_i32_122 : BitVec 32 := 1#32
  ⟨c0_i32_120, v46, c1_i32_122⟩
def k0_off72 (k0_t29 : Fin k0_t29_loop.trips) : Fin 2 → Nat :=
  let c0_i32_120 : BitVec 32 := 0#32
  let c1_i32_122 : BitVec 32 := 1#32
  let arg13 : BitVec 32 := Scf.iv c0_i32_120 c1_i32_122 k0_t29
  let c2_i32 : BitVec 32 := 2#32
  let v53 : BitVec 32 := Scalar.shrsi arg13 c2_i32
  let c512_i32_132 : BitVec 32 := 512#32
  let v54 : BitVec 32 := Scalar.muli v53 c512_i32_132
  let c3_i32 : BitVec 32 := 3#32
  let v52 : BitVec 32 := Scalar.andi arg13 c3_i32
  let c32_i32 : BitVec 32 := 32#32
  let v55 : BitVec 32 := Scalar.muli v52 c32_i32
  let v56 : BitVec 32 := Scalar.addi v54 v55
  let v64 : Index := Scalar.indexCast v56
  let c0_138 : Index := 0#32
  ![v64.toNat, 0]
def k0_off73 (k0_t29 : Fin k0_t29_loop.trips) (c128_i32 : BitVec 32) : Fin 2 → Nat :=
  let c0_i32_120 : BitVec 32 := 0#32
  let c1_i32_122 : BitVec 32 := 1#32
  let arg13 : BitVec 32 := Scf.iv c0_i32_120 c1_i32_122 k0_t29
  let c2_i32 : BitVec 32 := 2#32
  let v53 : BitVec 32 := Scalar.shrsi arg13 c2_i32
  let c512_i32_132 : BitVec 32 := 512#32
  let v54 : BitVec 32 := Scalar.muli v53 c512_i32_132
  let c3_i32 : BitVec 32 := 3#32
  let v52 : BitVec 32 := Scalar.andi arg13 c3_i32
  let c32_i32 : BitVec 32 := 32#32
  let v55 : BitVec 32 := Scalar.muli v52 c32_i32
  let v56 : BitVec 32 := Scalar.addi v54 v55
  let v60 : BitVec 32 := Scalar.addi v56 c128_i32
  let v66 : Index := Scalar.indexCast v60
  let c0_139 : Index := 0#32
  ![v66.toNat, 0]
def k0_off74 (k0_t29 : Fin k0_t29_loop.trips) : Fin 2 → Nat :=
  let c0_i32_120 : BitVec 32 := 0#32
  let c1_i32_122 : BitVec 32 := 1#32
  let arg13 : BitVec 32 := Scf.iv c0_i32_120 c1_i32_122 k0_t29
  let c2_i32 : BitVec 32 := 2#32
  let v53 : BitVec 32 := Scalar.shrsi arg13 c2_i32
  let c512_i32_132 : BitVec 32 := 512#32
  let v54 : BitVec 32 := Scalar.muli v53 c512_i32_132
  let c3_i32 : BitVec 32 := 3#32
  let v52 : BitVec 32 := Scalar.andi arg13 c3_i32
  let c32_i32 : BitVec 32 := 32#32
  let v55 : BitVec 32 := Scalar.muli v52 c32_i32
  let v56 : BitVec 32 := Scalar.addi v54 v55
  let c256_i32_136 : BitVec 32 := 256#32
  let v62 : BitVec 32 := Scalar.addi v56 c256_i32_136
  let c128_i32_137 : BitVec 32 := 128#32
  let v63 : BitVec 32 := Scalar.addi v62 c128_i32_137
  let v70 : Index := Scalar.indexCast v63
  let c0_141 : Index := 0#32
  ![v70.toNat, 0]
@[reducible] def k0_t30_loop : Scf.Loop 32 :=
  let c0_i32_124 : BitVec 32 := 0#32
  let c256_i32_125 : BitVec 32 := 256#32
  let v47 : BitVec 32 := Scalar.addi c0_i32_124 c256_i32_125
  let c1_i32_126 : BitVec 32 := 1#32
  ⟨c0_i32_124, v47, c1_i32_126⟩
def k0_off75 (k0_t30 : Fin k0_t30_loop.trips) : Fin 2 → Nat :=
  let c0_i32_124 : BitVec 32 := 0#32
  let c1_i32_126 : BitVec 32 := 1#32
  let arg13 : BitVec 32 := Scf.iv c0_i32_124 c1_i32_126 k0_t30
  let c0_i32_133 : BitVec 32 := 0#32
  let v53 : BitVec 32 := Scalar.shrsi arg13 c0_i32_133
  let c128_i32 : BitVec 32 := 128#32
  let v54 : BitVec 32 := Scalar.muli v53 c128_i32
  let c0_i32_132 : BitVec 32 := 0#32
  let v52 : BitVec 32 := Scalar.andi arg13 c0_i32_132
  let c64_i32 : BitVec 32 := 64#32
  let v55 : BitVec 32 := Scalar.muli v52 c64_i32
  let v56 : BitVec 32 := Scalar.addi v54 v55
  let v61 : Index := Scalar.indexCast v56
  let c0_137 : Index := 0#32
  ![v61.toNat, 0]
def k0_off76 (k0_t30 : Fin k0_t30_loop.trips) : Fin 2 → Nat :=
  let c0_i32_124 : BitVec 32 := 0#32
  let c1_i32_126 : BitVec 32 := 1#32
  let arg13 : BitVec 32 := Scf.iv c0_i32_124 c1_i32_126 k0_t30
  let c0_i32_133 : BitVec 32 := 0#32
  let v53 : BitVec 32 := Scalar.shrsi arg13 c0_i32_133
  let c128_i32 : BitVec 32 := 128#32
  let v54 : BitVec 32 := Scalar.muli v53 c128_i32
  let c0_i32_132 : BitVec 32 := 0#32
  let v52 : BitVec 32 := Scalar.andi arg13 c0_i32_132
  let c64_i32 : BitVec 32 := 64#32
  let v55 : BitVec 32 := Scalar.muli v52 c64_i32
  let v56 : BitVec 32 := Scalar.addi v54 v55
  let c64_i32_134 : BitVec 32 := 64#32
  let v57 : BitVec 32 := Scalar.addi v56 c64_i32_134
  let v63 : Index := Scalar.indexCast v57
  let c0_138 : Index := 0#32
  ![v63.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![2], ![false]⟩

def k1_off1 (i : grid1.Coords) : Fin 2 → Nat :=
  let arg0 : BitVec 32 := BitVec.ofNat 32 (i 0).val
  let c32768_i32 : BitVec 32 := 32768#32
  let v0 : BitVec 32 := Scalar.muli arg0 c32768_i32
  let c0_i32 : BitVec 32 := 0#32
  ![v0.toNat, 0]
def k1_off2 (i : grid1.Coords) : Fin 2 → Nat :=
  let c1_i32 : BitVec 32 := 1#32
  let arg0 : BitVec 32 := BitVec.ofNat 32 (i 0).val
  let v1 : BitVec 32 := Scalar.subi c1_i32 arg0
  let c32768_i32_0 : BitVec 32 := 32768#32
  let v2 : BitVec 32 := Scalar.muli v1 c32768_i32_0
  let c0_i32_5 : BitVec 32 := 0#32
  let v8 : BitVec 32 := Scalar.addi v2 c0_i32_5
  let c0_i32_11 : BitVec 32 := 0#32
  ![v8.toNat, 0]
@[reducible] def k1_t1_loop : Scf.Loop 32 :=
  let c0_i32_18 : BitVec 32 := 0#32
  let c16_i32 : BitVec 32 := 16#32
  let v19 : BitVec 32 := Scalar.addi c0_i32_18 c16_i32
  let c1_i32_19 : BitVec 32 := 1#32
  ⟨c0_i32_18, v19, c1_i32_19⟩
def k1_cond1 (k1_t1 : Fin k1_t1_loop.trips) : BitVec 1 :=
  let c0_i32_18 : BitVec 32 := 0#32
  let c1_i32_19 : BitVec 32 := 1#32
  let arg11 : BitVec 32 := Scf.iv c0_i32_18 c1_i32_19 k1_t1
  let c1_i32_44 : BitVec 32 := 1#32
  let v30 : BitVec 32 := Scalar.addi arg11 c1_i32_44
  let c16_i32_45 : BitVec 32 := 16#32
  let v31 : BitVec 1 := Scalar.cmpi .slt v30 c16_i32_45
  let v32 : BitVec 32 := Scalar.extui v31
  let c0_i32_46 : BitVec 32 := 0#32
  let v33 : BitVec 1 := Scalar.cmpi .ne v32 c0_i32_46
  v33

def k1_off3 (k1_t1 : Fin k1_t1_loop.trips) : Fin 2 → Nat :=
  let c0_i32_18 : BitVec 32 := 0#32
  let c1_i32_19 : BitVec 32 := 1#32
  let arg11 : BitVec 32 := Scf.iv c0_i32_18 c1_i32_19 k1_t1
  let c1_i32_42 : BitVec 32 := 1#32
  let v28 : BitVec 32 := Scalar.addi arg11 c1_i32_42
  let c2_i32_43 : BitVec 32 := 2#32
  let v29 : BitVec 32 := Scalar.remsi v28 c2_i32_43
  let c0_i32_60 : BitVec 32 := 0#32
  ![v29.toNat, 0]
def k1_off4 (k1_t1 : Fin k1_t1_loop.trips) : Fin 3 → Nat :=
  let c0_i32_18 : BitVec 32 := 0#32
  let c1_i32_19 : BitVec 32 := 1#32
  let arg11 : BitVec 32 := Scf.iv c0_i32_18 c1_i32_19 k1_t1
  let c1_i32_42 : BitVec 32 := 1#32
  let v28 : BitVec 32 := Scalar.addi arg11 c1_i32_42
  let c2_i32_43 : BitVec 32 := 2#32
  let v29 : BitVec 32 := Scalar.remsi v28 c2_i32_43
  let c0_i32_61 : BitVec 32 := 0#32
  let c0_i32_62 : BitVec 32 := 0#32
  ![v29.toNat, 0, 0]
def k1_off5 (i : grid1.Coords) (k1_t1 : Fin k1_t1_loop.trips) : Fin 2 → Nat :=
  let c1_i32 : BitVec 32 := 1#32
  let arg0 : BitVec 32 := BitVec.ofNat 32 (i 0).val
  let v1 : BitVec 32 := Scalar.subi c1_i32 arg0
  let c32768_i32_0 : BitVec 32 := 32768#32
  let v2 : BitVec 32 := Scalar.muli v1 c32768_i32_0
  let c0_i32_18 : BitVec 32 := 0#32
  let c1_i32_19 : BitVec 32 := 1#32
  let arg11 : BitVec 32 := Scf.iv c0_i32_18 c1_i32_19 k1_t1
  let c1_i32_58 : BitVec 32 := 1#32
  let v47 : BitVec 32 := Scalar.addi arg11 c1_i32_58
  let c2048_i32_59 : BitVec 32 := 2048#32
  let v48 : BitVec 32 := Scalar.muli v47 c2048_i32_59
  let v49 : BitVec 32 := Scalar.addi v2 v48
  let c0_i32_63 : BitVec 32 := 0#32
  ![v49.toNat, 0]
def k1_off6 (k1_t1 : Fin k1_t1_loop.trips) : Fin 2 → Nat :=
  let c0_i32_18 : BitVec 32 := 0#32
  let c1_i32_19 : BitVec 32 := 1#32
  let arg11 : BitVec 32 := Scf.iv c0_i32_18 c1_i32_19 k1_t1
  let c1_i32_42 : BitVec 32 := 1#32
  let v28 : BitVec 32 := Scalar.addi arg11 c1_i32_42
  let c2_i32_43 : BitVec 32 := 2#32
  let v29 : BitVec 32 := Scalar.remsi v28 c2_i32_43
  let c1_i32_64 : BitVec 32 := 1#32
  ![v29.toNat, 1]
def k1_off7 (k1_t1 : Fin k1_t1_loop.trips) : Fin 2 → Nat :=
  let c0_i32_18 : BitVec 32 := 0#32
  let c1_i32_19 : BitVec 32 := 1#32
  let arg11 : BitVec 32 := Scf.iv c0_i32_18 c1_i32_19 k1_t1
  let c2_i32 : BitVec 32 := 2#32
  let v27 : BitVec 32 := Scalar.remsi arg11 c2_i32
  let c0_i32_47 : BitVec 32 := 0#32
  ![v27.toNat, 0]
def k1_off8 (k1_t1 : Fin k1_t1_loop.trips) : Fin 3 → Nat :=
  let c0_i32_18 : BitVec 32 := 0#32
  let c1_i32_19 : BitVec 32 := 1#32
  let arg11 : BitVec 32 := Scf.iv c0_i32_18 c1_i32_19 k1_t1
  let c2_i32 : BitVec 32 := 2#32
  let v27 : BitVec 32 := Scalar.remsi arg11 c2_i32
  let c0_i32_48 : BitVec 32 := 0#32
  let c0_i32_49 : BitVec 32 := 0#32
  ![v27.toNat, 0, 0]
def k1_off9 (i : grid1.Coords) (k1_t1 : Fin k1_t1_loop.trips) : Fin 2 → Nat :=
  let c1_i32 : BitVec 32 := 1#32
  let arg0 : BitVec 32 := BitVec.ofNat 32 (i 0).val
  let v1 : BitVec 32 := Scalar.subi c1_i32 arg0
  let c32768_i32_0 : BitVec 32 := 32768#32
  let v2 : BitVec 32 := Scalar.muli v1 c32768_i32_0
  let c0_i32_18 : BitVec 32 := 0#32
  let c1_i32_19 : BitVec 32 := 1#32
  let arg11 : BitVec 32 := Scf.iv c0_i32_18 c1_i32_19 k1_t1
  let c2048_i32 : BitVec 32 := 2048#32
  let v34 : BitVec 32 := Scalar.muli arg11 c2048_i32
  let v35 : BitVec 32 := Scalar.addi v2 v34
  let c0_i32_50 : BitVec 32 := 0#32
  ![v35.toNat, 0]
def k1_off10 (k1_t1 : Fin k1_t1_loop.trips) : Fin 2 → Nat :=
  let c0_i32_18 : BitVec 32 := 0#32
  let c1_i32_19 : BitVec 32 := 1#32
  let arg11 : BitVec 32 := Scf.iv c0_i32_18 c1_i32_19 k1_t1
  let c2_i32 : BitVec 32 := 2#32
  let v27 : BitVec 32 := Scalar.remsi arg11 c2_i32
  let c1_i32_51 : BitVec 32 := 1#32
  ![v27.toNat, 1]
@[reducible] def k1_t2_loop : Scf.Loop 32 :=
  let c0_i32_55 : BitVec 32 := 0#32
  let c32_i32 : BitVec 32 := 32#32
  let v46 : BitVec 32 := Scalar.addi c0_i32_55 c32_i32
  let c1_i32_56 : BitVec 32 := 1#32
  ⟨c0_i32_55, v46, c1_i32_56⟩
def k1_off11 (k1_t1 : Fin k1_t1_loop.trips) (k1_t2 : Fin k1_t2_loop.trips) : Fin 2 → Nat :=
  let c0_i32_18 : BitVec 32 := 0#32
  let c1_i32_19 : BitVec 32 := 1#32
  let arg11 : BitVec 32 := Scf.iv c0_i32_18 c1_i32_19 k1_t1
  let c2048_i32_58 : BitVec 32 := 2048#32
  let v47 : BitVec 32 := Scalar.muli arg11 c2048_i32_58
  let c0_i32_55 : BitVec 32 := 0#32
  let c1_i32_56 : BitVec 32 := 1#32
  let arg12 : BitVec 32 := Scf.iv c0_i32_55 c1_i32_56 k1_t2
  let c64_i32 : BitVec 32 := 64#32
  let v48 : BitVec 32 := Scalar.muli arg12 c64_i32
  let v49 : BitVec 32 := Scalar.addi v47 v48
  let v51 : Index := Scalar.indexCast v49
  let c0 : Index := 0#32
  ![v51.toNat, 0]
def k1_off12 (k1_t1 : Fin k1_t1_loop.trips) (k1_t2 : Fin k1_t2_loop.trips) : Fin 3 → Nat :=
  let c0_i32_18 : BitVec 32 := 0#32
  let c1_i32_19 : BitVec 32 := 1#32
  let arg11 : BitVec 32 := Scf.iv c0_i32_18 c1_i32_19 k1_t1
  let c2_i32 : BitVec 32 := 2#32
  let v27 : BitVec 32 := Scalar.remsi arg11 c2_i32
  let v55 : Index := Scalar.indexCast v27
  let c0_i32_55 : BitVec 32 := 0#32
  let c1_i32_56 : BitVec 32 := 1#32
  let arg12 : BitVec 32 := Scf.iv c0_i32_55 c1_i32_56 k1_t2
  let c64_i32_59 : BitVec 32 := 64#32
  let v50 : BitVec 32 := Scalar.muli arg12 c64_i32_59
  let v56 : Index := Scalar.indexCast v50
  let c0_61 : Index := 0#32
  ![v55.toNat, v56.toNat, 0]
@[reducible] def k1_t3_loop : Scf.Loop 32 :=
  let c0_i32_21 : BitVec 32 := 0#32
  let c256_i32 : BitVec 32 := 256#32
  let v20 : BitVec 32 := Scalar.addi c0_i32_21 c256_i32
  let c1_i32_22 : BitVec 32 := 1#32
  ⟨c0_i32_21, v20, c1_i32_22⟩
def k1_off13 (k1_t3 : Fin k1_t3_loop.trips) : Fin 2 → Nat :=
  let c0_i32_21 : BitVec 32 := 0#32
  let c1_i32_22 : BitVec 32 := 1#32
  let arg11 : BitVec 32 := Scf.iv c0_i32_21 c1_i32_22 k1_t3
  let c8_i32 : BitVec 32 := 8#32
  let v28 : BitVec 32 := Scalar.shrsi arg11 c8_i32
  let c32768_i32_42 : BitVec 32 := 32768#32
  let v29 : BitVec 32 := Scalar.muli v28 c32768_i32_42
  let c255_i32 : BitVec 32 := 255#32
  let v27 : BitVec 32 := Scalar.andi arg11 c255_i32
  let c32_i32 : BitVec 32 := 32#32
  let v30 : BitVec 32 := Scalar.muli v27 c32_i32
  let v31 : BitVec 32 := Scalar.addi v29 v30
  let v39 : Index := Scalar.indexCast v31
  let c0 : Index := 0#32
  ![v39.toNat, 0]
def k1_off14 (k1_t3 : Fin k1_t3_loop.trips) (c8192_i32 : BitVec 32) : Fin 2 → Nat :=
  let c0_i32_21 : BitVec 32 := 0#32
  let c1_i32_22 : BitVec 32 := 1#32
  let arg11 : BitVec 32 := Scf.iv c0_i32_21 c1_i32_22 k1_t3
  let c8_i32 : BitVec 32 := 8#32
  let v28 : BitVec 32 := Scalar.shrsi arg11 c8_i32
  let c32768_i32_42 : BitVec 32 := 32768#32
  let v29 : BitVec 32 := Scalar.muli v28 c32768_i32_42
  let c255_i32 : BitVec 32 := 255#32
  let v27 : BitVec 32 := Scalar.andi arg11 c255_i32
  let c32_i32 : BitVec 32 := 32#32
  let v30 : BitVec 32 := Scalar.muli v27 c32_i32
  let v31 : BitVec 32 := Scalar.addi v29 v30
  let v35 : BitVec 32 := Scalar.addi v31 c8192_i32
  let v41 : Index := Scalar.indexCast v35
  let c0_46 : Index := 0#32
  ![v41.toNat, 0]
def k1_off15 (k1_t3 : Fin k1_t3_loop.trips) : Fin 2 → Nat :=
  let c0_i32_21 : BitVec 32 := 0#32
  let c1_i32_22 : BitVec 32 := 1#32
  let arg11 : BitVec 32 := Scf.iv c0_i32_21 c1_i32_22 k1_t3
  let c8_i32 : BitVec 32 := 8#32
  let v28 : BitVec 32 := Scalar.shrsi arg11 c8_i32
  let c32768_i32_42 : BitVec 32 := 32768#32
  let v29 : BitVec 32 := Scalar.muli v28 c32768_i32_42
  let c255_i32 : BitVec 32 := 255#32
  let v27 : BitVec 32 := Scalar.andi arg11 c255_i32
  let c32_i32 : BitVec 32 := 32#32
  let v30 : BitVec 32 := Scalar.muli v27 c32_i32
  let v31 : BitVec 32 := Scalar.addi v29 v30
  let c16384_i32_44 : BitVec 32 := 16384#32
  let v37 : BitVec 32 := Scalar.addi v31 c16384_i32_44
  let c8192_i32_45 : BitVec 32 := 8192#32
  let v38 : BitVec 32 := Scalar.addi v37 c8192_i32_45
  let v45 : Index := Scalar.indexCast v38
  let c0_48 : Index := 0#32
  ![v45.toNat, 0]
@[reducible] def k1_t4_loop : Scf.Loop 32 :=
  let c0_i32_24 : BitVec 32 := 0#32
  let c256_i32_25 : BitVec 32 := 256#32
  let v21 : BitVec 32 := Scalar.addi c0_i32_24 c256_i32_25
  let c1_i32_26 : BitVec 32 := 1#32
  ⟨c0_i32_24, v21, c1_i32_26⟩
def k1_off16 (k1_t4 : Fin k1_t4_loop.trips) : Fin 2 → Nat :=
  let c0_i32_24 : BitVec 32 := 0#32
  let c1_i32_26 : BitVec 32 := 1#32
  let arg11 : BitVec 32 := Scf.iv c0_i32_24 c1_i32_26 k1_t4
  let c6_i32 : BitVec 32 := 6#32
  let v28 : BitVec 32 := Scalar.shrsi arg11 c6_i32
  let c8192_i32 : BitVec 32 := 8192#32
  let v29 : BitVec 32 := Scalar.muli v28 c8192_i32
  let c63_i32 : BitVec 32 := 63#32
  let v27 : BitVec 32 := Scalar.andi arg11 c63_i32
  let c32_i32 : BitVec 32 := 32#32
  let v30 : BitVec 32 := Scalar.muli v27 c32_i32
  let v31 : BitVec 32 := Scalar.addi v29 v30
  let v39 : Index := Scalar.indexCast v31
  let c0 : Index := 0#32
  ![v39.toNat, 0]
def k1_off17 (k1_t4 : Fin k1_t4_loop.trips) (c2048_i32 : BitVec 32) : Fin 2 → Nat :=
  let c0_i32_24 : BitVec 32 := 0#32
  let c1_i32_26 : BitVec 32 := 1#32
  let arg11 : BitVec 32 := Scf.iv c0_i32_24 c1_i32_26 k1_t4
  let c6_i32 : BitVec 32 := 6#32
  let v28 : BitVec 32 := Scalar.shrsi arg11 c6_i32
  let c8192_i32 : BitVec 32 := 8192#32
  let v29 : BitVec 32 := Scalar.muli v28 c8192_i32
  let c63_i32 : BitVec 32 := 63#32
  let v27 : BitVec 32 := Scalar.andi arg11 c63_i32
  let c32_i32 : BitVec 32 := 32#32
  let v30 : BitVec 32 := Scalar.muli v27 c32_i32
  let v31 : BitVec 32 := Scalar.addi v29 v30
  let v35 : BitVec 32 := Scalar.addi v31 c2048_i32
  let v41 : Index := Scalar.indexCast v35
  let c0_45 : Index := 0#32
  ![v41.toNat, 0]
def k1_off18 (k1_t4 : Fin k1_t4_loop.trips) : Fin 2 → Nat :=
  let c0_i32_24 : BitVec 32 := 0#32
  let c1_i32_26 : BitVec 32 := 1#32
  let arg11 : BitVec 32 := Scf.iv c0_i32_24 c1_i32_26 k1_t4
  let c6_i32 : BitVec 32 := 6#32
  let v28 : BitVec 32 := Scalar.shrsi arg11 c6_i32
  let c8192_i32 : BitVec 32 := 8192#32
  let v29 : BitVec 32 := Scalar.muli v28 c8192_i32
  let c63_i32 : BitVec 32 := 63#32
  let v27 : BitVec 32 := Scalar.andi arg11 c63_i32
  let c32_i32 : BitVec 32 := 32#32
  let v30 : BitVec 32 := Scalar.muli v27 c32_i32
  let v31 : BitVec 32 := Scalar.addi v29 v30
  let c4096_i32_43 : BitVec 32 := 4096#32
  let v37 : BitVec 32 := Scalar.addi v31 c4096_i32_43
  let c2048_i32_44 : BitVec 32 := 2048#32
  let v38 : BitVec 32 := Scalar.addi v37 c2048_i32_44
  let v45 : Index := Scalar.indexCast v38
  let c0_47 : Index := 0#32
  ![v45.toNat, 0]
@[reducible] def k1_t5_loop : Scf.Loop 32 :=
  let c0_i32_28 : BitVec 32 := 0#32
  let c256_i32_29 : BitVec 32 := 256#32
  let v22 : BitVec 32 := Scalar.addi c0_i32_28 c256_i32_29
  let c1_i32_30 : BitVec 32 := 1#32
  ⟨c0_i32_28, v22, c1_i32_30⟩
def k1_off19 (k1_t5 : Fin k1_t5_loop.trips) : Fin 2 → Nat :=
  let c0_i32_28 : BitVec 32 := 0#32
  let c1_i32_30 : BitVec 32 := 1#32
  let arg11 : BitVec 32 := Scf.iv c0_i32_28 c1_i32_30 k1_t5
  let c4_i32 : BitVec 32 := 4#32
  let v28 : BitVec 32 := Scalar.shrsi arg11 c4_i32
  let c2048_i32 : BitVec 32 := 2048#32
  let v29 : BitVec 32 := Scalar.muli v28 c2048_i32
  let c15_i32 : BitVec 32 := 15#32
  let v27 : BitVec 32 := Scalar.andi arg11 c15_i32
  let c32_i32 : BitVec 32 := 32#32
  let v30 : BitVec 32 := Scalar.muli v27 c32_i32
  let v31 : BitVec 32 := Scalar.addi v29 v30
  let v39 : Index := Scalar.indexCast v31
  let c0 : Index := 0#32
  ![v39.toNat, 0]
def k1_off20 (k1_t5 : Fin k1_t5_loop.trips) (c512_i32 : BitVec 32) : Fin 2 → Nat :=
  let c0_i32_28 : BitVec 32 := 0#32
  let c1_i32_30 : BitVec 32 := 1#32
  let arg11 : BitVec 32 := Scf.iv c0_i32_28 c1_i32_30 k1_t5
  let c4_i32 : BitVec 32 := 4#32
  let v28 : BitVec 32 := Scalar.shrsi arg11 c4_i32
  let c2048_i32 : BitVec 32 := 2048#32
  let v29 : BitVec 32 := Scalar.muli v28 c2048_i32
  let c15_i32 : BitVec 32 := 15#32
  let v27 : BitVec 32 := Scalar.andi arg11 c15_i32
  let c32_i32 : BitVec 32 := 32#32
  let v30 : BitVec 32 := Scalar.muli v27 c32_i32
  let v31 : BitVec 32 := Scalar.addi v29 v30
  let v35 : BitVec 32 := Scalar.addi v31 c512_i32
  let v41 : Index := Scalar.indexCast v35
  let c0_45 : Index := 0#32
  ![v41.toNat, 0]
def k1_off21 (k1_t5 : Fin k1_t5_loop.trips) : Fin 2 → Nat :=
  let c0_i32_28 : BitVec 32 := 0#32
  let c1_i32_30 : BitVec 32 := 1#32
  let arg11 : BitVec 32 := Scf.iv c0_i32_28 c1_i32_30 k1_t5
  let c4_i32 : BitVec 32 := 4#32
  let v28 : BitVec 32 := Scalar.shrsi arg11 c4_i32
  let c2048_i32 : BitVec 32 := 2048#32
  let v29 : BitVec 32 := Scalar.muli v28 c2048_i32
  let c15_i32 : BitVec 32 := 15#32
  let v27 : BitVec 32 := Scalar.andi arg11 c15_i32
  let c32_i32 : BitVec 32 := 32#32
  let v30 : BitVec 32 := Scalar.muli v27 c32_i32
  let v31 : BitVec 32 := Scalar.addi v29 v30
  let c1024_i32_43 : BitVec 32 := 1024#32
  let v37 : BitVec 32 := Scalar.addi v31 c1024_i32_43
  let c512_i32_44 : BitVec 32 := 512#32
  let v38 : BitVec 32 := Scalar.addi v37 c512_i32_44
  let v45 : Index := Scalar.indexCast v38
  let c0_47 : Index := 0#32
  ![v45.toNat, 0]
@[reducible] def k1_t6_loop : Scf.Loop 32 :=
  let c0_i32_32 : BitVec 32 := 0#32
  let c256_i32_33 : BitVec 32 := 256#32
  let v23 : BitVec 32 := Scalar.addi c0_i32_32 c256_i32_33
  let c1_i32_34 : BitVec 32 := 1#32
  ⟨c0_i32_32, v23, c1_i32_34⟩
def k1_off22 (k1_t6 : Fin k1_t6_loop.trips) : Fin 2 → Nat :=
  let c0_i32_32 : BitVec 32 := 0#32
  let c1_i32_34 : BitVec 32 := 1#32
  let arg11 : BitVec 32 := Scf.iv c0_i32_32 c1_i32_34 k1_t6
  let c2_i32 : BitVec 32 := 2#32
  let v28 : BitVec 32 := Scalar.shrsi arg11 c2_i32
  let c512_i32 : BitVec 32 := 512#32
  let v29 : BitVec 32 := Scalar.muli v28 c512_i32
  let c3_i32 : BitVec 32 := 3#32
  let v27 : BitVec 32 := Scalar.andi arg11 c3_i32
  let c32_i32 : BitVec 32 := 32#32
  let v30 : BitVec 32 := Scalar.muli v27 c32_i32
  let v31 : BitVec 32 := Scalar.addi v29 v30
  let v39 : Index := Scalar.indexCast v31
  let c0 : Index := 0#32
  ![v39.toNat, 0]
def k1_off23 (k1_t6 : Fin k1_t6_loop.trips) (c128_i32 : BitVec 32) : Fin 2 → Nat :=
  let c0_i32_32 : BitVec 32 := 0#32
  let c1_i32_34 : BitVec 32 := 1#32
  let arg11 : BitVec 32 := Scf.iv c0_i32_32 c1_i32_34 k1_t6
  let c2_i32 : BitVec 32 := 2#32
  let v28 : BitVec 32 := Scalar.shrsi arg11 c2_i32
  let c512_i32 : BitVec 32 := 512#32
  let v29 : BitVec 32 := Scalar.muli v28 c512_i32
  let c3_i32 : BitVec 32 := 3#32
  let v27 : BitVec 32 := Scalar.andi arg11 c3_i32
  let c32_i32 : BitVec 32 := 32#32
  let v30 : BitVec 32 := Scalar.muli v27 c32_i32
  let v31 : BitVec 32 := Scalar.addi v29 v30
  let v35 : BitVec 32 := Scalar.addi v31 c128_i32
  let v41 : Index := Scalar.indexCast v35
  let c0_46 : Index := 0#32
  ![v41.toNat, 0]
def k1_off24 (k1_t6 : Fin k1_t6_loop.trips) : Fin 2 → Nat :=
  let c0_i32_32 : BitVec 32 := 0#32
  let c1_i32_34 : BitVec 32 := 1#32
  let arg11 : BitVec 32 := Scf.iv c0_i32_32 c1_i32_34 k1_t6
  let c2_i32 : BitVec 32 := 2#32
  let v28 : BitVec 32 := Scalar.shrsi arg11 c2_i32
  let c512_i32 : BitVec 32 := 512#32
  let v29 : BitVec 32 := Scalar.muli v28 c512_i32
  let c3_i32 : BitVec 32 := 3#32
  let v27 : BitVec 32 := Scalar.andi arg11 c3_i32
  let c32_i32 : BitVec 32 := 32#32
  let v30 : BitVec 32 := Scalar.muli v27 c32_i32
  let v31 : BitVec 32 := Scalar.addi v29 v30
  let c256_i32_44 : BitVec 32 := 256#32
  let v37 : BitVec 32 := Scalar.addi v31 c256_i32_44
  let c128_i32_45 : BitVec 32 := 128#32
  let v38 : BitVec 32 := Scalar.addi v37 c128_i32_45
  let v45 : Index := Scalar.indexCast v38
  let c0_48 : Index := 0#32
  ![v45.toNat, 0]
@[reducible] def k1_t7_loop : Scf.Loop 32 :=
  let c0_i32_36 : BitVec 32 := 0#32
  let c256_i32_37 : BitVec 32 := 256#32
  let v24 : BitVec 32 := Scalar.addi c0_i32_36 c256_i32_37
  let c1_i32_38 : BitVec 32 := 1#32
  ⟨c0_i32_36, v24, c1_i32_38⟩
def k1_off25 (k1_t7 : Fin k1_t7_loop.trips) : Fin 2 → Nat :=
  let c0_i32_36 : BitVec 32 := 0#32
  let c1_i32_38 : BitVec 32 := 1#32
  let arg11 : BitVec 32 := Scf.iv c0_i32_36 c1_i32_38 k1_t7
  let c0_i32_43 : BitVec 32 := 0#32
  let v28 : BitVec 32 := Scalar.shrsi arg11 c0_i32_43
  let c128_i32 : BitVec 32 := 128#32
  let v29 : BitVec 32 := Scalar.muli v28 c128_i32
  let c0_i32_42 : BitVec 32 := 0#32
  let v27 : BitVec 32 := Scalar.andi arg11 c0_i32_42
  let c64_i32 : BitVec 32 := 64#32
  let v30 : BitVec 32 := Scalar.muli v27 c64_i32
  let v31 : BitVec 32 := Scalar.addi v29 v30
  let v36 : Index := Scalar.indexCast v31
  let c0 : Index := 0#32
  ![v36.toNat, 0]
def k1_off26 (k1_t7 : Fin k1_t7_loop.trips) : Fin 2 → Nat :=
  let c0_i32_36 : BitVec 32 := 0#32
  let c1_i32_38 : BitVec 32 := 1#32
  let arg11 : BitVec 32 := Scf.iv c0_i32_36 c1_i32_38 k1_t7
  let c0_i32_43 : BitVec 32 := 0#32
  let v28 : BitVec 32 := Scalar.shrsi arg11 c0_i32_43
  let c128_i32 : BitVec 32 := 128#32
  let v29 : BitVec 32 := Scalar.muli v28 c128_i32
  let c0_i32_42 : BitVec 32 := 0#32
  let v27 : BitVec 32 := Scalar.andi arg11 c0_i32_42
  let c64_i32 : BitVec 32 := 64#32
  let v30 : BitVec 32 := Scalar.muli v27 c64_i32
  let v31 : BitVec 32 := Scalar.addi v29 v30
  let c64_i32_44 : BitVec 32 := 64#32
  let v32 : BitVec 32 := Scalar.addi v31 c64_i32_44
  let v38 : Index := Scalar.indexCast v32
  let c0_46 : Index := 0#32
  ![v38.toNat, 0]
-- ==== ReferenceIdeal.lean ====
abbrev S65536x128 : Shape := ⟨2, ![65536, 128]⟩
abbrev S128 : Shape := ⟨1, ![128]⟩
abbrev S65536 : Shape := ⟨1, ![65536]⟩
abbrev S1x128 : Shape := ⟨2, ![1, 128]⟩
abbrev S_ : Shape := ⟨0, ![]⟩
abbrev S65536x128x1 : Shape := ⟨3, ![65536, 128, 1]⟩
abbrev S1 : Shape := ⟨1, ![1]⟩
abbrev S1x1x1 : Shape := ⟨3, ![1, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S65536, .f32⟩
  | .hbm, ⟨6, _⟩ => ⟨S1x128, .f32⟩
  | .hbm, ⟨7, _⟩ => ⟨S65536x128, .f32⟩
  | .hbm, ⟨8, _⟩ => ⟨S65536x128, .f32⟩
  | .hbm, ⟨9, _⟩ => ⟨S1x128, .f32⟩
  | .hbm, ⟨10, _⟩ => ⟨S_, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S65536x128, .f32⟩
  | .hbm, ⟨15, _⟩ => ⟨S65536x128, .f32⟩
  | .hbm, ⟨16, _⟩ => ⟨S1x128, .f32⟩
  | .hbm, ⟨17, _⟩ => ⟨S65536x128, .f32⟩
  | .hbm, ⟨18, _⟩ => ⟨S65536x128, .f32⟩
  | .hbm, ⟨19, _⟩ => ⟨S1x128, .f32⟩
  | .hbm, ⟨20, _⟩ => ⟨S65536x128, .f32⟩
  | .hbm, ⟨21, _⟩ => ⟨S65536x128, .f32⟩
  | .hbm, ⟨22, _⟩ => ⟨S65536x128, .i32⟩
  | .hbm, ⟨23, _⟩ => ⟨S65536x128, .f32⟩
  | .hbm, ⟨24, _⟩ => ⟨S65536x128, .i32⟩
  | .hbm, ⟨25, _⟩ => ⟨S_, .i32⟩
  | .hbm, ⟨26, _⟩ => ⟨S65536x128, .i32⟩
  | .hbm, ⟨27, _⟩ => ⟨S65536x128, .i1⟩
  | .hbm, ⟨28, _⟩ => ⟨S_, .i32⟩
  | .hbm, ⟨29, _⟩ => ⟨S65536x128, .i32⟩
  | .hbm, ⟨30, _⟩ => ⟨S65536x128, .i32⟩
  | .hbm, ⟨31, _⟩ => ⟨S65536x128, .i32⟩
  | .hbm, ⟨32, _⟩ => ⟨S65536x128x1, .i32⟩
  | .hbm, ⟨33, _⟩ => ⟨S1, .i32⟩
  | .hbm, ⟨34, _⟩ => ⟨S_, .i32⟩
  | .hbm, ⟨35, _⟩ => ⟨S65536x128x1, .i32⟩
  | .hbm, ⟨36, _⟩ => ⟨S65536x128x1, .i1⟩
  | .hbm, ⟨37, _⟩ => ⟨S1x1x1, .i32⟩
  | .hbm, ⟨38, _⟩ => ⟨S65536x128x1, .i32⟩
  | .hbm, ⟨39, _⟩ => ⟨S65536x128x1, .i1⟩
  | .hbm, ⟨40, _⟩ => ⟨S65536x128x1, .i1⟩
  | .hbm, ⟨41, _⟩ => ⟨S_, .i1⟩
  | .hbm, ⟨42, _⟩ => ⟨S65536x128, .i1⟩
  | .hbm, ⟨43, _⟩ => ⟨S65536x128, .f32⟩
  | .hbm, ⟨44, _⟩ => ⟨S_, .f32⟩
  | .hbm, ⟨45, _⟩ => ⟨S65536x128, .f32⟩
  | .hbm, ⟨46, _⟩ => ⟨S65536x128, .f32⟩
  | .hbm, ⟨47, _⟩ => ⟨S65536x128, .f32⟩
  | .hbm, ⟨48, _⟩ => ⟨S65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1_0 : Ref sig .tc := ⟨.hbm, 23, rfl⟩
abbrev main_v15 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_cst : Ref sig .tc := ⟨.hbm, 44, rfl⟩
abbrev main_call1_v14 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩

abbrev nD : Nat := 1
abbrev τ : Topo := Topo.v7x

variable {F : FTy → Type} [FloatOps F]
-- ==== Proof.Net.lean ====
/-
The compare-exchange steps of the sorting kernel, as functions on vectors, and the bodies of its
counted loops, as programs over two buffers.

The kernel sorts (key, payload) pairs down each of 128 columns.  A tile of 64 rows is a register
value; a step between rows at distance `j < 64` is done inside a tile (`near`), a step at distance
`j ≥ 64` between two tiles (`far`).  Everything here is stated at any float interpretation.
-/
module

public import Idealize.ShloMosaic.Lib.Pipeline
public import Idealize.ShloMosaic.Lib.Scf
public import Idealize.ShloMosaic.PureOps

@[expose] public section

set_option maxRecDepth 65536

noncomputable section

namespace Cert.Net

open Idealize.ShloMosaic Idealize.SL.Sem

/-! ## Shapes -/

abbrev T1 : Shape := ⟨2, ![64, 1]⟩
abbrev T : Shape := ⟨2, ![64, 128]⟩
abbrev T32 : Shape := ⟨2, ![32, 128]⟩
abbrev U : Shape := ⟨3, ![8, 8, 128]⟩
abbrev U1 : Shape := ⟨3, ![8, 8, 1]⟩
abbrev H : Shape := ⟨2, ![32768, 128]⟩
abbrev R1 : Shape := ⟨2, ![1, 128]⟩

variable {F : FTy → Type} [FloatOps F]

/-! ## Steps inside a tile -/

/-- The row numbers of a tile. -/
def rows : IVec T1 32 := iota .tc T1 32 [0] (by decide)

/-- Which rows of a tile are the later ones of their pair at distance `j`. -/
def late (r : IVec T1 32) (j : BitVec 32) : IVec T1 1 :=
  cmpi .ne (andi r (broadcast T1 j)) (broadcast T1 0#32)

/-- The rows rolled along axis 0: rows `a…` first, then the first `a` rows. -/
def roll2 (A B : Shape) (oA oB : Fin 2 → Nat) (hA : T.Slices oA A) (hB : T.Slices oB B)
    (hc : Shape.Concatenates [A, B] T 0) (v : FVec F T .f32) : FVec F T .f32 :=
  concatenate T 0 [⟨A, extractStridedSlice A oA v hA⟩, ⟨B, extractStridedSlice B oB v hB⟩] hc

/-- The partner rows at a distance of whole groups of eight: a roll either way, chosen by `late`. -/
def partnerBig (m : IVec T1 1) (up dn : FVec F T .f32) : FVec F T .f32 :=
  select (broadcastTo T (shapeCast T1 m (by decide)) (by decide)) up dn

/-- The partner rows at distance 32. -/
def partner32 (m : IVec T1 1) (v : FVec F T .f32) : FVec F T .f32 :=
  partnerBig m
    (roll2 ⟨2, ![32, 128]⟩ ⟨2, ![32, 128]⟩ ![32, 0] ![0, 0] (by decide) (by decide) (by decide) v)
    (roll2 ⟨2, ![32, 128]⟩ ⟨2, ![32, 128]⟩ ![32, 0] ![0, 0] (by decide) (by decide) (by decide) v)

/-- The partner rows at distance 16. -/
def partner16 (m : IVec T1 1) (v : FVec F T .f32) : FVec F T .f32 :=
  partnerBig m
    (roll2 ⟨2, ![16, 128]⟩ ⟨2, ![48, 128]⟩ ![48, 0] ![0, 0] (by decide) (by decide) (by decide) v)
    (roll2 ⟨2, ![48, 128]⟩ ⟨2, ![16, 128]⟩ ![16, 0] ![0, 0] (by decide) (by decide) (by decide) v)

/-- The partner rows at distance 8. -/
def partner8 (m : IVec T1 1) (v : FVec F T .f32) : FVec F T .f32 :=
  partnerBig m
    (roll2 ⟨2, ![8, 128]⟩ ⟨2, ![56, 128]⟩ ![56, 0] ![0, 0] (by decide) (by decide) (by decide) v)
    (roll2 ⟨2, ![56, 128]⟩ ⟨2, ![8, 128]⟩ ![8, 0] ![0, 0] (by decide) (by decide) (by decide) v)

/-- The rows of each group of eight rolled. -/
def roll3 (A B : Shape) (oA oB : Fin 3 → Nat) (hA : U.Slices oA A) (hB : U.Slices oB B)
    (hc : Shape.Concatenates [A, B] U 1) (v : FVec F U .f32) : FVec F U .f32 :=
  concatenate U 1 [⟨A, extractStridedSlice A oA v hA⟩, ⟨B, extractStridedSlice B oB v hB⟩] hc

/-- The partner rows inside the groups of eight: a roll either way, chosen by `late`. -/
def partnerSmall (m : IVec T1 1) (up dn : FVec F U .f32) : FVec F T .f32 :=
  shapeCast T (select (broadcastTo U (shapeCast U1 (shapeCast U1 m (by decide)) (by decide)) (by decide)) up dn)
    (by decide)

/-- The partner rows at distance 4: in a group of eight the roll by four is its own inverse. -/
def partner4 (v : FVec F T .f32) : FVec F T .f32 :=
  shapeCast T
    (roll3 ⟨3, ![8, 4, 128]⟩ ⟨3, ![8, 4, 128]⟩ ![0, 4, 0] ![0, 0, 0] (by decide) (by decide) (by decide)
      (shapeCast U v (by decide))) (by decide)

/-- The partner rows at distance 2. -/
def partner2 (m : IVec T1 1) (v : FVec F T .f32) : FVec F T .f32 :=
  partnerSmall m
    (roll3 ⟨3, ![8, 2, 128]⟩ ⟨3, ![8, 6, 128]⟩ ![0, 6, 0] ![0, 0, 0] (by decide) (by decide) (by decide)
      (shapeCast U v (by decide)))
    (roll3 ⟨3, ![8, 6, 128]⟩ ⟨3, ![8, 2, 128]⟩ ![0, 2, 0] ![0, 0, 0] (by decide) (by decide) (by decide)
      (shapeCast U v (by decide)))

/-- The partner rows at distance 1. -/
def partner1 (m : IVec T1 1) (v : FVec F T .f32) : FVec F T .f32 :=
  partnerSmall m
    (roll3 ⟨3, ![8, 1, 128]⟩ ⟨3, ![8, 7, 128]⟩ ![0, 7, 0] ![0, 0, 0] (by decide) (by decide) (by decide)
      (shapeCast U v (by decide)))
    (roll3 ⟨3, ![8, 7, 128]⟩ ⟨3, ![8, 1, 128]⟩ ![0, 1, 0] ![0, 0, 0] (by decide) (by decide) (by decide)
      (shapeCast U v (by decide)))

/-- Whether the pair `(pk, pp)` comes before the pair `(k, p)`: by key, then by payload. -/
def before (s : Shape) (pk pp k p : FVec F s .f32) : IVec s 1 :=
  ori (cmpf .olt pk k) (andi (cmpf .oeq pk k) (cmpf .olt pp p))

/-- Where a row takes its partner: `up` the direction, `m` the later rows. -/
def takes (m up : IVec T1 1) (pk pp k p : FVec F T .f32) : IVec T 1 :=
  xori (xori (before T pk pp k p) (broadcastTo T m (by decide)))
    (broadcastTo T (xori up (constantI T1 1 1#1)) (by decide))

/-- The pairs of a tile: keys, payloads. -/
abbrev Pair (F : FTy → Type) (s : Shape) := FVec F s .f32 × FVec F s .f32

/-- One step inside a tile, the partners given. -/
def step (m up : IVec T1 1) (pk pp : FVec F T .f32) (x : Pair F T) : Pair F T :=
  (select (takes m up pk pp x.1 x.2) pk x.1, select (takes m up pk pp x.1 x.2) pp x.2)

def near32 (up : IVec T1 1) (x : Pair F T) : Pair F T :=
  step (late rows 32#32) up (partner32 (late rows 32#32) x.1) (partner32 (late rows 32#32) x.2) x
def near16 (up : IVec T1 1) (x : Pair F T) : Pair F T :=
  step (late rows 16#32) up (partner16 (late rows 16#32) x.1) (partner16 (late rows 16#32) x.2) x
def near8 (up : IVec T1 1) (x : Pair F T) : Pair F T :=
  step (late rows 8#32) up (partner8 (late rows 8#32) x.1) (partner8 (late rows 8#32) x.2) x
def near4 (up : IVec T1 1) (x : Pair F T) : Pair F T :=
  step (late rows 4#32) up (partner4 x.1) (partner4 x.2) x
def near2 (up : IVec T1 1) (x : Pair F T) : Pair F T :=
  step (late rows 2#32) up (partner2 (late rows 2#32) x.1) (partner2 (late rows 2#32) x.2) x
def near1 (up : IVec T1 1) (x : Pair F T) : Pair F T :=
  step (late rows 1#32) up (partner1 (late rows 1#32) x.1) (partner1 (late rows 1#32) x.2) x

/-- The steps at distances 32, 16, 8, 4, 2, 1. -/
def finish (up : IVec T1 1) (x : Pair F T) : Pair F T :=
  near1 up (near2 up (near4 up (near8 up (near16 up (near32 up x)))))

/-- The direction of each row of the tile at row `r0` in the stage of block length `k`. -/
def dir (r0 k : BitVec 32) : IVec T1 1 :=
  cmpi .eq (andi (addi rows (broadcast T1 r0)) (broadcast T1 k)) (broadcast T1 0#32)

/-- The whole sort of a tile, the stages of block length 2, 4, …, 64. -/
def tileSort (r0 : BitVec 32) (x : Pair F T) : Pair F T :=
  let x := near1 (dir r0 2#32) x
  let x := near1 (dir r0 4#32) (near2 (dir r0 4#32) x)
  let x := near1 (dir r0 8#32) (near2 (dir r0 8#32) (near4 (dir r0 8#32) x))
  let x := near1 (dir r0 16#32) (near2 (dir r0 16#32) (near4 (dir r0 16#32) (near8 (dir r0 16#32) x)))
  let x := near1 (dir r0 32#32) (near2 (dir r0 32#32) (near4 (dir r0 32#32) (near8 (dir r0 32#32)
    (near16 (dir r0 32#32) x))))
  finish (dir r0 64#32) x

/-! ## Steps between tiles -/

/-- Where two tiles exchange: `up` the direction. -/
def swaps (s : Shape) (up : BitVec 1) (a b : Pair F s) : IVec s 1 :=
  xori (before s b.1 b.2 a.1 a.2) (broadcast s (Scalar.xori up 1#1))

/-- The earlier tile after the step. -/
def farLo (s : Shape) (up : BitVec 1) (a b : Pair F s) : Pair F s :=
  (select (swaps s up a b) b.1 a.1, select (swaps s up a b) b.2 a.2)

/-- The later tile after the step. -/
def farHi (s : Shape) (up : BitVec 1) (a b : Pair F s) : Pair F s :=
  (select (swaps s up a b) a.1 b.1, select (swaps s up a b) a.2 b.2)

/-! ## The key of a tile -/

/-- A tile normalised: minus the mean, over the root, times the weight, plus the bias. -/
def keyOf (den mean w b : FVec F R1 .f32) (x : FVec F T .f32) : FVec F T .f32 :=
  addf (mulf (divf (subf x (broadcastTo T mean (by decide))) (broadcastTo T den (by decide)))
    (broadcastTo T w (by decide))) (broadcastTo T b (by decide))

/-! ## The programs -/

section Programs

variable {nD : Nat} {τ : Topo} {sig : RefSig} {Λ : Labels}

theorem hT : 0 < T.numel := by decide
theorem hT32 : 0 < T32.numel := by decide

/-- The tile of 64 rows at `o`. -/
abbrev rT (o : Fin 2 → Nat) (h : ∀ a, o a + T.size a ≤ H.size a) : Rect H := Rect.unit (s := H) o T.size h
/-- The tile of 32 rows at `o`. -/
abbrev rT32 (o : Fin 2 → Nat) (h : ∀ a, o a + T32.size a ≤ H.size a) : Rect H := Rect.unit (s := H) o T32.size h

/-- A tile of 64 rows stored (after a load of the same place whose value is not used). -/
abbrev putT (m : Memref sig .tc .vmem H .f32) (o : Fin 2 → Nat) (h : ∀ a, o a + T.size a ≤ H.size a)
    (v : FVec F T .f32) (q : Prog (TpuEff nD τ sig (Elt F) Λ .tc) PUnit) : Prog (TpuEff nD τ sig (Elt F) Λ .tc) PUnit :=
  (Prog.lift (.load m (rT o h).toLoadRect (View.loadsAt_vmem hT)) : Prog _ (Vec F T .f32)) >>= fun _ =>
  Prog.lift (.store m (rT o h) (shapeCast T v (by decide)) Finset.univ
    (View.stores_vmem_bits_univ hT rfl) (.inl rfl)) >>= fun _ => q

/-- A tile of 32 rows stored (after a load of the same place whose value is not used). -/
abbrev putT32 (m : Memref sig .tc .vmem H .f32) (o : Fin 2 → Nat) (h : ∀ a, o a + T32.size a ≤ H.size a)
    (v : FVec F T32 .f32) (q : Prog (TpuEff nD τ sig (Elt F) Λ .tc) PUnit) : Prog (TpuEff nD τ sig (Elt F) Λ .tc) PUnit :=
  (Prog.lift (.load m (rT32 o h).toLoadRect (View.loadsAt_vmem hT32)) : Prog _ (Vec F T32 .f32)) >>= fun _ =>
  Prog.lift (.store m (rT32 o h) (shapeCast T32 v (by decide)) Finset.univ
    (View.stores_vmem_bits_univ hT32 rfl) (.inl rfl)) >>= fun _ => q

variable (K P : Memref sig .tc .vmem H .f32)

/-- A trip over one tile: its pairs replaced by `f` of them. -/
def body1 (o : Fin 2 → Nat) (h : ∀ a, o a + T.size a ≤ H.size a) (f : Pair F T → Pair F T) :
    Prog (TpuEff nD τ sig (Elt F) Λ .tc) PUnit := do
  let k : Vec F T .f32 ← Prog.lift (.load K (rT o h).toLoadRect (View.loadsAt_vmem hT))
  let p : Vec F T .f32 ← Prog.lift (.load P (rT o h).toLoadRect (View.loadsAt_vmem hT))
  putT K o h (f (k, p)).1 <| putT P o h (f (k, p)).2 <| pure ⟨⟩

/-- A trip over two tiles: their pairs replaced by `f` and `g` of them. -/
def body2 (oA : Fin 2 → Nat) (hA : ∀ a, oA a + T.size a ≤ H.size a)
    (oB : Fin 2 → Nat) (hB : ∀ a, oB a + T.size a ≤ H.size a) (f g : Pair F T → Pair F T → Pair F T) :
    Prog (TpuEff nD τ sig (Elt F) Λ .tc) PUnit := do
  let ka : Vec F T .f32 ← Prog.lift (.load K (rT oA hA).toLoadRect (View.loadsAt_vmem hT))
  let kb : Vec F T .f32 ← Prog.lift (.load K (rT oB hB).toLoadRect (View.loadsAt_vmem hT))
  let pa : Vec F T .f32 ← Prog.lift (.load P (rT oA hA).toLoadRect (View.loadsAt_vmem hT))
  let pb : Vec F T .f32 ← Prog.lift (.load P (rT oB hB).toLoadRect (View.loadsAt_vmem hT))
  putT K oA hA (f (ka, pa) (kb, pb)).1 <| putT K oB hB (g (ka, pa) (kb, pb)).1 <|
    putT P oA hA (f (ka, pa) (kb, pb)).2 <| putT P oB hB (g (ka, pa) (kb, pb)).2 <| pure ⟨⟩

/-- A trip of the passes that do one distance between tiles. -/
def bodyFar (oA : Fin 2 → Nat) (hA : ∀ a, oA a + T.size a ≤ H.size a)
    (oB : Fin 2 → Nat) (hB : ∀ a, oB a + T.size a ≤ H.size a) (up : BitVec 1) :
    Prog (TpuEff nD τ sig (Elt F) Λ .tc) PUnit :=
  body2 K P oA hA oB hB (farLo T up) (farHi T up)

/-- A trip of the passes that do distance 64 and then the distances inside the tiles. -/
def bodyFused (oA : Fin 2 → Nat) (hA : ∀ a, oA a + T.size a ≤ H.size a)
    (oB : Fin 2 → Nat) (hB : ∀ a, oB a + T.size a ≤ H.size a) (up : BitVec 1) :
    Prog (TpuEff nD τ sig (Elt F) Λ .tc) PUnit :=
  body2 K P oA hA oB hB (fun a b => finish (broadcast T1 up) (farLo T up a b))
    (fun a b => finish (broadcast T1 up) (farHi T up a b))

/-- A trip of the passes that do two distances between tiles: four tiles `o0 … o3`, first `o0` with `o2`
and `o1` with `o3`, then `o0` with `o1` and `o2` with `o3`. -/
def bodyFar2 (o0 : Fin 2 → Nat) (h0 : ∀ a, o0 a + T32.size a ≤ H.size a)
    (o1 : Fin 2 → Nat) (h1 : ∀ a, o1 a + T32.size a ≤ H.size a)
    (o2 : Fin 2 → Nat) (h2 : ∀ a, o2 a + T32.size a ≤ H.size a)
    (o3 : Fin 2 → Nat) (h3 : ∀ a, o3 a + T32.size a ≤ H.size a) (up : BitVec 1) :
    Prog (TpuEff nD τ sig (Elt F) Λ .tc) PUnit := do
  let k0 : Vec F T32 .f32 ← Prog.lift (.load K (rT32 o0 h0).toLoadRect (View.loadsAt_vmem hT32))
  let k1 : Vec F T32 .f32 ← Prog.lift (.load K (rT32 o1 h1).toLoadRect (View.loadsAt_vmem hT32))
  let k2 : Vec F T32 .f32 ← Prog.lift (.load K (rT32 o2 h2).toLoadRect (View.loadsAt_vmem hT32))
  let k3 : Vec F T32 .f32 ← Prog.lift (.load K (rT32 o3 h3).toLoadRect (View.loadsAt_vmem hT32))
  let p0 : Vec F T32 .f32 ← Prog.lift (.load P (rT32 o0 h0).toLoadRect (View.loadsAt_vmem hT32))
  let p1 : Vec F T32 .f32 ← Prog.lift (.load P (rT32 o1 h1).toLoadRect (View.loadsAt_vmem hT32))
  let p2 : Vec F T32 .f32 ← Prog.lift (.load P (rT32 o2 h2).toLoadRect (View.loadsAt_vmem hT32))
  let p3 : Vec F T32 .f32 ← Prog.lift (.load P (rT32 o3 h3).toLoadRect (View.loadsAt_vmem hT32))
  let a := farLo T32 up (k0, p0) (k2, p2)
  let b := farLo T32 up (k1, p1) (k3, p3)
  let c := farHi T32 up (k0, p0) (k2, p2)
  let d := farHi T32 up (k1, p1) (k3, p3)
  putT32 K o0 h0 (farLo T32 up a b).1 <| putT32 P o0 h0 (farLo T32 up a b).2 <|
    putT32 K o1 h1 (farHi T32 up a b).1 <| putT32 P o1 h1 (farHi T32 up a b).2 <|
    putT32 K o2 h2 (farLo T32 up c d).1 <| putT32 P o2 h2 (farLo T32 up c d).2 <|
    putT32 K o3 h3 (farHi T32 up c d).1 <| putT32 P o3 h3 (farHi T32 up c d).2 <| pure ⟨⟩

end Programs

end Cert.Net
-- ==== Proof.Pass.lean ====
/-
The two kernels as programs over their buffers: the passes of the first (one half of the rows sorted), and the
second (the two halves exchanged, chunk by chunk, then the rest of the last stage).  The pass at exponent `s`
works at distance `64 · 2 ^ s` between tiles of 64 rows, or at distances `64 · 2 ^ s` and `32 · 2 ^ s` between
tiles of 32 rows.
-/
module

public import proofs.«01_k».proof.Proof.Net

@[expose] public section

set_option maxRecDepth 65536

noncomputable section

namespace Cert.Net

open Idealize.ShloMosaic Idealize.SL.Sem

variable {F : FTy → Type} [FloatOps F]

/-! ## Rows of a trip -/

/-- A loop of 256 trips, of 512, of 16, of 32. -/
abbrev L256 : Scf.Loop 32 := ⟨0#32, Scalar.addi 0#32 256#32, 1#32⟩
abbrev L512 : Scf.Loop 32 := ⟨0#32, Scalar.addi 0#32 512#32, 1#32⟩
abbrev L16 : Scf.Loop 32 := ⟨0#32, Scalar.addi 0#32 16#32, 1#32⟩
abbrev L32 : Scf.Loop 32 := ⟨0#32, Scalar.addi 0#32 32#32, 1#32⟩
theorem ok256 : L256.OK := by decide
theorem ok512 : L512.OK := by decide
theorem ok16 : L16.OK := by decide
theorem ok32 : L32.OK := by decide
theorem trips256 : L256.trips = 256 := by decide
theorem trips512 : L512.trips = 512 := by decide
theorem trips16 : L16.trips = 16 := by decide
theorem trips32 : L32.trips = 32 := by decide

/-- Row `w`, column 0. -/
abbrev off2 (w : BitVec 32) : Fin 2 → Nat := ![(Scalar.indexCast w).toNat, 0]

/-- The first row of trip `t` at exponent `s`, in tiles of `r` rows. -/
def rowW (s r : ℕ) (t : ℕ) : BitVec 32 :=
  Scalar.addi (Scalar.muli (Scalar.shrsi (Scf.iv 0#32 1#32 t) (BitVec.ofNat 32 s)) (BitVec.ofNat 32 (128 * 2 ^ s)))
    (Scalar.muli (Scalar.andi (Scf.iv 0#32 1#32 t) (BitVec.ofNat 32 (2 ^ s - 1))) (BitVec.ofNat 32 r))

/-- The first row of trip `t` as a number. -/
def rowN (s r : ℕ) (t : ℕ) : ℕ := t / 2 ^ s * (128 * 2 ^ s) + t % 2 ^ s * r

/-- The direction of a trip whose first row is `w`, in the stage of block length `k`. -/
def upW (w k : BitVec 32) (flip : BitVec 1) : BitVec 1 :=
  Scalar.xori (Scalar.cmpi .eq (Scalar.andi w k) 0#32) flip

theorem rowW64 (s : ℕ) (hs : s < 9) (t : ℕ) (ht : t < 256) : (rowW s 64 t).toNat = rowN s 64 t := by
  have h : ∀ (s : Fin 9) (t : Fin 256), (rowW s.val 64 t.val).toNat = rowN s.val 64 t.val := by decide +kernel
  exact h ⟨s, hs⟩ ⟨t, ht⟩

theorem rowW32 (s : ℕ) (hs : s < 9) (t : ℕ) (ht : t < 256) : (rowW s 32 t).toNat = rowN s 32 t := by
  have h : ∀ (s : Fin 9) (t : Fin 256), (rowW s.val 32 t.val).toNat = rowN s.val 32 t.val := by decide +kernel
  exact h ⟨s, hs⟩ ⟨t, ht⟩

/-- The second tile of a trip over tiles of 64 rows. -/
def rowW64b (s t : ℕ) : BitVec 32 := Scalar.addi (rowW s 64 t) (BitVec.ofNat 32 (64 * 2 ^ s))
/-- The second, third and fourth tiles of a trip over tiles of 32 rows. -/
def rowW32b (s t : ℕ) : BitVec 32 := Scalar.addi (rowW s 32 t) (BitVec.ofNat 32 (32 * 2 ^ s))
def rowW32c (s t : ℕ) : BitVec 32 := Scalar.addi (rowW s 32 t) (BitVec.ofNat 32 (64 * 2 ^ s))
def rowW32d (s t : ℕ) : BitVec 32 :=
  Scalar.addi (Scalar.addi (rowW s 32 t) (BitVec.ofNat 32 (64 * 2 ^ s))) (BitVec.ofNat 32 (32 * 2 ^ s))

theorem rows_toNat (s : ℕ) (hs : s < 9) (t : ℕ) (ht : t < 256) :
    (rowW64b s t).toNat = rowN s 64 t + 64 * 2 ^ s ∧ (rowW32b s t).toNat = rowN s 32 t + 32 * 2 ^ s
      ∧ (rowW32c s t).toNat = rowN s 32 t + 2 * (32 * 2 ^ s) ∧ (rowW32d s t).toNat = rowN s 32 t + 3 * (32 * 2 ^ s)
      ∧ rowN s 64 t + 64 * 2 ^ s + 64 ≤ 32768 ∧ rowN s 32 t + 3 * (32 * 2 ^ s) + 32 ≤ 32768 := by
  have h : ∀ (s : Fin 9) (t : Fin 256),
      (rowW64b s.val t.val).toNat = rowN s.val 64 t.val + 64 * 2 ^ s.val
      ∧ (rowW32b s.val t.val).toNat = rowN s.val 32 t.val + 32 * 2 ^ s.val
      ∧ (rowW32c s.val t.val).toNat = rowN s.val 32 t.val + 2 * (32 * 2 ^ s.val)
      ∧ (rowW32d s.val t.val).toNat = rowN s.val 32 t.val + 3 * (32 * 2 ^ s.val)
      ∧ rowN s.val 64 t.val + 64 * 2 ^ s.val + 64 ≤ 32768
      ∧ rowN s.val 32 t.val + 3 * (32 * 2 ^ s.val) + 32 ≤ 32768 := by decide +kernel
  exact h ⟨s, hs⟩ ⟨t, ht⟩

/-- A tile of 64 rows at a row low enough lies in the half. -/
theorem inbT {w : BitVec 32} {n : ℕ} (e : w.toNat = n) (h : n + 64 ≤ 32768) : ∀ a, off2 w a + T.size a ≤ H.size a := by
  intro a
  match a with
  | ⟨0, _⟩ => show w.toNat + 64 ≤ 32768; omega
  | ⟨1, _⟩ => show 0 + 128 ≤ 128; omega
/-- A tile of 32 rows at a row low enough lies in the half. -/
theorem inbT32 {w : BitVec 32} {n : ℕ} (e : w.toNat = n) (h : n + 32 ≤ 32768) : ∀ a, off2 w a + T32.size a ≤ H.size a := by
  intro a
  match a with
  | ⟨0, _⟩ => show w.toNat + 32 ≤ 32768; omega
  | ⟨1, _⟩ => show 0 + 128 ≤ 128; omega

theorem lt256 (t : Fin L256.trips) : t.val < 256 := lt_of_lt_of_eq t.isLt trips256
theorem lt512 (t : Fin L512.trips) : t.val < 512 := lt_of_lt_of_eq t.isLt trips512

section
variable {s : ℕ} (hs : s < 9) (t : Fin L256.trips)
include hs
theorem inb64a : ∀ a, off2 (rowW s 64 t) a + T.size a ≤ H.size a :=
  inbT (rowW64 s hs t (lt256 t)) (by have := (rows_toNat s hs t (lt256 t)).2.2.2.2.1; omega)
theorem inb64b : ∀ a, off2 (rowW64b s t) a + T.size a ≤ H.size a :=
  inbT (rows_toNat s hs t (lt256 t)).1 (by have := (rows_toNat s hs t (lt256 t)).2.2.2.2.1; omega)
theorem inb32a : ∀ a, off2 (rowW s 32 t) a + T32.size a ≤ H.size a :=
  inbT32 (rowW32 s hs t (lt256 t)) (by have := (rows_toNat s hs t (lt256 t)).2.2.2.2.2; omega)
theorem inb32b : ∀ a, off2 (rowW32b s t) a + T32.size a ≤ H.size a :=
  inbT32 (rows_toNat s hs t (lt256 t)).2.1 (by have := (rows_toNat s hs t (lt256 t)).2.2.2.2.2; omega)
theorem inb32c : ∀ a, off2 (rowW32c s t) a + T32.size a ≤ H.size a :=
  inbT32 (rows_toNat s hs t (lt256 t)).2.2.1 (by have := (rows_toNat s hs t (lt256 t)).2.2.2.2.2; omega)
theorem inb32d : ∀ a, off2 (rowW32d s t) a + T32.size a ≤ H.size a :=
  inbT32 (rows_toNat s hs t (lt256 t)).2.2.2.1 (by have := (rows_toNat s hs t (lt256 t)).2.2.2.2.2; omega)
end

/-- The first row of trip `t` of the loop that sorts tile by tile. -/
def row1W (t : ℕ) : BitVec 32 := Scalar.muli (Scf.iv 0#32 1#32 t) 64#32
theorem row1W_eq (t : ℕ) (ht : t < 512) : row1W t = BitVec.ofNat 32 (64 * t) := by
  have h : ∀ t : Fin 512, row1W t.val = BitVec.ofNat 32 (64 * t.val) := by decide +kernel
  exact h ⟨t, ht⟩
theorem row1W_toNat (t : ℕ) (ht : t < 512) : (row1W t).toNat = 64 * t := by
  rw [row1W_eq t ht, BitVec.toNat_ofNat, Nat.mod_eq_of_lt (by omega)]
theorem inb1 (t : Fin L512.trips) : ∀ a, off2 (row1W t) a + T.size a ≤ H.size a :=
  inbT (row1W_toNat t (lt512 t)) (by have := lt512 t; omega)

/-! ## The passes -/

section Programs

variable {nD : Nat} {τ : Topo} {sig : RefSig} {Λ : Labels}
variable (K P : Memref sig .tc .vmem H .f32)

/-- One distance between tiles, at every pair of tiles. -/
def passFar (s : ℕ) (hs : s < 9) (k : BitVec 32) (flip : BitVec 1) : Prog (TpuEff nD τ sig (Elt F) Λ .tc) PUnit :=
  Scf.Loop.for L256 ok256 ⟨⟩ fun t _ =>
    bodyFar K P (off2 (rowW s 64 t)) (inb64a hs t) (off2 (rowW64b s t)) (inb64b hs t) (upW (rowW s 64 t) k flip)

/-- Distance 64 and then the distances inside the tiles. -/
def passFused (k : BitVec 32) (flip : BitVec 1) : Prog (TpuEff nD τ sig (Elt F) Λ .tc) PUnit :=
  Scf.Loop.for L256 ok256 ⟨⟩ fun t _ =>
    bodyFused K P (off2 (rowW 0 64 t)) (inb64a (by omega) t) (off2 (rowW64b 0 t)) (inb64b (by omega) t) (upW (rowW 0 64 t) k flip)

/-- Two distances between tiles. -/
def passFar2 (s : ℕ) (hs : s < 9) (k : BitVec 32) (flip : BitVec 1) : Prog (TpuEff nD τ sig (Elt F) Λ .tc) PUnit :=
  Scf.Loop.for L256 ok256 ⟨⟩ fun t _ =>
    bodyFar2 K P (off2 (rowW s 32 t)) (inb32a hs t) (off2 (rowW32b s t)) (inb32b hs t) (off2 (rowW32c s t)) (inb32c hs t)
      (off2 (rowW32d s t)) (inb32d hs t) (upW (rowW s 32 t) k flip)

/-- The keys computed and each tile sorted. -/
def passInit (den mean w b : FVec F R1 .f32) : Prog (TpuEff nD τ sig (Elt F) Λ .tc) PUnit :=
  Scf.Loop.for L512 ok512 ⟨⟩ fun t _ =>
    body1 K P (off2 (row1W t)) (inb1 t) (fun x => tileSort (row1W t) (keyOf den mean w b x.1, x.2))

/-! ## The first kernel -/

abbrev X2 : Shape := ⟨2, ![65536, 128]⟩
abbrev S0 : Shape := ⟨0, ![]⟩
theorem hR1 : 0 < R1.numel := by decide
theorem inbR1 : ∀ a, (![0, 0] : Fin 2 → Nat) a + R1.size a ≤ R1.size a := by decide

/-- The half of the rows that grid point `i` works on. -/
abbrev halfW (i : ℕ) : BitVec 32 := Scalar.muli (BitVec.ofNat 32 i) 32768#32
theorem inbHalf (i : Fin 2) : ∀ a, (![(halfW i.val).toNat, 0] : Fin 2 → Nat) a + H.size a ≤ X2.size a := by
  revert i; decide
abbrev rHalf (i : Fin 2) : Rect X2 := Rect.unit (s := X2) ![(halfW i.val).toNat, 0] H.size (inbHalf i)
abbrev half (m : Memref sig .tc .hbm X2 .f32) (i : Fin 2) : Memref sig .tc .hbm H .f32 := m.slice (rHalf i) (fun _ => rfl)

/-- A row of 128 read whole. -/
abbrev ld1 (m : Memref sig .tc .vmem R1 .f32) : Prog (TpuEff nD τ sig (Elt F) Λ .tc) (Vec F R1 .f32) :=
  Prog.lift (.load m (Rect.unit (s := R1) ![0, 0] R1.size inbR1).toLoadRect (View.loadsAt_vmem hR1))

variable (i : Fin 2) (x g ko po : Memref sig .tc .hbm X2 .f32) (mean var w b : Memref sig .tc .vmem R1 .f32)
  (hK : K.IsWhole) (hP : P.IsWhole) (sa sb : DmaSems sig S0)

/-- A half copied in. -/
abbrev startIn (src : Memref sig .tc .hbm X2 .f32) (dst : Memref sig .tc .vmem H .f32) (h : dst.IsWhole) (sm : DmaSems sig S0) :
    Prog (TpuEff nD τ sig (Elt F) Λ .tc) PUnit :=
  Prog.lift (.enqueueDma (half src i) (.here dst) (.dma sm.sem) (View.wordExact_bits rfl) h.wordExact ⟨Or.inl rfl, trivial⟩)
abbrev waitIn (src : Memref sig .tc .hbm X2 .f32) (dst : Memref sig .tc .vmem H .f32) (h : dst.IsWhole) (sm : DmaSems sig S0) :
    Prog (TpuEff nD τ sig (Elt F) Λ .tc) PUnit :=
  Prog.lift (.waitDma2 sm.sem (half src i) dst (View.wordExact_bits rfl) h.wordExact)
/-- A half copied out. -/
abbrev startOut (src : Memref sig .tc .vmem H .f32) (h : src.IsWhole) (dst : Memref sig .tc .hbm X2 .f32) (sm : DmaSems sig S0) :
    Prog (TpuEff nD τ sig (Elt F) Λ .tc) PUnit :=
  Prog.lift (.enqueueDma src (.here (half dst i)) (.dma sm.sem) h.wordExact (View.wordExact_bits rfl) ⟨Or.inl rfl, trivial⟩)
abbrev waitOut (src : Memref sig .tc .vmem H .f32) (h : src.IsWhole) (dst : Memref sig .tc .hbm X2 .f32) (sm : DmaSems sig S0) :
    Prog (TpuEff nD τ sig (Elt F) Λ .tc) PUnit :=
  Prog.lift (.waitDma2 sm.sem src (half dst i) h.wordExact (View.wordExact_bits rfl))

/-- The half and its payloads copied in, the keys computed, the stages up to block length 256. -/
def a1 : Prog (TpuEff nD τ sig (Elt F) Λ .tc) (BitVec 32) := do
  startIn i x K hK sa
  startIn i g P hP sb
  waitIn i x K hK sa
  waitIn i g P hP sb
  let vv ← ld1 var
  let vm ← ld1 mean
  let vw ← ld1 w
  let vb ← ld1 b
  passInit K P (sqrt (addf (shapeCast R1 vv (by decide)) (broadcast R1 (Scalar.ofBits .f32 0x3727C5AC#32)))) (shapeCast R1 vm (by decide))
    (shapeCast R1 vw (by decide)) (shapeCast R1 vb (by decide))
  passFused K P 128#32 0#1
  passFar K P 1 (by omega) 256#32 0#1
  passFused K P 256#32 0#1
  pure (BitVec.ofNat 32 i.val)

/-- The stages of block length 512, 1024, 2048, 4096 but for its last pass … -/
def a2 : Prog (TpuEff nD τ sig (Elt F) Λ .tc) PUnit := do
  passFar2 K P 2 (by omega) 512#32 0#1
  passFused K P 512#32 0#1
  passFar2 K P 3 (by omega) 1024#32 0#1
  passFar K P 1 (by omega) 1024#32 0#1
  passFused K P 1024#32 0#1
  passFar2 K P 4 (by omega) 2048#32 0#1
  passFar2 K P 2 (by omega) 2048#32 0#1
  passFused K P 2048#32 0#1
  passFar2 K P 5 (by omega) 4096#32 0#1
  passFar2 K P 3 (by omega) 4096#32 0#1
  pure ⟨⟩

/-- … of block length 4096, 8192, 16384 but for its last pass. -/
def a3 : Prog (TpuEff nD τ sig (Elt F) Λ .tc) PUnit := do
  passFar K P 1 (by omega) 4096#32 0#1
  passFused K P 4096#32 0#1
  passFar2 K P 6 (by omega) 8192#32 0#1
  passFar2 K P 4 (by omega) 8192#32 0#1
  passFar2 K P 2 (by omega) 8192#32 0#1
  passFused K P 8192#32 0#1
  passFar2 K P 7 (by omega) 16384#32 0#1
  passFar2 K P 5 (by omega) 16384#32 0#1
  passFar2 K P 3 (by omega) 16384#32 0#1
  passFar K P 1 (by omega) 16384#32 0#1
  pure ⟨⟩

/-- The first kernel: one half sorted, up in the first half and down in the second. -/
def phaseA : Prog (TpuEff nD τ sig (Elt F) Λ .tc) PUnit := do
  let a ← a1 K P i x g mean var w b hK hP sa sb
  a2 K P
  a3 K P
  passFused K P 16384#32 0#1
  passFar2 K P 8 (by omega) 32768#32 (Scalar.cmpi .eq a 1#32)
  passFar2 K P 6 (by omega) 32768#32 (Scalar.cmpi .eq a 1#32)
  passFar2 K P 4 (by omega) 32768#32 (Scalar.cmpi .eq a 1#32)
  passFar2 K P 2 (by omega) 32768#32 (Scalar.cmpi .eq a 1#32)
  passFused K P 32768#32 (Scalar.cmpi .eq a 1#32)
  startOut i K hK ko sa
  startOut i P hP po sb
  waitOut i K hK ko sa
  waitOut i P hP po sb
  pure ⟨⟩

end Programs

end Cert.Net
-- ==== Proof.Spec.lean ====
/-
The steps of the sorting network on arrays of (key, payload) pairs, by row and column, with no tiles
and no words: what one step at distance `j` makes of an array.  Stated at any float interpretation.
-/
module

public import Idealize.ShloMosaic.Lib.Updates.Memory
public import Idealize.ShloMosaic.PureOps

@[expose] public section

noncomputable section

namespace Cert.Net

open Idealize.ShloMosaic

variable {F : FTy → Type} [FloatOps F]

/-- A (key, payload) pair. -/
abbrev V (F : FTy → Type) := F .f32 × F .f32

/-- An array of pairs, at (row, column). -/
abbrev A2 (F : FTy → Type) := ℕ × ℕ → V F

/-- The truth of a proposition as a word of one bit. -/
def bit (p : Prop) [Decidable p] : BitVec 1 := BitVec.ofBool (decide p)

/-- Whether a pair comes before another: by key, then by payload. -/
def lt (a b : V F) : BitVec 1 :=
  IntOp.ori (FloatOps.cmpf .olt a.1 b.1)
    (IntOp.andi (FloatOps.cmpf .oeq a.1 b.1) (FloatOps.cmpf .olt a.2 b.2))

/-- One of two pairs. -/
def pick (c : BitVec 1) (a b : V F) : V F := if c = 1#1 then a else b

/-- A step at distance `j` as it is done inside a tile: each row takes its partner or stays, `up` being the
direction of each row. -/
def nearAt (j : ℕ) (up : ℕ → BitVec 1) (A : A2 F) : A2 F := fun p =>
  let l := (p.1 / j) % 2 = 1
  let q := if l then (p.1 - j, p.2) else (p.1 + j, p.2)
  pick (IntOp.xori (IntOp.xori (lt (A q) (A p)) (bit l)) (IntOp.xori (up p.1) 1#1)) (A q) (A p)

/-- A step at distance `j` as it is done between two tiles: the two rows of a pair change places or not. -/
def farAt (j : ℕ) (up : ℕ → BitVec 1) (A : A2 F) : A2 F := fun p =>
  if (p.1 / j) % 2 = 1 then
    pick (IntOp.xori (lt (A p) (A (p.1 - j, p.2))) (IntOp.xori (up p.1) 1#1)) (A (p.1 - j, p.2)) (A p)
  else
    pick (IntOp.xori (lt (A (p.1 + j, p.2)) (A p)) (IntOp.xori (up p.1) 1#1)) (A (p.1 + j, p.2)) (A p)

/-- The steps at distances 32, 16, 8, 4, 2, 1. -/
def finishAt (up : ℕ → BitVec 1) (A : A2 F) : A2 F :=
  nearAt 1 up (nearAt 2 up (nearAt 4 up (nearAt 8 up (nearAt 16 up (nearAt 32 up A)))))

/-- The direction of a row in the stage of block length `k`; `flip` turns all directions. -/
def upAt (k : ℕ) (flip : BitVec 1) (r : ℕ) : BitVec 1 := IntOp.xori (bit ((r / k) % 2 = 0)) flip

/-- The stages of block length 2, 4, …, 64, `u k` the directions of stage `k`. -/
def tileSortUp (u : ℕ → ℕ → BitVec 1) (A : A2 F) : A2 F :=
  finishAt (u 64)
    (nearAt 1 (u 32) (nearAt 2 (u 32) (nearAt 4 (u 32) (nearAt 8 (u 32) (nearAt 16 (u 32)
      (nearAt 1 (u 16) (nearAt 2 (u 16) (nearAt 4 (u 16) (nearAt 8 (u 16)
        (nearAt 1 (u 8) (nearAt 2 (u 8) (nearAt 4 (u 8)
          (nearAt 1 (u 4) (nearAt 2 (u 4) (nearAt 1 (u 2) A)))))))))))))))

/-- The stages of block length 2, 4, …, 64. -/
def tileSortAt (A : A2 F) : A2 F := tileSortUp (fun k => upAt k 0#1) A

/-- Distance 64 between tiles, then the distances inside the tiles. -/
def fusedAt (up : ℕ → BitVec 1) (A : A2 F) : A2 F := finishAt up (farAt 64 up A)

/-- Two distances between tiles, `j` and then half of it. -/
def far2At (j : ℕ) (up : ℕ → BitVec 1) (A : A2 F) : A2 F := farAt (j / 2) up (farAt j up A)

/-- A tile's two vectors are the array's pairs. -/
def IsP {h w : ℕ} (x : FVec F ⟨2, ![h, w]⟩ .f32 × FVec F ⟨2, ![h, w]⟩ .f32) (A : A2 F) : Prop :=
  ∀ ι, (x.1 ι, x.2 ι) = A ((ι 0).val, (ι 1).val)

end Cert.Net
-- ==== Proof.Hold.lean ====
/-
Two buffers of keys and payloads held at an array of pairs, and what a load or a store of a tile makes of them.
-/
module

public import proofs.«01_k».proof.Proof.Pass
public import proofs.«01_k».proof.Proof.Spec
public import Idealize.ShloMosaic.Lib.Updates.Own
public import Idealize.ShloMosaic.Lib.Updates.Memory
public import Idealize.ShloMosaic.Lib.Updates.Loop
public import Idealize.ShloMosaic.Lib.LaneScatter.Fold
public import Idealize.ShloMosaic.Lib.Tactic

@[expose] public section

set_option maxRecDepth 65536

noncomputable section

namespace Cert.Net

open Idealize.ShloMosaic Idealize.ShloMosaic.TcCoe
open Idealize.ShloMosaic.LaneScatter (raw)
open Idealize.ShloMosaic.Updates (Arr IsArr isArr_load isArr_store isMask_univ loadAt storeAt storeAt_hit storeAt_miss)
open Idealize.SL Idealize.SL.Sem
open Idealize.SL.BI (sProp)
open scoped Idealize.SL.BI
open Idealize.SL.BI.BIBase Idealize.SL.BI.Laws Idealize.SL.ProofMode
open Idealize.SL.RA

variable {F : FTy → Type} [FloatOps F]
variable {nD : Nat} {τ : Topo} {sig : RefSig} {Λ : Labels} {Ix : Type} [DecidableEq Ix] {U : Type} [URA U] {Lvl : Type} [Preorder Lvl]

local notation "𝕄" => MT nD τ sig Ix (Elt F) ℕ U Lvl

/-- The tile of `h` rows at row `o` of an array replaced by `W`. -/
def put {α : Type} (h o : ℕ) (W A : ℕ × ℕ → α) : ℕ × ℕ → α :=
  fun p => if o ≤ p.1 ∧ p.1 < o + h then W (p.1 - o, p.2) else A p

/-- A memref held whole at contents that read as the array `A`. -/
def hold (c : Dev nD) {sp : Space} {R C : ℕ} (m : Memref sig .tc sp ⟨2, ![R, C]⟩ .f32) (A : ℕ × ℕ → Elt F .f32) : sProp 𝕄 :=
  iprop(∃ f, raw (c : Thread nD τ) m f ∗ ⌜IsArr (R := R) (C := C) (m.view.read (Elt F) f) A⌝)

/-- What is held depends on the array's values at the buffer's places only. -/
theorem hold_congr (c : Dev nD) {sp : Space} {R C : ℕ} (m : Memref sig .tc sp ⟨2, ![R, C]⟩ .f32) {A B : ℕ × ℕ → Elt F .f32}
    (h : ∀ a b, a < R → b < C → A (a, b) = B (a, b)) : (hold c m A : sProp 𝕄) ⊢ hold c m B := by
  unfold hold
  iintro ⟨%f, H, %hf⟩
  iexists f
  isplitl [H]
  · iexact H
  ipureintro
  intro ι
  exact (hf ι).trans (h _ _ (ι 0).isLt (ι 1).isLt)

variable {defs : Defs nD τ sig (Elt F) Λ} (𝒱 : Variants) (c : Dev nD) (bd : Option 𝒱.V) {Γ : PendingWaitsCtx sig Ix} (E : Set ℕ)
variable {α : Type} {Q : α → sProp (MT nD τ sig Ix (Elt F) ℕ U Lvl)}

/-- A load of a tile of `h` rows: the tile's values go on. -/
theorem load_hold {R C h w : ℕ} {m : Memref sig .tc .vmem ⟨2, ![R, C]⟩ .f32} {A : ℕ × ℕ → Elt F .f32} {off : Fin 2 → ℕ} {o : ℕ}
    (ho : off = ![o, 0]) (inb : ∀ a, off a + (⟨2, ![h, w]⟩ : Shape).size a ≤ (⟨2, ![R, C]⟩ : Shape).size a)
    {hl : m.view.LoadsAt (Rect.unit (s := ⟨2, ![R, C]⟩) off (⟨2, ![h, w]⟩ : Shape).size inb).toLoadRect}
    {k : Vec F ⟨2, ![h, w]⟩ .f32 → Prog (TpuEff nD τ sig (Elt F) Λ .tc) α} {X : sProp 𝕄}
    (next : ∀ v : Vec F ⟨2, ![h, w]⟩ .f32, (∀ ι, v ι = A (o + (ι 0).val, (ι 1).val)) →
      iprop(hold c m A ∗ X) ⊢ wp frame (wpE' defs 𝒱 (c : Thread nD τ) bd Γ) E (k v) Q) :
    iprop(hold c m A ∗ X) ⊢ wp frame (wpE' defs 𝒱 (c : Thread nD τ) bd Γ) E
      ((Prog.lift (.load m (Rect.unit (s := ⟨2, ![R, C]⟩) off (⟨2, ![h, w]⟩ : Shape).size inb).toLoadRect hl)
        : Prog (TpuEff nD τ sig (Elt F) Λ .tc) (Vec F ⟨2, ![h, w]⟩ .f32)) >>= k) Q := by
  unfold hold at next ⊢
  iintro ⟨⟨%f, H, %hf⟩, X⟩
  iapply (wp_load (defs := defs) 𝒱 (c : Thread nD τ) bd (Γ := Γ) E (m := m) (hl := hl) (k := k) (Q := Q) (q := fullShare) (f := f)
    (S := m.view.set) (View.setOn_subset_set _ _)) $$ H
  iintro H
  iapply (next _ (fun ι => by
    have := isArr_load hf (o := (o, 0)) ho inb ι
    refine this.trans ?_
    show A (o + _, 0 + _) = _
    rw [Nat.zero_add]))
  isplitl [H]
  · iexists f
    isplitl [H]
    · iexact H
    ipureintro
    exact hf
  iexact X

/-- A store of a tile of `h` rows over all columns. -/
theorem store_hold {R C h : ℕ} {m : Memref sig .tc .vmem ⟨2, ![R, C]⟩ .f32} {A : ℕ × ℕ → Elt F .f32} {off : Fin 2 → ℕ} {o : ℕ}
    (ho : off = ![o, 0]) (inb : ∀ a, off a + (⟨2, ![h, C]⟩ : Shape).size a ≤ (⟨2, ![R, C]⟩ : Shape).size a)
    {v : FVec F ⟨2, ![h, C]⟩ .f32} {W : ℕ × ℕ → Elt F .f32} (hv : ∀ ι, v ι = W ((ι 0).val, (ι 1).val))
    {hx hm} {k : PUnit → Prog (TpuEff nD τ sig (Elt F) Λ .tc) α} {X : sProp 𝕄}
    (next : iprop(hold c m (put h o W A) ∗ X) ⊢ wp frame (wpE' defs 𝒱 (c : Thread nD τ) bd Γ) E (k ⟨⟩) Q) :
    iprop(hold c m A ∗ X) ⊢ wp frame (wpE' defs 𝒱 (c : Thread nD τ) bd Γ) E
      (Prog.lift (.store m (Rect.unit (s := ⟨2, ![R, C]⟩) off (⟨2, ![h, C]⟩ : Shape).size inb) v Finset.univ hx hm) >>= k) Q := by
  unfold hold at next ⊢
  iintro ⟨⟨%f, H, %hf⟩, X⟩
  iapply (wp_store (defs := defs) 𝒱 (c : Thread nD τ) bd (Γ := Γ) E (m := m) (hx := hx) (hm := hm) (k := k) (Q := Q) (f := f)
    (S := m.view.set) ((View.setOn_subset_set _ _).trans (View.set_slice_subset _ _))) $$ H
  iintro H
  iapply next
  isplitl [H]
  · iexists _
    isplitl [H]
    · iexact H
    ipureintro
    intro ι
    refine (isArr_store hf (o := (o, 0)) ho inb (W := W) hv isMask_univ ι).trans ?_
    have h1 : (ι 1).val < C := (ι 1).isLt
    unfold put
    by_cases hc : o ≤ (ι 0).val ∧ (ι 0).val < o + h
    · rw [if_pos hc]
      exact storeAt_hit (o := (o, 0)) (s := (h, C)) (p := ((ι 0).val, (ι 1).val)) ⟨⟨hc, Nat.zero_le _, by show _ < 0 + C; omega⟩, trivial⟩
    · rw [if_neg hc]
      exact storeAt_miss (o := (o, 0)) (s := (h, C)) (p := ((ι 0).val, (ι 1).val)) (fun h => hc h.1.1)
  iexact X

end Cert.Net
-- ==== Proof.Tile.lean ====
/-
The steps on tiles, as vectors, are the steps on arrays: what each of the tile functions of `Net` makes of a
tile whose vectors are an array's pairs.
-/
module

public import proofs.«01_k».proof.Proof.Net
public import proofs.«01_k».proof.Proof.Spec
public import Idealize.ShloMosaic.Lib.PointwiseCore
public import Mathlib.Data.Nat.Bitwise
public import Mathlib.Tactic.Ring

@[expose] public section

set_option maxRecDepth 65536

noncomputable section

namespace Cert.Net

open Idealize.ShloMosaic

variable {F : FTy → Type} [FloatOps F]

/-- The later rows of their pairs, by row number. -/
theorem late_at (s : ℕ) (hs : s < 6) (ι : T1.Idx) :
    late rows (BitVec.ofNat 32 (2 ^ s)) ι = bit (((ι 0).val / 2 ^ s) % 2 = 1) := by
  have key : ∀ (s : Fin 6) (r : Fin 64), IntOp.cmpi .ne (IntOp.andi (BitVec.ofNat 32 r.val) (BitVec.ofNat 32 (2 ^ s.val))) 0#32
      = bit ((r.val / 2 ^ s.val) % 2 = 1) := by decide
  have h := key ⟨s, hs⟩ (ι 0)
  have e : rows ι = BitVec.ofNat 32 (ι 0).val := Idealize.ShloMosaic.iota_single_apply _ _ _ _ _ _
  show IntOp.cmpi .ne (IntOp.andi (rows ι) (BitVec.ofNat 32 (2 ^ s))) 0#32 = _
  rw [e]; exact h

/-- A value chosen by a bit. -/
theorem select_bit {α : Type} (p : Prop) [Decidable p] (a b : α) : Scalar.select (bit p) a b = if p then a else b := by
  unfold Scalar.select bit
  by_cases h : p <;> simp [h]

/-- The partner of each row at distance 32. -/
theorem partner32_at (v : FVec F T .f32) (ι : T.Idx) (B : ℕ × ℕ → F .f32) (hv : ∀ ι, v ι = B ((ι 0).val, (ι 1).val)) :
    partner32 (late rows 32#32) v ι
      = B (if ((ι 0).val / 32) % 2 = 1 then ((ι 0).val - 32, (ι 1).val) else ((ι 0).val + 32, (ι 1).val)) := by
  have hv' : ∀ a b, v (ix2 a b) = B (a.val, b.val) := fun a b => hv (ix2 a b)
  idx_vars ι
  unfold partner32 partnerBig roll2
  pointwise
  have h0 := ι0.isLt
  by_cases hb : ι0.val / 32 % 2 = 1
  · have hb' : ι0.val % 64 ≥ 32 := by omega
    simp only [hv', Nat.div_one] at *
    split_ifs <;> first | omega | (congr 2 <;> omega) | rfl
  · have hb' : ι0.val % 64 < 32 := by omega
    simp only [hv', Nat.div_one] at *
    split_ifs <;> first | omega | (congr 2 <;> omega) | rfl

/-- The partner of each row at distance 16. -/
theorem partner16_at (v : FVec F T .f32) (ι : T.Idx) (B : ℕ × ℕ → F .f32) (hv : ∀ ι, v ι = B ((ι 0).val, (ι 1).val)) :
    partner16 (late rows 16#32) v ι
      = B (if ((ι 0).val / 16) % 2 = 1 then ((ι 0).val - 16, (ι 1).val) else ((ι 0).val + 16, (ι 1).val)) := by
  have hv' : ∀ a b, v (ix2 a b) = B (a.val, b.val) := fun a b => hv (ix2 a b)
  idx_vars ι
  unfold partner16 partnerBig roll2
  pointwise
  rw [show late rows 16#32 (ix2 ι0 0) = bit ((ι0.val / 16) % 2 = 1) from late_at 4 (by omega) (ix2 ι0 0), select_bit]
  have h0 := ι0.isLt
  by_cases hb : ι0.val / 16 % 2 = 1
  · have hb' : ι0.val % 32 ≥ 16 := by omega
    simp only [hv', Nat.div_one] at *
    split_ifs <;> first | omega | (congr 2 <;> omega) | rfl
  · have hb' : ι0.val % 32 < 16 := by omega
    simp only [hv', Nat.div_one] at *
    split_ifs <;> first | omega | (congr 2 <;> omega) | rfl

/-- The partner of each row at distance 8. -/
theorem partner8_at (v : FVec F T .f32) (ι : T.Idx) (B : ℕ × ℕ → F .f32) (hv : ∀ ι, v ι = B ((ι 0).val, (ι 1).val)) :
    partner8 (late rows 8#32) v ι
      = B (if ((ι 0).val / 8) % 2 = 1 then ((ι 0).val - 8, (ι 1).val) else ((ι 0).val + 8, (ι 1).val)) := by
  have hv' : ∀ a b, v (ix2 a b) = B (a.val, b.val) := fun a b => hv (ix2 a b)
  idx_vars ι
  unfold partner8 partnerBig roll2
  pointwise
  rw [show late rows 8#32 (ix2 ι0 0) = bit ((ι0.val / 8) % 2 = 1) from late_at 3 (by omega) (ix2 ι0 0), select_bit]
  have h0 := ι0.isLt
  by_cases hb : ι0.val / 8 % 2 = 1
  · have hb' : ι0.val % 16 ≥ 8 := by omega
    simp only [hv', Nat.div_one] at *
    split_ifs <;> first | omega | (congr 2 <;> omega) | rfl
  · have hb' : ι0.val % 16 < 8 := by omega
    simp only [hv', Nat.div_one] at *
    split_ifs <;> first | omega | (congr 2 <;> omega) | rfl

/-- The partner of each row at distance 4. -/
theorem partner4_at (v : FVec F T .f32) (ι : T.Idx) (B : ℕ × ℕ → F .f32) (hv : ∀ ι, v ι = B ((ι 0).val, (ι 1).val)) :
    partner4 v ι
      = B (if ((ι 0).val / 4) % 2 = 1 then ((ι 0).val - 4, (ι 1).val) else ((ι 0).val + 4, (ι 1).val)) := by
  have hv' : ∀ a b, v (ix2 a b) = B (a.val, b.val) := fun a b => hv (ix2 a b)
  idx_vars ι
  unfold partner4 roll3
  pointwise
  have h0 := ι0.isLt
  by_cases hb : ι0.val / 4 % 2 = 1
  · have hb' : ι0.val % 8 ≥ 4 := by omega
    simp only [hv', Nat.div_one] at *
    split_ifs <;> first | omega | (congr 2 <;> omega) | rfl
  · have hb' : ι0.val % 8 < 4 := by omega
    simp only [hv', Nat.div_one] at *
    split_ifs <;> first | omega | (congr 2 <;> omega) | rfl

/-- The partner of each row at distance 2. -/
theorem partner2_at (v : FVec F T .f32) (ι : T.Idx) (B : ℕ × ℕ → F .f32) (hv : ∀ ι, v ι = B ((ι 0).val, (ι 1).val)) :
    partner2 (late rows 2#32) v ι
      = B (if ((ι 0).val / 2) % 2 = 1 then ((ι 0).val - 2, (ι 1).val) else ((ι 0).val + 2, (ι 1).val)) := by
  have hv' : ∀ a b, v (ix2 a b) = B (a.val, b.val) := fun a b => hv (ix2 a b)
  idx_vars ι
  unfold partner2 partnerSmall roll3
  pointwise
  rw [show late rows 2#32 (ix2 ι0 0) = bit ((ι0.val / 2) % 2 = 1) from late_at 1 (by omega) (ix2 ι0 0), select_bit]
  have h0 := ι0.isLt
  by_cases hb : ι0.val / 2 % 2 = 1
  · have hb' : ι0.val % 4 ≥ 2 := by omega
    simp only [hv', Nat.div_one] at *
    split_ifs <;> first | omega | (congr 2 <;> omega) | rfl
  · have hb' : ι0.val % 4 < 2 := by omega
    simp only [hv', Nat.div_one] at *
    split_ifs <;> first | omega | (congr 2 <;> omega) | rfl

/-- The partner of each row at distance 1. -/
theorem partner1_at (v : FVec F T .f32) (ι : T.Idx) (B : ℕ × ℕ → F .f32) (hv : ∀ ι, v ι = B ((ι 0).val, (ι 1).val)) :
    partner1 (late rows 1#32) v ι
      = B (if ((ι 0).val / 1) % 2 = 1 then ((ι 0).val - 1, (ι 1).val) else ((ι 0).val + 1, (ι 1).val)) := by
  have hv' : ∀ a b, v (ix2 a b) = B (a.val, b.val) := fun a b => hv (ix2 a b)
  idx_vars ι
  unfold partner1 partnerSmall roll3
  pointwise
  rw [show late rows 1#32 (ix2 ι0 0) = bit ((ι0.val / 1) % 2 = 1) from late_at 0 (by omega) (ix2 ι0 0), select_bit]
  have h0 := ι0.isLt
  by_cases hb : ι0.val / 1 % 2 = 1
  · have hb' : ι0.val % 2 ≥ 1 := by omega
    simp only [hv', Nat.div_one] at *
    split_ifs <;> first | omega | (congr 2 <;> omega) | rfl
  · have hb' : ι0.val % 2 < 1 := by omega
    simp only [hv', Nat.div_one] at *
    split_ifs <;> first | omega | (congr 2 <;> omega) | rfl

/-! ## Steps -/

/-- A vector choice of two pairs. -/
theorem pair_select {s : Shape} (c : IVec s 1) (a b : FVec F s .f32) (a' b' : FVec F s .f32) (ι : s.Idx) :
    (select c a b ι, select c a' b' ι) = pick (c ι) (a ι, a' ι) (b ι, b' ι) := by
  show (if c ι = 1#1 then a ι else b ι, if c ι = 1#1 then a' ι else b' ι) = if c ι = 1#1 then (a ι, a' ι) else (b ι, b' ι)
  split_ifs <;> rfl

/-- A tile's directions, by row number. -/
def DirIs (up : IVec T1 1) (u : ℕ → BitVec 1) : Prop := ∀ ι, up ι = u (ι 0).val

/-- A step inside a tile whose partners are known. -/
theorem step_at (s : ℕ) (hs : s < 6) (up : IVec T1 1) (pk pp : FVec F T .f32) (x : Pair F T) (A : A2 F) (u : ℕ → BitVec 1)
    (hx : IsP x A) (hu : DirIs up u)
    (hp : ∀ ι : T.Idx, (pk ι, pp ι)
      = A (if ((ι 0).val / 2 ^ s) % 2 = 1 then ((ι 0).val - 2 ^ s, (ι 1).val) else ((ι 0).val + 2 ^ s, (ι 1).val))) :
    IsP (step (late rows (BitVec.ofNat 32 (2 ^ s))) up pk pp x) (nearAt (2 ^ s) u A) := by
  intro ι
  unfold step
  simp only []
  rw [pair_select, hx ι, hp ι]
  have e : takes (late rows (BitVec.ofNat 32 (2 ^ s))) up pk pp x.1 x.2 ι
      = IntOp.xori (IntOp.xori (lt (pk ι, pp ι) (x.1 ι, x.2 ι)) (late rows (BitVec.ofNat 32 (2 ^ s)) (ix2 (ι 0) 0)))
        (IntOp.xori (up (ix2 (ι 0) 0)) 1#1) := by
    idx_vars ι
    unfold takes before lt
    pointwise
  rw [e, hx ι, hp ι, hu, late_at s hs]
  rfl

theorem isP_fst {s : Shape} {x : FVec F s .f32 × FVec F s .f32} {A : s.Idx → V F} (h : ∀ ι, (x.1 ι, x.2 ι) = A ι) (ι : s.Idx) :
    x.1 ι = (A ι).1 ∧ x.2 ι = (A ι).2 := ⟨congrArg Prod.fst (h ι), congrArg Prod.snd (h ι)⟩

/-- Two partner vectors, from the lemma on one. -/
theorem partners {g : FVec F T .f32 → FVec F T .f32} {q : ℕ × ℕ → ℕ × ℕ}
    (hg : ∀ (v : FVec F T .f32) (ι : T.Idx) (B : ℕ × ℕ → F .f32), (∀ ι, v ι = B ((ι 0).val, (ι 1).val)) → g v ι = B (q ((ι 0).val, (ι 1).val)))
    {x : Pair F T} {A : A2 F} (hx : IsP x A) (ι : T.Idx) : (g x.1 ι, g x.2 ι) = A (q ((ι 0).val, (ι 1).val)) := by
  rw [hg x.1 ι (fun p => (A p).1) (fun ι => (isP_fst hx ι).1), hg x.2 ι (fun p => (A p).2) (fun ι => (isP_fst hx ι).2)]

theorem near32_at {up : IVec T1 1} {x : Pair F T} {A : A2 F} {u : ℕ → BitVec 1} (hx : IsP x A) (hu : DirIs up u) :
    IsP (near32 up x) (nearAt 32 u A) :=
  step_at 5 (by omega) up _ _ x A u hx hu (partners (q := fun p => if p.1 / 32 % 2 = 1 then (p.1 - 32, p.2) else (p.1 + 32, p.2))
    partner32_at hx)
theorem near16_at {up : IVec T1 1} {x : Pair F T} {A : A2 F} {u : ℕ → BitVec 1} (hx : IsP x A) (hu : DirIs up u) :
    IsP (near16 up x) (nearAt 16 u A) :=
  step_at 4 (by omega) up _ _ x A u hx hu (partners (q := fun p => if p.1 / 16 % 2 = 1 then (p.1 - 16, p.2) else (p.1 + 16, p.2))
    partner16_at hx)
theorem near8_at {up : IVec T1 1} {x : Pair F T} {A : A2 F} {u : ℕ → BitVec 1} (hx : IsP x A) (hu : DirIs up u) :
    IsP (near8 up x) (nearAt 8 u A) :=
  step_at 3 (by omega) up _ _ x A u hx hu (partners (q := fun p => if p.1 / 8 % 2 = 1 then (p.1 - 8, p.2) else (p.1 + 8, p.2))
    partner8_at hx)
theorem near4_at {up : IVec T1 1} {x : Pair F T} {A : A2 F} {u : ℕ → BitVec 1} (hx : IsP x A) (hu : DirIs up u) :
    IsP (near4 up x) (nearAt 4 u A) :=
  step_at 2 (by omega) up _ _ x A u hx hu (partners (q := fun p => if p.1 / 4 % 2 = 1 then (p.1 - 4, p.2) else (p.1 + 4, p.2))
    partner4_at hx)
theorem near2_at {up : IVec T1 1} {x : Pair F T} {A : A2 F} {u : ℕ → BitVec 1} (hx : IsP x A) (hu : DirIs up u) :
    IsP (near2 up x) (nearAt 2 u A) :=
  step_at 1 (by omega) up _ _ x A u hx hu (partners (q := fun p => if p.1 / 2 % 2 = 1 then (p.1 - 2, p.2) else (p.1 + 2, p.2))
    partner2_at hx)
theorem near1_at {up : IVec T1 1} {x : Pair F T} {A : A2 F} {u : ℕ → BitVec 1} (hx : IsP x A) (hu : DirIs up u) :
    IsP (near1 up x) (nearAt 1 u A) :=
  step_at 0 (by omega) up _ _ x A u hx hu (partners (q := fun p => if p.1 / 1 % 2 = 1 then (p.1 - 1, p.2) else (p.1 + 1, p.2))
    partner1_at hx)

theorem finish_at {up : IVec T1 1} {x : Pair F T} {A : A2 F} {u : ℕ → BitVec 1} (hx : IsP x A) (hu : DirIs up u) :
    IsP (finish up x) (finishAt u A) :=
  near1_at (near2_at (near4_at (near8_at (near16_at (near32_at hx hu) hu) hu) hu) hu) hu

/-- The direction vector of the tile at row `r0`. -/
theorem dir_at (s : ℕ) (hs : s < 7) (r0 : ℕ) (h0 : r0 < 32768) (ι : T1.Idx) :
    dir (BitVec.ofNat 32 r0) (BitVec.ofNat 32 (2 ^ s)) ι = upAt (2 ^ s) 0#1 (r0 + (ι 0).val) := by
  have e : rows ι = BitVec.ofNat 32 (ι 0).val := Idealize.ShloMosaic.iota_single_apply _ _ _ _ _ _
  show IntOp.cmpi .eq (IntOp.andi (IntOp.addi (rows ι) (BitVec.ofNat 32 r0)) (BitVec.ofNat 32 (2 ^ s))) 0#32 = _
  have hι : (ι 0).val < 64 := (ι 0).isLt
  rw [e, show IntOp.addi (BitVec.ofNat 32 (ι 0).val) (BitVec.ofNat 32 r0) = BitVec.ofNat 32 (r0 + (ι 0).val) by
    show BitVec.ofNat 32 (ι 0).val + BitVec.ofNat 32 r0 = _
    rw [← BitVec.ofNat_add, Nat.add_comm]]
  generalize hx : r0 + (ι 0).val = x
  have hx' : x < 2 ^ 32 := by omega
  unfold upAt
  show BitVec.ofBool (decide (BitVec.ofNat 32 x &&& BitVec.ofNat 32 (2 ^ s) = 0#32)) = bit ((x / 2 ^ s) % 2 = 0) ^^^ 0#1
  rw [BitVec.xor_zero]
  unfold bit
  congr 1
  rw [decide_eq_decide, ← BitVec.toNat_inj, BitVec.toNat_and, BitVec.toNat_ofNat, BitVec.toNat_ofNat, BitVec.toNat_ofNat,
    Nat.mod_eq_of_lt hx', Nat.mod_eq_of_lt (by have := Nat.pow_lt_pow_right (a := 2) (by omega) (show s < 32 by omega); omega),
    Nat.zero_mod, Nat.and_two_pow, Nat.testBit_eq_decide_div_mod_eq]
  rcases Nat.mod_two_eq_zero_or_one (x / 2 ^ s) with h | h <;> simp [h]

theorem tileSort_at (r0 : ℕ) (h0 : r0 < 32768) {x : Pair F T} {A : A2 F} (hx : IsP x A) :
    IsP (tileSort (BitVec.ofNat 32 r0) x) (tileSortUp (fun k r => upAt k 0#1 (r0 + r)) A) := by
  have d1 : DirIs _ (fun r => upAt 2 0#1 (r0 + r)) := dir_at 1 (by omega) r0 h0
  have d2 : DirIs _ (fun r => upAt 4 0#1 (r0 + r)) := dir_at 2 (by omega) r0 h0
  have d3 : DirIs _ (fun r => upAt 8 0#1 (r0 + r)) := dir_at 3 (by omega) r0 h0
  have d4 : DirIs _ (fun r => upAt 16 0#1 (r0 + r)) := dir_at 4 (by omega) r0 h0
  have d5 : DirIs _ (fun r => upAt 32 0#1 (r0 + r)) := dir_at 5 (by omega) r0 h0
  have d6 : DirIs _ (fun r => upAt 64 0#1 (r0 + r)) := dir_at 6 (by omega) r0 h0
  have s2 := near1_at (near2_at (near1_at hx d1) d2) d2
  have s3 := near1_at (near2_at (near4_at s2 d3) d3) d3
  have s4 := near1_at (near2_at (near4_at (near8_at s3 d4) d4) d4) d4
  have s5 := near1_at (near2_at (near4_at (near8_at (near16_at s4 d5) d5) d5) d5) d5
  exact finish_at s5 d6

/-! ## The same at a tile's place in the array -/

/-- An array from row `o` on. -/
def shift (o : ℕ) (A : A2 F) : A2 F := fun p => A (o + p.1, p.2)

omit [FloatOps F] in
theorem shift_apply (o : ℕ) (A : A2 F) (p : ℕ × ℕ) : shift o A p = A (o + p.1, p.2) := rfl

theorem nearAt_shift (j : ℕ) (hj : 0 < j) (o : ℕ) (ho : 2 * j ∣ o) (up : ℕ → BitVec 1) (A : A2 F) :
    nearAt j (fun r => up (o + r)) (shift o A) = shift o (nearAt j up A) := by
  funext p
  obtain ⟨c, rfl⟩ := ho
  have e : (2 * j * c + p.1) / j % 2 = p.1 / j % 2 := by
    rw [show 2 * j * c + p.1 = p.1 + j * (2 * c) by ring, Nat.add_mul_div_left _ _ hj]; omega
  unfold nearAt
  simp only [shift_apply, e]
  by_cases h : p.1 / j % 2 = 1
  · have hle : j ≤ p.1 := by
      by_contra hc
      rw [Nat.div_eq_of_lt (by omega)] at h; omega
    simp only [h, if_true, shift_apply]
    rw [show 2 * j * c + (p.1 - j) = 2 * j * c + p.1 - j by omega]
  · simp only [h, if_false, shift_apply]
    rw [show 2 * j * c + (p.1 + j) = 2 * j * c + p.1 + j by omega]

theorem finishAt_shift (o : ℕ) (ho : 64 ∣ o) (up : ℕ → BitVec 1) (A : A2 F) :
    finishAt (fun r => up (o + r)) (shift o A) = shift o (finishAt up A) := by
  have d : ∀ a b : ℕ, a * b = 64 → a ∣ o := fun a b h => Dvd.dvd.trans ⟨b, h.symm⟩ ho
  unfold finishAt
  rw [nearAt_shift 32 (by omega) o (d _ 1 rfl), nearAt_shift 16 (by omega) o (d _ 2 rfl), nearAt_shift 8 (by omega) o (d _ 4 rfl),
    nearAt_shift 4 (by omega) o (d _ 8 rfl), nearAt_shift 2 (by omega) o (d _ 16 rfl), nearAt_shift 1 (by omega) o (d _ 32 rfl)]

/-- The whole sort of the tile at row `r0`. -/
theorem tileSort_shift (r0 : ℕ) (h0 : r0 < 32768) (hd : 64 ∣ r0) {x : Pair F T} {A : A2 F} (hx : IsP x (shift r0 A)) :
    IsP (tileSort (BitVec.ofNat 32 r0) x) (shift r0 (tileSortAt A)) := by
  have n : ∀ j, 0 < j → 2 * j ∣ 64 → ∀ (k : ℕ) (A : A2 F),
      nearAt j (fun r => upAt k 0#1 (r0 + r)) (shift r0 A) = shift r0 (nearAt j (upAt k 0#1) A) :=
    fun j hj h k A => nearAt_shift j hj r0 (h.trans hd) (upAt k 0#1) A
  have h := tileSort_at r0 h0 hx
  unfold tileSortUp at h
  unfold tileSortAt tileSortUp
  rw [n 1 (by decide) (by decide), n 2 (by decide) (by decide), n 1 (by decide) (by decide),
    n 4 (by decide) (by decide), n 2 (by decide) (by decide), n 1 (by decide) (by decide),
    n 8 (by decide) (by decide), n 4 (by decide) (by decide), n 2 (by decide) (by decide), n 1 (by decide) (by decide),
    n 16 (by decide) (by decide), n 8 (by decide) (by decide), n 4 (by decide) (by decide), n 2 (by decide) (by decide),
    n 1 (by decide) (by decide), finishAt_shift r0 hd] at h
  exact h

/-- The exchange bit of two tiles at an index. -/
theorem swaps_at {h w : ℕ} (up : BitVec 1) (a b : Pair F ⟨2, ![h, w]⟩) (ι : (⟨2, ![h, w]⟩ : Shape).Idx) :
    swaps ⟨2, ![h, w]⟩ up a b ι = IntOp.xori (lt (b.1 ι, b.2 ι) (a.1 ι, a.2 ι)) (IntOp.xori up 1#1) := rfl

/-- The earlier tile of a step at distance `j`. -/
theorem farLo_at {h w : ℕ} {up : BitVec 1} {a b : Pair F ⟨2, ![h, w]⟩} {A : A2 F} {o ob j : ℕ} {u : ℕ → BitVec 1}
    (ha : IsP a (shift o A)) (hb : IsP b (shift ob A)) (hob : ob = o + j)
    (hu : ∀ r < h, u (o + r) = up) (hd : ∀ r < h, ((o + r) / j) % 2 = 0) :
    IsP (farLo ⟨2, ![h, w]⟩ up a b) (shift o (farAt j u A)) := by
  intro ι
  unfold farLo
  simp only []
  rw [pair_select, swaps_at, ha ι, hb ι]
  have hι : (ι 0).val < h := (ι 0).isLt
  simp only [shift_apply, farAt, hd _ hι, hu _ hι, hob]
  rw [if_neg (by omega), show o + j + (ι 0).val = o + (ι 0).val + j by omega]

/-- The later tile of a step at distance `j`. -/
theorem farHi_at {h w : ℕ} {up : BitVec 1} {a b : Pair F ⟨2, ![h, w]⟩} {A : A2 F} {o ob j : ℕ} {u : ℕ → BitVec 1}
    (ha : IsP a (shift o A)) (hb : IsP b (shift ob A)) (hob : ob = o + j)
    (hu : ∀ r < h, u (ob + r) = up) (hd : ∀ r < h, ((ob + r) / j) % 2 = 1) :
    IsP (farHi ⟨2, ![h, w]⟩ up a b) (shift ob (farAt j u A)) := by
  intro ι
  unfold farHi
  simp only []
  rw [pair_select, swaps_at, ha ι, hb ι]
  have hι : (ι 0).val < h := (ι 0).isLt
  simp only [shift_apply, farAt, hd _ hι, hu _ hι, if_true]
  rw [show ob + (ι 0).val - j = o + (ι 0).val by omega]

/-- The earlier tile of a pass that does distance 64 and then the distances inside the tiles. -/
theorem fusedLo_at {up : BitVec 1} {a b : Pair F T} {A : A2 F} {o : ℕ} {u : ℕ → BitVec 1}
    (ha : IsP a (shift o A)) (hb : IsP b (shift (o + 64) A)) (ho : 128 ∣ o) (hu : ∀ r < 128, u (o + r) = up) :
    IsP (finish (broadcast T1 up) (farLo T up a b)) (shift o (fusedAt u A)) := by
  unfold fusedAt
  rw [← finishAt_shift o (Dvd.dvd.trans (by decide) ho)]
  exact finish_at (farLo_at ha hb rfl (fun r hr => hu r (by omega)) (fun r hr => by omega))
    (fun ι => (hu _ (by have : (ι 0).val < 64 := (ι 0).isLt; omega)).symm)

/-- The later tile of a pass that does distance 64 and then the distances inside the tiles. -/
theorem fusedHi_at {up : BitVec 1} {a b : Pair F T} {A : A2 F} {o : ℕ} {u : ℕ → BitVec 1}
    (ha : IsP a (shift o A)) (hb : IsP b (shift (o + 64) A)) (ho : 128 ∣ o) (hu : ∀ r < 128, u (o + r) = up) :
    IsP (finish (broadcast T1 up) (farHi T up a b)) (shift (o + 64) (fusedAt u A)) := by
  unfold fusedAt
  rw [← finishAt_shift (o + 64) (by omega)]
  refine finish_at (farHi_at ha hb rfl (fun r hr => ?_) (fun r hr => by omega)) (fun ι => ?_)
  · rw [Nat.add_assoc]; exact hu _ (by omega)
  · rw [Nat.add_assoc]; exact (hu _ (by have : (ι 0).val < 64 := (ι 0).isLt; omega)).symm

end Cert.Net
-- ==== Proof.Rows.lean ====
/-
The rows of a trip: where its tiles lie, in which block, and to which trip a row belongs.
-/
module

public import proofs.«01_k».proof.Proof.Pass
public import proofs.«01_k».proof.Proof.Spec
public import Mathlib.Data.Nat.Bitwise
public import Mathlib.Tactic.IntervalCases

@[expose] public section

namespace Cert.Net

open Idealize.ShloMosaic

/-- The trip that row `r` belongs to, at exponent `s` in tiles of `h` rows. -/
def own (s h r : ℕ) : ℕ := r / (128 * 2 ^ s) * 2 ^ s + r % (h * 2 ^ s) / h

theorem own64 {s t r : ℕ} (hs : s < 9) (hr : r < 32768) :
    own s 64 r < 256 ∧ (own s 64 r = t ↔ (rowN s 64 t ≤ r ∧ r < rowN s 64 t + 64)
      ∨ (rowN s 64 t + 64 * 2 ^ s ≤ r ∧ r < rowN s 64 t + 64 * 2 ^ s + 64)) := by
  unfold own rowN
  interval_cases s <;> norm_num <;> omega

theorem own32 {s t r : ℕ} (hs : s < 9) (hr : r < 32768) :
    own s 32 r < 256 ∧ (own s 32 r = t ↔ (rowN s 32 t ≤ r ∧ r < rowN s 32 t + 32)
      ∨ (rowN s 32 t + 32 * 2 ^ s ≤ r ∧ r < rowN s 32 t + 32 * 2 ^ s + 32)
      ∨ (rowN s 32 t + 2 * (32 * 2 ^ s) ≤ r ∧ r < rowN s 32 t + 2 * (32 * 2 ^ s) + 32)
      ∨ (rowN s 32 t + 3 * (32 * 2 ^ s) ≤ r ∧ r < rowN s 32 t + 3 * (32 * 2 ^ s) + 32)) := by
  unfold own rowN
  interval_cases s <;> norm_num <;> omega

theorem rows64 {s t i : ℕ} (hs : s < 9) (hi : i < 64) :
    ((rowN s 64 t + i) / (64 * 2 ^ s)) % 2 = 0 ∧ ((rowN s 64 t + 64 * 2 ^ s + i) / (64 * 2 ^ s)) % 2 = 1
      ∧ (rowN s 64 t + i) / (128 * 2 ^ s) = rowN s 64 t / (128 * 2 ^ s)
      ∧ (rowN s 64 t + 64 * 2 ^ s + i) / (128 * 2 ^ s) = rowN s 64 t / (128 * 2 ^ s) := by
  unfold rowN
  interval_cases s <;> norm_num <;> omega

theorem rows32 {s t i q : ℕ} (hs : s < 9) (hi : i < 32) (hq : q < 4) :
    ((rowN s 32 t + q * (32 * 2 ^ s) + i) / (64 * 2 ^ s)) % 2 = q / 2 ∧ ((rowN s 32 t + q * (32 * 2 ^ s) + i) / (32 * 2 ^ s)) % 2 = q % 2
      ∧ (rowN s 32 t + q * (32 * 2 ^ s) + i) / (128 * 2 ^ s) = rowN s 32 t / (128 * 2 ^ s) := by
  unfold rowN
  interval_cases s <;> interval_cases q <;> norm_num <;> omega

/-- The direction word of a trip. -/
theorem upW_eq (e : ℕ) (he : e < 32) (w : BitVec 32) (flip : BitVec 1) :
    upW w (BitVec.ofNat 32 (2 ^ e)) flip = upAt (2 ^ e) flip w.toNat := by
  show IntOp.xori (BitVec.ofBool (decide (w &&& BitVec.ofNat 32 (2 ^ e) = 0#32))) flip = _
  unfold upAt bit
  congr 2
  rw [decide_eq_decide, ← BitVec.toNat_inj, BitVec.toNat_and, BitVec.toNat_ofNat, BitVec.toNat_ofNat,
    Nat.mod_eq_of_lt (Nat.pow_lt_pow_right (by omega) he), Nat.zero_mod, Nat.and_two_pow, Nat.testBit_eq_decide_div_mod_eq]
  rcases Nat.mod_two_eq_zero_or_one (w.toNat / 2 ^ e) with h | h <;> simp [h]

/-- Rows of one block of `128 * 2 ^ s` have the same direction in every stage of block length at least that. -/
theorem up_same {s e a b : ℕ} (hse : s + 7 ≤ e) (flip : BitVec 1) (h : a / (128 * 2 ^ s) = b / (128 * 2 ^ s)) :
    upAt (2 ^ e) flip a = upAt (2 ^ e) flip b := by
  obtain ⟨d, rfl⟩ := Nat.exists_eq_add_of_le hse
  have e2 : 2 ^ (s + 7 + d) = (128 * 2 ^ s) * 2 ^ d := by rw [pow_add, pow_add]; norm_num; rw [Nat.mul_comm (2 ^ s) 128]
  unfold upAt
  rw [e2, ← Nat.div_div_eq_div_mul a (128 * 2 ^ s), ← Nat.div_div_eq_div_mul b (128 * 2 ^ s), h]

end Cert.Net
-- ==== Proof.Trip.lean ====
/-
What a trip of each pass makes of the array of pairs.
-/
module

public import proofs.«01_k».proof.Proof.Hold
public import proofs.«01_k».proof.Proof.Tile
public import proofs.«01_k».proof.Proof.Rows

@[expose] public section

set_option maxRecDepth 65536

noncomputable section

namespace Cert.Net

open Idealize.ShloMosaic Idealize.ShloMosaic.TcCoe
open Idealize.ShloMosaic.LaneScatter (raw)
open Idealize.SL Idealize.SL.Sem
open Idealize.SL.BI (sProp)
open scoped Idealize.SL.BI
open Idealize.SL.BI.BIBase Idealize.SL.BI.Laws Idealize.SL.ProofMode
open Idealize.SL.RA

variable {F : FTy → Type} [FloatOps F]
variable {nD : Nat} {τ : Topo} {sig : RefSig} {Λ : Labels} {Ix : Type} [DecidableEq Ix] {U : Type} [URA U] {Lvl : Type} [Preorder Lvl]

local notation "𝕄" => MT nD τ sig Ix (Elt F) ℕ U Lvl

/-- The buffers of keys and of payloads held at an array of pairs, and the rest. -/
def st (c : Dev nD) (K P : Memref sig .tc .vmem H .f32) (X : A2 F) (Z : sProp 𝕄) : sProp 𝕄 :=
  iprop(hold (R := 32768) (C := 128) c K (fun p => (X p).1) ∗ hold (R := 32768) (C := 128) c P (fun p => (X p).2) ∗ Z)

theorem st_congr (c : Dev nD) (K P : Memref sig .tc .vmem H .f32) {X Y : A2 F} (Z : sProp 𝕄)
    (h : ∀ p : ℕ × ℕ, p.1 < 32768 → p.2 < 128 → X p = Y p) : st c K P X Z ⊢ st c K P Y Z := by
  unfold st
  exact sep_mono (hold_congr c K fun a b ha hb => congrArg Prod.fst (h (a, b) ha hb))
    (sep_mono (hold_congr c P fun a b ha hb => congrArg Prod.snd (h (a, b) ha hb)) .rfl)

theorem swap {M : Type} [URA M] {A B C : sProp M} : iprop(A ∗ B ∗ C) ⊢ iprop(B ∗ A ∗ C) := by
  iintro ⟨H1, H2, H3⟩
  iframe H1 H2 H3

section Steps

variable {defs : Defs nD τ sig (Elt F) Λ} (𝒱 : Variants) (c : Dev nD) (bd : Option 𝒱.V) {Γ : PendingWaitsCtx sig Ix} (E : Set ℕ)
variable {α : Type} {Q : α → sProp (MT nD τ sig Ix (Elt F) ℕ U Lvl)}
variable {K P : Memref sig .tc .vmem H .f32} {A B : ℕ × ℕ → Elt F .f32}
variable {h : ℕ} {off : Fin 2 → ℕ} {o : ℕ}

/-- A load from the second buffer. -/
theorem load_snd {Z : sProp 𝕄} (ho : off = ![o, 0]) (inb : ∀ a, off a + (⟨2, ![h, 128]⟩ : Shape).size a ≤ H.size a)
    {hl : P.view.LoadsAt (Rect.unit (s := H) off (⟨2, ![h, 128]⟩ : Shape).size inb).toLoadRect}
    {k : Vec F ⟨2, ![h, 128]⟩ .f32 → Prog (TpuEff nD τ sig (Elt F) Λ .tc) α}
    (next : ∀ v : Vec F ⟨2, ![h, 128]⟩ .f32, (∀ ι, v ι = B (o + (ι 0).val, (ι 1).val)) →
      iprop(hold (R := 32768) (C := 128) c K A ∗ hold (R := 32768) (C := 128) c P B ∗ Z)
        ⊢ wp frame (wpE' defs 𝒱 (c : Thread nD τ) bd Γ) E (k v) Q) :
    iprop(hold (R := 32768) (C := 128) c K A ∗ hold (R := 32768) (C := 128) c P B ∗ Z)
      ⊢ wp frame (wpE' defs 𝒱 (c : Thread nD τ) bd Γ) E
        ((Prog.lift (.load P (Rect.unit (s := H) off (⟨2, ![h, 128]⟩ : Shape).size inb).toLoadRect hl)
          : Prog (TpuEff nD τ sig (Elt F) Λ .tc) (Vec F ⟨2, ![h, 128]⟩ .f32)) >>= k) Q := by
  refine swap.trans (load_hold 𝒱 c bd E (R := 32768) (C := 128) ho inb (m := P) (A := B)
    (X := iprop(hold (R := 32768) (C := 128) c K A ∗ Z)) (fun v hv => swap.trans (next v hv)))

/-- A store to the second buffer. -/
theorem store_snd {Z : sProp 𝕄} (ho : off = ![o, 0]) (inb : ∀ a, off a + (⟨2, ![h, 128]⟩ : Shape).size a ≤ H.size a)
    {v : FVec F ⟨2, ![h, 128]⟩ .f32} {W : ℕ × ℕ → Elt F .f32} (hv : ∀ ι, v ι = W ((ι 0).val, (ι 1).val))
    {hx hm} {k : PUnit → Prog (TpuEff nD τ sig (Elt F) Λ .tc) α}
    (next : iprop(hold (R := 32768) (C := 128) c K A ∗ hold (R := 32768) (C := 128) c P (put h o W B) ∗ Z)
        ⊢ wp frame (wpE' defs 𝒱 (c : Thread nD τ) bd Γ) E (k ⟨⟩) Q) :
    iprop(hold (R := 32768) (C := 128) c K A ∗ hold (R := 32768) (C := 128) c P B ∗ Z)
      ⊢ wp frame (wpE' defs 𝒱 (c : Thread nD τ) bd Γ) E
        (Prog.lift (.store P (Rect.unit (s := H) off (⟨2, ![h, 128]⟩ : Shape).size inb) v Finset.univ hx hm) >>= k) Q := by
  refine swap.trans (store_hold 𝒱 c bd E (R := 32768) (C := 128) ho inb (m := P) (A := B) hv
    (X := iprop(hold (R := 32768) (C := 128) c K A ∗ Z)) (swap.trans next))

/-- A tile of 64 rows stored to the first buffer, after the load that goes with it. -/
theorem putT_fst {Z : sProp 𝕄} (ho : off = ![o, 0]) (inb : ∀ a, off a + T.size a ≤ H.size a)
    {v : FVec F T .f32} {W : ℕ × ℕ → Elt F .f32} (hv : ∀ ι, v ι = W ((ι 0).val, (ι 1).val))
    {q : Prog (TpuEff nD τ sig (Elt F) Λ .tc) PUnit} {Q : PUnit → sProp 𝕄}
    (next : iprop(hold (R := 32768) (C := 128) c K (put 64 o W A) ∗ hold (R := 32768) (C := 128) c P B ∗ Z)
        ⊢ wp frame (wpE' defs 𝒱 (c : Thread nD τ) bd Γ) E q Q) :
    iprop(hold (R := 32768) (C := 128) c K A ∗ hold (R := 32768) (C := 128) c P B ∗ Z)
      ⊢ wp frame (wpE' defs 𝒱 (c : Thread nD τ) bd Γ) E (putT K off inb v q) Q :=
  load_hold 𝒱 c bd E (h := 64) (w := 128) ho inb fun _ _ =>
    store_hold 𝒱 c bd E (h := 64) ho inb (fun ι => by rw [shapeCast_self]; exact hv ι) next

/-- The same, to the second buffer. -/
theorem putT_snd {Z : sProp 𝕄} (ho : off = ![o, 0]) (inb : ∀ a, off a + T.size a ≤ H.size a)
    {v : FVec F T .f32} {W : ℕ × ℕ → Elt F .f32} (hv : ∀ ι, v ι = W ((ι 0).val, (ι 1).val))
    {q : Prog (TpuEff nD τ sig (Elt F) Λ .tc) PUnit} {Q : PUnit → sProp 𝕄}
    (next : iprop(hold (R := 32768) (C := 128) c K A ∗ hold (R := 32768) (C := 128) c P (put 64 o W B) ∗ Z)
        ⊢ wp frame (wpE' defs 𝒱 (c : Thread nD τ) bd Γ) E q Q) :
    iprop(hold (R := 32768) (C := 128) c K A ∗ hold (R := 32768) (C := 128) c P B ∗ Z)
      ⊢ wp frame (wpE' defs 𝒱 (c : Thread nD τ) bd Γ) E (putT P off inb v q) Q :=
  load_snd 𝒱 c bd E (h := 64) ho inb fun _ _ =>
    store_snd 𝒱 c bd E (h := 64) ho inb (fun ι => by rw [shapeCast_self]; exact hv ι) next

/-- A tile of 32 rows stored to the first buffer, after the load that goes with it. -/
theorem putT32_fst {Z : sProp 𝕄} (ho : off = ![o, 0]) (inb : ∀ a, off a + T32.size a ≤ H.size a)
    {v : FVec F T32 .f32} {W : ℕ × ℕ → Elt F .f32} (hv : ∀ ι, v ι = W ((ι 0).val, (ι 1).val))
    {q : Prog (TpuEff nD τ sig (Elt F) Λ .tc) PUnit} {Q : PUnit → sProp 𝕄}
    (next : iprop(hold (R := 32768) (C := 128) c K (put 32 o W A) ∗ hold (R := 32768) (C := 128) c P B ∗ Z)
        ⊢ wp frame (wpE' defs 𝒱 (c : Thread nD τ) bd Γ) E q Q) :
    iprop(hold (R := 32768) (C := 128) c K A ∗ hold (R := 32768) (C := 128) c P B ∗ Z)
      ⊢ wp frame (wpE' defs 𝒱 (c : Thread nD τ) bd Γ) E (putT32 K off inb v q) Q :=
  load_hold 𝒱 c bd E (h := 32) (w := 128) ho inb fun _ _ =>
    store_hold 𝒱 c bd E (h := 32) ho inb (fun ι => by rw [shapeCast_self]; exact hv ι) next

/-- The same, to the second buffer. -/
theorem putT32_snd {Z : sProp 𝕄} (ho : off = ![o, 0]) (inb : ∀ a, off a + T32.size a ≤ H.size a)
    {v : FVec F T32 .f32} {W : ℕ × ℕ → Elt F .f32} (hv : ∀ ι, v ι = W ((ι 0).val, (ι 1).val))
    {q : Prog (TpuEff nD τ sig (Elt F) Λ .tc) PUnit} {Q : PUnit → sProp 𝕄}
    (next : iprop(hold (R := 32768) (C := 128) c K A ∗ hold (R := 32768) (C := 128) c P (put 32 o W B) ∗ Z)
        ⊢ wp frame (wpE' defs 𝒱 (c : Thread nD τ) bd Γ) E q Q) :
    iprop(hold (R := 32768) (C := 128) c K A ∗ hold (R := 32768) (C := 128) c P B ∗ Z)
      ⊢ wp frame (wpE' defs 𝒱 (c : Thread nD τ) bd Γ) E (putT32 P off inb v q) Q :=
  load_snd 𝒱 c bd E (h := 32) ho inb fun _ _ =>
    store_snd 𝒱 c bd E (h := 32) ho inb (fun ι => by rw [shapeCast_self]; exact hv ι) next

end Steps

theorem put_proj {α β : Type} (f : α → β) (h o : ℕ) (W A : ℕ × ℕ → α) :
    put h o (fun p => f (W p)) (fun p => f (A p)) = fun p => f (put h o W A p) := by
  funext p; unfold put; split <;> rfl

theorem IsP.fst {h w : ℕ} {x : FVec F ⟨2, ![h, w]⟩ .f32 × FVec F ⟨2, ![h, w]⟩ .f32} {A : A2 F} (hx : IsP x A) (ι) :
    x.1 ι = (A ((ι 0).val, (ι 1).val)).1 := congrArg Prod.fst (hx ι)
theorem IsP.snd {h w : ℕ} {x : FVec F ⟨2, ![h, w]⟩ .f32 × FVec F ⟨2, ![h, w]⟩ .f32} {A : A2 F} (hx : IsP x A) (ι) :
    x.2 ι = (A ((ι 0).val, (ι 1).val)).2 := congrArg Prod.snd (hx ι)
theorem isP_of {h w : ℕ} {k p : FVec F ⟨2, ![h, w]⟩ .f32} {A : A2 F} {o : ℕ}
    (hk : ∀ ι, k ι = (A (o + (ι 0).val, (ι 1).val)).1) (hp : ∀ ι, p ι = (A (o + (ι 0).val, (ι 1).val)).2) :
    IsP (k, p) (shift o A) := fun ι => Prod.ext (hk ι) (hp ι)

section Bodies

variable {defs : Defs nD τ sig (Elt F) Λ} (𝒱 : Variants) (c : Dev nD) (bd : Option 𝒱.V) {Γ : PendingWaitsCtx sig Ix} (E : Set ℕ)
variable {K P : Memref sig .tc .vmem H .f32} {X : A2 F}

/-- A trip over one tile. -/
theorem body1_run (Z : sProp 𝕄) {o : Fin 2 → ℕ} {a : ℕ} (ho : o = ![a, 0]) (inb : ∀ a, o a + T.size a ≤ H.size a)
    {f : Pair F T → Pair F T} {W : A2 F} (hf : ∀ x, IsP x (shift a X) → IsP (f x) W) :
    st c K P X Z ⊢ wp frame (wpE' defs 𝒱 (c : Thread nD τ) bd Γ) E (body1 K P o inb f) (fun _ => st c K P (put 64 a W X) Z) := by
  unfold st body1
  refine load_hold 𝒱 c bd E (h := 64) (w := 128) ho inb fun k hk => ?_
  refine load_snd 𝒱 c bd E (h := 64) ho inb fun p hp => ?_
  have r := hf (k, p) (isP_of hk hp)
  refine putT_fst 𝒱 c bd E ho inb (W := fun p => (W p).1) r.fst ?_
  refine putT_snd 𝒱 c bd E ho inb (W := fun p => (W p).2) r.snd ?_
  rw [put_proj Prod.fst, put_proj Prod.snd]
  rw [wp_pure]
  exact BI.fupd_intro

/-- A trip over two tiles. -/
theorem body2_run (Z : sProp 𝕄) {oA oB : Fin 2 → ℕ} {a b : ℕ} (hoA : oA = ![a, 0]) (hoB : oB = ![b, 0])
    (inbA : ∀ a, oA a + T.size a ≤ H.size a) (inbB : ∀ a, oB a + T.size a ≤ H.size a)
    {f g : Pair F T → Pair F T → Pair F T} {WA WB : A2 F}
    (hf : ∀ x y, IsP x (shift a X) → IsP y (shift b X) → IsP (f x y) WA ∧ IsP (g x y) WB) :
    st c K P X Z ⊢ wp frame (wpE' defs 𝒱 (c : Thread nD τ) bd Γ) E (body2 K P oA inbA oB inbB f g)
      (fun _ => st c K P (put 64 b WB (put 64 a WA X)) Z) := by
  unfold st body2
  refine load_hold 𝒱 c bd E (h := 64) (w := 128) hoA inbA fun ka hka => ?_
  refine load_hold 𝒱 c bd E (h := 64) (w := 128) hoB inbB fun kb hkb => ?_
  refine load_snd 𝒱 c bd E (h := 64) hoA inbA fun pa hpa => ?_
  refine load_snd 𝒱 c bd E (h := 64) hoB inbB fun pb hpb => ?_
  obtain ⟨rA, rB⟩ := hf (ka, pa) (kb, pb) (isP_of hka hpa) (isP_of hkb hpb)
  refine putT_fst 𝒱 c bd E hoA inbA (W := fun p => (WA p).1) rA.fst ?_
  refine putT_fst 𝒱 c bd E hoB inbB (W := fun p => (WB p).1) rB.fst ?_
  refine putT_snd 𝒱 c bd E hoA inbA (W := fun p => (WA p).2) rA.snd ?_
  refine putT_snd 𝒱 c bd E hoB inbB (W := fun p => (WB p).2) rB.snd ?_
  simp only [put_proj Prod.fst, put_proj Prod.snd]
  rw [wp_pure]
  exact BI.fupd_intro

/-- A trip over four tiles. -/
theorem bodyFar2_run (Z : sProp 𝕄) {o0 o1 o2 o3 : Fin 2 → ℕ} {a0 a1 a2 a3 : ℕ} (e0 : o0 = ![a0, 0]) (e1 : o1 = ![a1, 0])
    (e2 : o2 = ![a2, 0]) (e3 : o3 = ![a3, 0])
    (h0 : ∀ a, o0 a + T32.size a ≤ H.size a) (h1 : ∀ a, o1 a + T32.size a ≤ H.size a)
    (h2 : ∀ a, o2 a + T32.size a ≤ H.size a) (h3 : ∀ a, o3 a + T32.size a ≤ H.size a)
    {up : BitVec 1} {W0 W1 W2 W3 : A2 F}
    (hf : ∀ x0 x1 x2 x3, IsP x0 (shift a0 X) → IsP x1 (shift a1 X) → IsP x2 (shift a2 X) → IsP x3 (shift a3 X) →
      IsP (farLo T32 up (farLo T32 up x0 x2) (farLo T32 up x1 x3)) W0 ∧ IsP (farHi T32 up (farLo T32 up x0 x2) (farLo T32 up x1 x3)) W1
      ∧ IsP (farLo T32 up (farHi T32 up x0 x2) (farHi T32 up x1 x3)) W2 ∧ IsP (farHi T32 up (farHi T32 up x0 x2) (farHi T32 up x1 x3)) W3) :
    st c K P X Z ⊢ wp frame (wpE' defs 𝒱 (c : Thread nD τ) bd Γ) E (bodyFar2 K P o0 h0 o1 h1 o2 h2 o3 h3 up)
      (fun _ => st c K P (put 32 a3 W3 (put 32 a2 W2 (put 32 a1 W1 (put 32 a0 W0 X)))) Z) := by
  unfold st bodyFar2
  refine load_hold 𝒱 c bd E (h := 32) (w := 128) e0 h0 fun k0 hk0 => ?_
  refine load_hold 𝒱 c bd E (h := 32) (w := 128) e1 h1 fun k1 hk1 => ?_
  refine load_hold 𝒱 c bd E (h := 32) (w := 128) e2 h2 fun k2 hk2 => ?_
  refine load_hold 𝒱 c bd E (h := 32) (w := 128) e3 h3 fun k3 hk3 => ?_
  refine load_snd 𝒱 c bd E (h := 32) e0 h0 fun p0 hp0 => ?_
  refine load_snd 𝒱 c bd E (h := 32) e1 h1 fun p1 hp1 => ?_
  refine load_snd 𝒱 c bd E (h := 32) e2 h2 fun p2 hp2 => ?_
  refine load_snd 𝒱 c bd E (h := 32) e3 h3 fun p3 hp3 => ?_
  obtain ⟨r0, r1, r2, r3⟩ := hf (k0, p0) (k1, p1) (k2, p2) (k3, p3) (isP_of hk0 hp0) (isP_of hk1 hp1) (isP_of hk2 hp2) (isP_of hk3 hp3)
  refine putT32_fst 𝒱 c bd E e0 h0 (W := fun p => (W0 p).1) r0.fst ?_
  refine putT32_snd 𝒱 c bd E e0 h0 (W := fun p => (W0 p).2) r0.snd ?_
  refine putT32_fst 𝒱 c bd E e1 h1 (W := fun p => (W1 p).1) r1.fst ?_
  refine putT32_snd 𝒱 c bd E e1 h1 (W := fun p => (W1 p).2) r1.snd ?_
  refine putT32_fst 𝒱 c bd E e2 h2 (W := fun p => (W2 p).1) r2.fst ?_
  refine putT32_snd 𝒱 c bd E e2 h2 (W := fun p => (W2 p).2) r2.snd ?_
  refine putT32_fst 𝒱 c bd E e3 h3 (W := fun p => (W3 p).1) r3.fst ?_
  refine putT32_snd 𝒱 c bd E e3 h3 (W := fun p => (W3 p).2) r3.snd ?_
  simp only [put_proj Prod.fst, put_proj Prod.snd]
  rw [wp_pure]
  exact BI.fupd_intro

end Bodies

end Cert.Net
-- ==== Proof.Passes.lean ====
/-
What each pass makes of the array of pairs.
-/
module

public import proofs.«01_k».proof.Proof.Trip

@[expose] public section

set_option maxRecDepth 65536

noncomputable section

namespace Cert.Net

open Idealize.ShloMosaic Idealize.ShloMosaic.TcCoe
open Idealize.SL Idealize.SL.Sem
open Idealize.SL.BI (sProp)
open scoped Idealize.SL.BI
open Idealize.SL.BI.BIBase Idealize.SL.BI.Laws Idealize.SL.ProofMode
open Idealize.SL.RA

variable {F : FTy → Type} [FloatOps F]
variable {nD : Nat} {τ : Topo} {sig : RefSig} {Λ : Labels} {Ix : Type} [DecidableEq Ix] {U : Type} [URA U] {Lvl : Type} [Preorder Lvl]

local notation "𝕄" => MT nD τ sig Ix (Elt F) ℕ U Lvl

variable {defs : Defs nD τ sig (Elt F) Λ} (𝒱 : Variants) (c : Dev nD) (bd : Option 𝒱.V) {Γ : PendingWaitsCtx sig Ix} (E : Set ℕ)
variable (K P : Memref sig .tc .vmem H .f32)

/-- A loop whose trips each turn the rows of their own into those of `Y`. -/
theorem loop_run (Z : sProp 𝕄) (L : Scf.Loop 32) (ok : L.OK) (own : ℕ → ℕ) (hown : ∀ r < 32768, own r < L.trips)
    (body : Fin L.trips → PUnit → Prog (TpuEff nD τ sig (Elt F) Λ .tc) PUnit) (X Y : A2 F)
    (run : ∀ (t : Fin L.trips) (A : A2 F), (∀ p : ℕ × ℕ, p.1 < 32768 → p.2 < 128 → own p.1 = t.val → A p = X p) →
      st c K P A Z ⊢ wp frame (wpE' defs 𝒱 (c : Thread nD τ) bd Γ) E (body t ⟨⟩)
        (fun _ => st c K P (fun p => if own p.1 = t.val then Y p else A p) Z)) :
    st c K P X Z ⊢ wp frame (wpE' defs 𝒱 (c : Thread nD τ) bd Γ) E (Scf.Loop.for L ok ⟨⟩ body) (fun _ => st c K P Y Z) := by
  refine BI.Entails.trans ?_ (Scf.wp_for frame (wpE' defs 𝒱 (c : Thread nD τ) bd Γ) E L.lb L.ub L.st ok (⟨⟩ : PUnit) body
    (fun n _ => st c K P (fun p => if own p.1 < n then Y p else X p) Z) (fun t acc => ?_))
  · have a : st c K P X Z ⊢ st c K P (fun p => if own p.1 < 0 then Y p else X p) Z :=
      st_congr c K P Z fun p _ _ => by rw [if_neg (Nat.not_lt_zero _)]
    have b : st c K P (fun p => if own p.1 < L.trips then Y p else X p) Z ⊢ st c K P Y Z :=
      st_congr c K P Z fun p hp _ => by rw [if_pos (hown _ hp)]
    refine a.trans ?_
    iintro H
    isplitl [H]
    · iexact H
    · iintro %_ H
      iapply b
      iexact H
  · refine (run t _ fun p hp _ h => by rw [if_neg (by omega)]).trans (wp_mono _ _ _ fun _ => st_congr c K P Z fun p _ _ => ?_)
    show (if own p.1 = t.val then Y p else if own p.1 < t.val then Y p else X p) = if own p.1 < t.val + 1 then Y p else X p
    split_ifs <;> first | rfl | omega

/-- A tile read from an array is read from any array that agrees on it. -/
theorem isP_agree {h : ℕ} {x : FVec F ⟨2, ![h, 128]⟩ .f32 × FVec F ⟨2, ![h, 128]⟩ .f32} {A B : A2 F} {o : ℕ} (hx : IsP x (shift o A))
    (e : ∀ r < h, ∀ q < 128, A (o + r, q) = B (o + r, q)) : IsP x (shift o B) :=
  fun ι => (hx ι).trans (e _ (ι 0).isLt _ (ι 1).isLt)

/-- A pass over one distance between tiles. -/
theorem passFar_run (Z : sProp 𝕄) (s e : ℕ) (hs : s < 9) (he : s + 7 ≤ e) (he' : e < 32) (flip : BitVec 1) (X : A2 F) :
    st c K P X Z ⊢ wp frame (wpE' defs 𝒱 (c : Thread nD τ) bd Γ) E (passFar K P s hs (BitVec.ofNat 32 (2 ^ e)) flip)
      (fun _ => st c K P (farAt (64 * 2 ^ s) (upAt (2 ^ e) flip) X) Z) := by
  refine loop_run 𝒱 c bd E K P Z L256 ok256 (own s 64) (fun r hr => by rw [trips256]; exact (own64 (t := 0) hs hr).1) _ X _ ?_
  intro t A hA
  have ht := lt256 t
  obtain ⟨eb, -, -, -, le, -⟩ := rows_toNat s hs t ht
  have ea := rowW64 s hs t ht
  have up := upW_eq e he' (rowW s 64 t) flip
  rw [ea] at up
  have ag : ∀ r < 32768, (rowN s 64 t ≤ r ∧ r < rowN s 64 t + 64)
      ∨ (rowN s 64 t + 64 * 2 ^ s ≤ r ∧ r < rowN s 64 t + 64 * 2 ^ s + 64) → ∀ q < 128, A (r, q) = X (r, q) :=
    fun r hr h q hq => hA (r, q) hr hq ((own64 hs hr).2.2 h)
  refine (body2_run 𝒱 c bd E Z (a := rowN s 64 t) (b := rowN s 64 t + 64 * 2 ^ s)
    (WA := shift (rowN s 64 t) (farAt (64 * 2 ^ s) (upAt (2 ^ e) flip) X))
    (WB := shift (rowN s 64 t + 64 * 2 ^ s) (farAt (64 * 2 ^ s) (upAt (2 ^ e) flip) X))
    (by show ![(rowW s 64 t).toNat, 0] = _; rw [ea]) (by show ![(rowW64b s t).toNat, 0] = _; rw [eb]) _ _ ?_).trans
    (wp_mono _ _ _ fun _ => st_congr c K P Z fun p hp _ => ?_)
  · intro x y hx hy
    have hx' := isP_agree hx fun r hr q hq => ag _ (by omega) (by omega) q hq
    have hy' := isP_agree hy fun r hr q hq => ag _ (by omega) (by omega) q hq
    exact ⟨farLo_at hx' hy' rfl (fun r hr => (up_same he flip (rows64 hs hr).2.2.1).trans up.symm) (fun r hr => (rows64 hs hr).1),
      farHi_at hx' hy' rfl (fun r hr => (up_same he flip (rows64 hs hr).2.2.2).trans up.symm) (fun r hr => (rows64 hs hr).2.1)⟩
  · have o := (own64 (t := t) hs hp).2
    unfold put shift
    simp only []
    by_cases h2 : rowN s 64 t + 64 * 2 ^ s ≤ p.1 ∧ p.1 < rowN s 64 t + 64 * 2 ^ s + 64
    · rw [if_pos h2, if_pos (o.2 (.inr h2)), Nat.add_sub_cancel' h2.1]
    · rw [if_neg h2]
      by_cases h1 : rowN s 64 t ≤ p.1 ∧ p.1 < rowN s 64 t + 64
      · rw [if_pos h1, if_pos (o.2 (.inl h1)), Nat.add_sub_cancel' h1.1]
      · rw [if_neg h1, if_neg (fun h => (o.1 h).elim h1 h2)]

/-- A pass over distance 64 and the distances inside the tiles. -/
theorem passFused_run (Z : sProp 𝕄) (e : ℕ) (he : 7 ≤ e) (he' : e < 32) (flip : BitVec 1) (X : A2 F) :
    st c K P X Z ⊢ wp frame (wpE' defs 𝒱 (c : Thread nD τ) bd Γ) E (passFused K P (BitVec.ofNat 32 (2 ^ e)) flip)
      (fun _ => st c K P (fusedAt (upAt (2 ^ e) flip) X) Z) := by
  refine loop_run 𝒱 c bd E K P Z L256 ok256 (own 0 64) (fun r hr => by rw [trips256]; exact (own64 (t := 0) (by omega) hr).1) _ X _ ?_
  intro t A hA
  have ht := lt256 t
  obtain ⟨eb, -, -, -, le, -⟩ := rows_toNat 0 (by omega) t ht
  have ea := rowW64 0 (by omega) t ht
  have up := upW_eq e he' (rowW 0 64 t) flip
  rw [ea] at up
  have e64 : 64 * 2 ^ 0 = 64 := rfl
  rw [e64] at eb le
  have o64 : ∀ r < 32768, (own 0 64 r = t.val ↔ (rowN 0 64 t ≤ r ∧ r < rowN 0 64 t + 64) ∨ (rowN 0 64 t + 64 ≤ r ∧ r < rowN 0 64 t + 64 + 64)) :=
    fun r hr => (own64 (t := t) (s := 0) (by omega) hr).2
  have dv : 128 ∣ rowN 0 64 t := by unfold rowN; norm_num; omega
  have ag : ∀ r < 32768, (rowN 0 64 t ≤ r ∧ r < rowN 0 64 t + 64) ∨ (rowN 0 64 t + 64 ≤ r ∧ r < rowN 0 64 t + 64 + 64) →
      ∀ q < 128, A (r, q) = X (r, q) := fun r hr h q hq => hA (r, q) hr hq ((o64 r hr).2 h)
  have hu : ∀ r < 128, upAt (2 ^ e) flip (rowN 0 64 t + r) = upW (rowW 0 64 t) (BitVec.ofNat 32 (2 ^ e)) flip :=
    fun r hr => (up_same (s := 0) (by omega) flip (by norm_num; omega)).trans up.symm
  refine (body2_run 𝒱 c bd E Z (a := rowN 0 64 t) (b := rowN 0 64 t + 64)
    (WA := shift (rowN 0 64 t) (fusedAt (upAt (2 ^ e) flip) X))
    (WB := shift (rowN 0 64 t + 64) (fusedAt (upAt (2 ^ e) flip) X))
    (by show ![(rowW 0 64 t).toNat, 0] = _; rw [ea]) (by show ![(rowW64b 0 t).toNat, 0] = _; rw [eb]) _ _ ?_).trans
    (wp_mono _ _ _ fun _ => st_congr c K P Z fun p hp _ => ?_)
  · intro x y hx hy
    have hx' := isP_agree hx fun r hr q hq => ag _ (by omega) (by omega) q hq
    have hy' := isP_agree hy fun r hr q hq => ag _ (by omega) (by omega) q hq
    exact ⟨fusedLo_at hx' hy' dv hu, fusedHi_at hx' hy' dv hu⟩
  · have o := o64 p.1 hp
    unfold put shift
    simp only []
    by_cases h2 : rowN 0 64 t + 64 ≤ p.1 ∧ p.1 < rowN 0 64 t + 64 + 64
    · rw [if_pos h2, if_pos (o.2 (.inr h2)), Nat.add_sub_cancel' h2.1]
    · rw [if_neg h2]
      by_cases h1 : rowN 0 64 t ≤ p.1 ∧ p.1 < rowN 0 64 t + 64
      · rw [if_pos h1, if_pos (o.2 (.inl h1)), Nat.add_sub_cancel' h1.1]
      · rw [if_neg h1, if_neg (fun h => (o.1 h).elim h1 h2)]

/-- A pass over two distances between tiles. -/
theorem passFar2_run (Z : sProp 𝕄) (s e : ℕ) (hs : s < 9) (he : s + 7 ≤ e) (he' : e < 32) (flip : BitVec 1) (X : A2 F) :
    st c K P X Z ⊢ wp frame (wpE' defs 𝒱 (c : Thread nD τ) bd Γ) E (passFar2 K P s hs (BitVec.ofNat 32 (2 ^ e)) flip)
      (fun _ => st c K P (farAt (32 * 2 ^ s) (upAt (2 ^ e) flip) (farAt (64 * 2 ^ s) (upAt (2 ^ e) flip) X)) Z) := by
  refine loop_run 𝒱 c bd E K P Z L256 ok256 (own s 32) (fun r hr => by rw [trips256]; exact (own32 (t := 0) hs hr).1) _ X _ ?_
  intro t A hA
  have ht := lt256 t
  obtain ⟨-, eb, ec, ed, -, le⟩ := rows_toNat s hs t ht
  have ea := rowW32 s hs t ht
  have up := upW_eq e he' (rowW s 32 t) flip
  rw [ea] at up
  have rw' : ∀ q < 4, ∀ i < 32, _ := fun q hq i hi => rows32 (t := t.val) hs hi hq
  have own' : ∀ r < 32768, _ := fun r hr => (own32 (t := t.val) hs hr).2
  have m2 : 64 * 2 ^ s = 2 * (32 * 2 ^ s) := by omega
  generalize hG : farAt (32 * 2 ^ s) (upAt (2 ^ e) flip) (farAt (64 * 2 ^ s) (upAt (2 ^ e) flip) X) = G
  have us : ∀ q < 4, ∀ i < 32, upAt (2 ^ e) flip (rowN s 32 t + q * (32 * 2 ^ s) + i) = upW (rowW s 32 t) (BitVec.ofNat 32 (2 ^ e)) flip :=
    fun q hq i hi => (up_same he flip (rw' q hq i hi).2.2).trans up.symm
  have ag : ∀ q < 4, ∀ i < 32, ∀ z < 128, A (rowN s 32 t + q * (32 * 2 ^ s) + i, z) = X (rowN s 32 t + q * (32 * 2 ^ s) + i, z) := by
    intro q hq i hi z hz
    have hr : rowN s 32 t + q * (32 * 2 ^ s) + i < 32768 := by
      rcases (show q = 0 ∨ q = 1 ∨ q = 2 ∨ q = 3 by omega) with rfl | rfl | rfl | rfl <;> omega
    refine hA _ hr hz ((own' _ hr).2 ?_)
    rcases (show q = 0 ∨ q = 1 ∨ q = 2 ∨ q = 3 by omega) with rfl | rfl | rfl | rfl
    · exact .inl (by omega)
    · exact .inr (.inl (by omega))
    · exact .inr (.inr (.inl (by omega)))
    · exact .inr (.inr (.inr (by omega)))
  refine (bodyFar2_run 𝒱 c bd E Z (a0 := rowN s 32 t + 0 * (32 * 2 ^ s)) (a1 := rowN s 32 t + 1 * (32 * 2 ^ s)) (a2 := rowN s 32 t + 2 * (32 * 2 ^ s))
    (a3 := rowN s 32 t + 3 * (32 * 2 ^ s)) (W0 := shift (rowN s 32 t + 0 * (32 * 2 ^ s)) G) (W1 := shift (rowN s 32 t + 1 * (32 * 2 ^ s)) G)
    (W2 := shift (rowN s 32 t + 2 * (32 * 2 ^ s)) G) (W3 := shift (rowN s 32 t + 3 * (32 * 2 ^ s)) G)
    (by show ![(rowW s 32 t).toNat, 0] = _; rw [ea, Nat.zero_mul, Nat.add_zero]) (by show ![(rowW32b s t).toNat, 0] = _; rw [eb, Nat.one_mul])
    (by show ![(rowW32c s t).toNat, 0] = _; rw [ec]) (by show ![(rowW32d s t).toNat, 0] = _; rw [ed]) _ _ _ _ ?_).trans
    (wp_mono _ _ _ fun _ => st_congr c K P Z fun p hp _ => ?_)
  · intro x0 x1 x2 x3 h0 h1 h2 h3
    replace h0 := isP_agree h0 (ag 0 (by omega))
    replace h1 := isP_agree h1 (ag 1 (by omega))
    replace h2 := isP_agree h2 (ag 2 (by omega))
    replace h3 := isP_agree h3 (ag 3 (by omega))
    have y0 := farLo_at h0 h2 (j := 64 * 2 ^ s) (by omega) (us 0 (by omega)) (fun i hi => (rw' 0 (by omega) i hi).1)
    have y2 := farHi_at h0 h2 (j := 64 * 2 ^ s) (by omega) (us 2 (by omega)) (fun i hi => (rw' 2 (by omega) i hi).1)
    have y1 := farLo_at h1 h3 (j := 64 * 2 ^ s) (by omega) (us 1 (by omega)) (fun i hi => (rw' 1 (by omega) i hi).1)
    have y3 := farHi_at h1 h3 (j := 64 * 2 ^ s) (by omega) (us 3 (by omega)) (fun i hi => (rw' 3 (by omega) i hi).1)
    subst hG
    exact ⟨farLo_at y0 y1 (by omega) (us 0 (by omega)) (fun i hi => (rw' 0 (by omega) i hi).2.1),
      farHi_at y0 y1 (by omega) (us 1 (by omega)) (fun i hi => (rw' 1 (by omega) i hi).2.1),
      farLo_at y2 y3 (by omega) (us 2 (by omega)) (fun i hi => (rw' 2 (by omega) i hi).2.1),
      farHi_at y2 y3 (by omega) (us 3 (by omega)) (fun i hi => (rw' 3 (by omega) i hi).2.1)⟩
  · have o := own' p.1 hp
    unfold put shift
    simp only [Nat.zero_mul, Nat.one_mul, Nat.add_zero]
    by_cases h3 : rowN s 32 t + 3 * (32 * 2 ^ s) ≤ p.1 ∧ p.1 < rowN s 32 t + 3 * (32 * 2 ^ s) + 32
    · rw [if_pos h3, if_pos (o.2 (.inr (.inr (.inr h3)))), Nat.add_sub_cancel' h3.1]
    rw [if_neg h3]
    by_cases h2 : rowN s 32 t + 2 * (32 * 2 ^ s) ≤ p.1 ∧ p.1 < rowN s 32 t + 2 * (32 * 2 ^ s) + 32
    · rw [if_pos h2, if_pos (o.2 (.inr (.inr (.inl h2)))), Nat.add_sub_cancel' h2.1]
    rw [if_neg h2]
    by_cases h1 : rowN s 32 t + 32 * 2 ^ s ≤ p.1 ∧ p.1 < rowN s 32 t + 32 * 2 ^ s + 32
    · rw [if_pos h1, if_pos (o.2 (.inr (.inl h1))), Nat.add_sub_cancel' h1.1]
    rw [if_neg h1]
    by_cases h0 : rowN s 32 t ≤ p.1 ∧ p.1 < rowN s 32 t + 32
    · rw [if_pos h0, if_pos (o.2 (.inl h0)), Nat.add_sub_cancel' h0.1]
    · rw [if_neg h0, if_neg (fun h => by rcases o.1 h with h | h | h | h <;> contradiction)]

/-- The key of each row: the row's value normalised by its column's numbers. -/
def keyAt (den mean w b : ℕ → F .f32) (A : A2 F) : A2 F := fun p =>
  (FloatOps.addf (FloatOps.mulf (FloatOps.divf (FloatOps.subf (A p).1 (mean p.2)) (den p.2)) (w p.2)) (b p.2), (A p).2)

/-- A row of 128 is the numbers `f`. -/
def IsRow (x : FVec F R1 .f32) (f : ℕ → F .f32) : Prop := ∀ ι, x ι = f (ι 1).val

/-- A row of 128 spread over a tile. -/
theorem spread_at {x : FVec F R1 .f32} {f : ℕ → F .f32} (hx : IsRow x f) (h : R1.Broadcasts T) (ι : T.Idx) :
    broadcastTo T x h ι = f (ι 1).val := by
  idx_vars ι
  pointwise
  exact hx _

theorem keyOf_at {den mean w b : FVec F R1 .f32} {fd fm fw fb : ℕ → F .f32} (hd : IsRow den fd) (hm : IsRow mean fm) (hw : IsRow w fw) (hb : IsRow b fb)
    {x : Pair F T} {A : A2 F} {o : ℕ} (hx : IsP x (shift o A)) : IsP (keyOf den mean w b x.1, x.2) (shift o (keyAt fd fm fw fb A)) := by
  intro ι
  refine Prod.ext ?_ (hx.snd ι)
  show FloatOps.addf (FloatOps.mulf (FloatOps.divf (FloatOps.subf (x.1 ι) (broadcastTo T mean _ ι)) (broadcastTo T den _ ι)) (broadcastTo T w _ ι))
    (broadcastTo T b _ ι) = _
  rw [spread_at hd, spread_at hm, spread_at hw, spread_at hb, hx.fst]
  rfl

/-- The pass that computes the keys and sorts each tile. -/
theorem passInit_run (Z : sProp 𝕄) {den mean w b : FVec F R1 .f32} {fd fm fw fb : ℕ → F .f32} (hd : IsRow den fd) (hm : IsRow mean fm) (hw : IsRow w fw)
    (hb : IsRow b fb) (X : A2 F) :
    st c K P X Z ⊢ wp frame (wpE' defs 𝒱 (c : Thread nD τ) bd Γ) E (passInit K P den mean w b)
      (fun _ => st c K P (tileSortAt (keyAt fd fm fw fb X)) Z) := by
  refine loop_run 𝒱 c bd E K P Z L512 ok512 (fun r => r / 64) (fun r hr => by rw [trips512]; omega) _ X _ ?_
  intro t A hA
  have ht := lt512 t
  refine (body1_run 𝒱 c bd E Z (a := 64 * t.val) (W := shift (64 * t.val) (tileSortAt (keyAt fd fm fw fb X)))
    (by show ![(row1W t).toNat, 0] = _; rw [row1W_toNat t ht]) _ ?_).trans (wp_mono _ _ _ fun _ => st_congr c K P Z fun p hp _ => ?_)
  · intro x hx
    rw [row1W_eq t ht]
    refine tileSort_shift _ (by omega) (Nat.dvd_mul_right _ _) (keyOf_at hd hm hw hb (isP_agree hx fun r hr q hq => hA _ (by show _ < _; omega) hq ?_))
    show (64 * t.val + r) / 64 = t.val
    omega
  · unfold put shift
    simp only []
    by_cases h : p.1 / 64 = t.val
    · rw [if_pos h, if_pos (by omega), Nat.add_sub_cancel' (by omega)]
    · rw [if_neg h, if_neg (by omega)]

end Cert.Net
-- ==== Proof.Copy.lean ====
/-
Copies between the arrays in HBM and the kernels' buffers.
-/
module

public import proofs.«01_k».proof.Proof.Passes
public import Idealize.ShloMosaic.Lib.Transfers

@[expose] public section

set_option maxRecDepth 65536

noncomputable section

namespace Cert.Net

open Idealize.ShloMosaic Idealize.ShloMosaic.TcCoe
open Idealize.ShloMosaic.LaneScatter (raw)
open Idealize.ShloMosaic.Transfers (Flight wp_dmaLocal wp_waitLocal)
open Idealize.ShloMosaic.Updates (Arr IsArr isArr_load isArr_store isMask_univ loadAt storeAt storeAt_hit storeAt_miss)
open Idealize.SL Idealize.SL.Sem
open Idealize.SL.BI (sProp)
open scoped Idealize.SL.BI
open Idealize.SL.BI.BIBase Idealize.SL.BI.Laws Idealize.SL.ProofMode
open Idealize.SL.RA

variable {F : FTy → Type} [FloatOps F]
variable {nD : Nat} {τ : Topo} {sig : RefSig} {Λ : Labels} {U : Type} [URA U] {Lvl : Type} [Preorder Lvl]

local notation "𝕄" => MT nD τ sig Unit (Elt F) ℕ U Lvl

variable (EC : UEmb Counters (MT nD τ sig Unit (Elt F) ℕ U Lvl)) [EC.LandsIn (upEmb : UEmb _ (MT nD τ sig Unit (Elt F) ℕ U Lvl))]
variable {defs : Defs nD τ sig (Elt F) Λ} (𝒱 : Variants) (c : Dev nD) (bd : Option 𝒱.V)
variable {α : Type} {Q : α → sProp (MT nD τ sig Unit (Elt F) ℕ U Lvl)}

/-- A copy on its way, with what stays behind of the array it reads: `S` is what was held of that array, `Sd` of the
array it writes. -/
def fly {sp sp' : Space} {s : Shape} (src : Memref sig .tc sp s .f32) (dst : Memref sig .tc sp' s .f32) (sm : SemLoc sig)
    (q : PosShare TreeShare) (S : Finset (Idx (src.view.loc (c : Thread nD τ)))) (fs : Buf (Elt F) (src.view.loc (c : Thread nD τ)))
    (Sd : Finset (Idx (dst.view.loc (c : Thread nD τ)))) (fd : Buf (Elt F) (dst.view.loc (c : Thread nD τ))) : sProp 𝕄 :=
  iprop(Flight EC (c : Thread nD τ) sm () (dst.view.amount sm)
      iprop((dst.view.loc (c : Thread nD τ) ↦[Sd]{fullShare} (dst.view.write (Elt F) fd (src.view.read (Elt F) fs) Finset.univ))
        ∗ (src.view.loc (c : Thread nD τ) ↦[src.view.set]{q} fs))
    ∗ (src.view.loc (c : Thread nD τ) ↦[S \ src.view.set]{q} fs))

/-- The start of a copy. -/
theorem start_run {sp sp' : Space} {s : Shape} {src : Memref sig .tc sp s .f32} {dst : Memref sig .tc sp' s .f32} {sm : SemLoc sig}
    (hs : 0 < s.numel) {q : PosShare TreeShare} {S : Finset (Idx (src.view.loc (c : Thread nD τ)))} {fs : Buf (Elt F) (src.view.loc (c : Thread nD τ))}
    {Sd : Finset (Idx (dst.view.loc (c : Thread nD τ)))} {fd : Buf (Elt F) (dst.view.loc (c : Thread nD τ))}
    (hS : src.view.set ⊆ S) (hSd : dst.view.set ⊆ Sd) {h1 h2 h3} {k : PUnit → Prog (TpuEff nD τ sig (Elt F) Λ .tc) α} {X : sProp 𝕄}
    (next : iprop(fly EC c src dst sm q S fs Sd fd ∗ X) ⊢ wp frame (wpE defs 𝒱 (c : Thread nD τ) bd) Set.univ (k ⟨⟩) Q) :
    iprop((src.view.loc (c : Thread nD τ) ↦[S]{q} fs) ∗ (dst.view.loc (c : Thread nD τ) ↦[Sd]{fullShare} fd) ∗ semVal ((c : Thread nD τ), sm) 0 ∗ X)
      ⊢ wp frame (wpE defs 𝒱 (c : Thread nD τ) bd) Set.univ
        ((Prog.lift (.enqueueDma src (.here dst) sm h1 h2 h3) : Prog (TpuEff nD τ sig (Elt F) Λ .tc) PUnit) >>= k) Q := by
  unfold fly at next
  iintro ⟨Hs, Hd, Hv, X⟩
  ihave H := (pointsTo_split_subset hS).1 $$ Hs
  icases H with ⟨Hs, Hr⟩
  iapply (wp_dmaLocal EC 𝒱 (c : Thread nD τ) bd (src := src) (dst := dst) (via := ReadAs.same) (q := q) (fs := fs) (Sd := Sd) (fd := fd) (k := k) (Q := Q) () _ rfl
    (View.amount_pos _ sm hs) hSd) $$ [Hs Hd Hv]
  · isplitl [Hs]
    · iexact Hs
    isplitl [Hd]
    · iexact Hd
    iexact Hv
  iintro Hf
  iapply next
  isplitr [X]
  · isplitl [Hf]
    · iexact Hf
    iexact Hr
  iexact X

/-- The wait for a copy. -/
theorem wait_run {sp sp' : Space} {s : Shape} {src : Memref sig .tc sp s .f32} {dst : Memref sig .tc sp' s .f32} {sm : DmaSem sig}
    {q : PosShare TreeShare} {S : Finset (Idx (src.view.loc (c : Thread nD τ)))} {fs : Buf (Elt F) (src.view.loc (c : Thread nD τ))}
    {Sd : Finset (Idx (dst.view.loc (c : Thread nD τ)))} {fd : Buf (Elt F) (dst.view.loc (c : Thread nD τ))}
    (hS : src.view.set ⊆ S) {h1 h2} {k : PUnit → Prog (TpuEff nD τ sig (Elt F) Λ .tc) α} {X : sProp 𝕄}
    (next : iprop((src.view.loc (c : Thread nD τ) ↦[S]{q} fs)
        ∗ (dst.view.loc (c : Thread nD τ) ↦[Sd]{fullShare} (dst.view.write (Elt F) fd (src.view.read (Elt F) fs) Finset.univ))
        ∗ semVal ((c : Thread nD τ), .dma sm) 0 ∗ (∃ W, owes (c : Thread nD τ) 0 W) ∗ X)
      ⊢ wp frame (wpE defs 𝒱 (c : Thread nD τ) bd) Set.univ (k ⟨⟩) Q) :
    iprop(fly EC c src dst (.dma sm) q S fs Sd fd ∗ (∃ W, owes (c : Thread nD τ) 0 W) ∗ X)
      ⊢ wp frame (wpE defs 𝒱 (c : Thread nD τ) bd) Set.univ
        ((Prog.lift (.waitDma2 sm src dst h1 h2) : Prog (TpuEff nD τ sig (Elt F) Λ .tc) PUnit) >>= k) Q := by
  unfold fly
  iintro ⟨⟨Hf, Hr⟩, ⟨%W, HO⟩, X⟩
  iapply (wp_waitLocal EC 𝒱 (c : Thread nD τ) bd (srcw := src) (dstw := dst) (k := k) (Q := Q) () rfl) $$ [Hf HO]
  · isplitl [Hf]
    · iexact Hf
    iexact HO
  iintro ⟨⟨Hd, Hs⟩, Hv, HO⟩
  iapply next
  isplitl [Hs Hr]
  · iapply (pointsTo_split_subset hS).2
    isplitl [Hs]
    · iexact Hs
    iexact Hr
  isplitl [Hd]
  · iexact Hd
  isplitl [Hv]
  · iexact Hv
  isplitl [HO]
  · iexists _
    iexact HO
  iexact X

section Half

variable (i : Fin 2) {src dst : Memref sig .tc .hbm X2 .f32} {K : Memref sig .tc .vmem H .f32} {hK : K.IsWhole} {sm : DmaSems sig S0}
  {A B : ℕ × ℕ → Elt F .f32} {k : PUnit → Prog (TpuEff nD τ sig (Elt F) Λ .tc) α} {X : sProp (MT nD τ sig Unit (Elt F) ℕ U Lvl)}

theorem halfW_toNat : (halfW i.val).toNat = i.val * 32768 := by revert i; decide

/-- A half on its way in. -/
def flyIn (src : Memref sig .tc .hbm X2 .f32) (K : Memref sig .tc .vmem H .f32) (sm : DmaSems sig S0) (A : ℕ × ℕ → Elt F .f32) : sProp 𝕄 :=
  iprop(∃ fs fd, fly EC c (half src i) K (.dma sm.sem) fullShare src.view.set fs K.view.set fd
    ∗ ⌜IsArr (R := 65536) (C := 128) (src.view.read (Elt F) fs) A⌝)

theorem startIn_run
    (next : iprop(flyIn EC c i src K sm A ∗ X) ⊢ wp frame (wpE defs 𝒱 (c : Thread nD τ) bd) Set.univ (k ⟨⟩) Q) :
    iprop(hold (R := 65536) (C := 128) c src A ∗ (∃ f, raw (c : Thread nD τ) K f) ∗ semVal ((c : Thread nD τ), .dma sm.sem) 0 ∗ X)
      ⊢ wp frame (wpE defs 𝒱 (c : Thread nD τ) bd) Set.univ (startIn i src K hK sm >>= k) Q := by
  unfold flyIn at next
  unfold hold
  iintro ⟨⟨%fs, Hs, %hA⟩, ⟨%fd, Hd⟩, Hv, X⟩
  iapply (start_run EC 𝒱 c bd (src := half src i) (dst := K) (S := src.view.set) (fs := fs) (Sd := K.view.set) (fd := fd) (q := fullShare) (X := X) (k := k) (Q := Q)
    (by decide) (View.set_slice_subset _ _) (Finset.Subset.refl _) ?_)
  · iintro ⟨H, X⟩
    iapply next
    isplitl [H]
    · iexists fs, fd
      isplitl [H]
      · iexact H
      ipureintro
      exact hA
    iexact X
  isplitl [Hs]
  · iexact Hs
  isplitl [Hd]
  · iexact Hd
  isplitl [Hv]
  · iexact Hv
  iexact X

theorem waitIn_run
    (next : iprop(hold (R := 65536) (C := 128) c src A ∗ hold (R := 32768) (C := 128) c K (fun p => A (i.val * 32768 + p.1, p.2))
        ∗ semVal ((c : Thread nD τ), .dma sm.sem) 0 ∗ (∃ W, owes (c : Thread nD τ) 0 W) ∗ X)
      ⊢ wp frame (wpE defs 𝒱 (c : Thread nD τ) bd) Set.univ (k ⟨⟩) Q) :
    iprop(flyIn EC c i src K sm A ∗ (∃ W, owes (c : Thread nD τ) 0 W) ∗ X)
      ⊢ wp frame (wpE defs 𝒱 (c : Thread nD τ) bd) Set.univ (waitIn i src K hK sm >>= k) Q := by
  unfold flyIn
  unfold hold at next
  iintro ⟨⟨%fs, %fd, Hf, %hA⟩, HO, X⟩
  iapply (wait_run EC 𝒱 c bd (src := half src i) (dst := K) (S := src.view.set) (fs := fs) (Sd := K.view.set) (fd := fd) (q := fullShare) (X := X) (k := k) (Q := Q)
    (View.set_slice_subset _ _) ?_)
  · iintro ⟨Hs, Hd, Hv, HO, X⟩
    iapply next
    isplitl [Hs]
    · iexists fs
      isplitl [Hs]
      · iexact Hs
      ipureintro
      exact hA
    isplitl [Hd]
    · iexists _
      isplitl [Hd]
      · iexact Hd
      ipureintro
      intro ι
      rw [View.read_write_univ]
      have := isArr_load hA (o := (i.val * 32768, 0)) (h := 32768) (w := 128) (off := ![(halfW i.val).toNat, 0]) (by rw [halfW_toNat]) (inbHalf i) ι
      refine this.trans ?_
      show A (i.val * 32768 + _, 0 + _) = _
      rw [Nat.zero_add]
    isplitl [Hv]
    · iexact Hv
    isplitl [HO]
    · iexact HO
    iexact X
  isplitl [Hf]
  · iexact Hf
  isplitl [HO]
  · iexact HO
  iexact X

/-- A half on its way out. -/
def flyOut (K : Memref sig .tc .vmem H .f32) (dst : Memref sig .tc .hbm X2 .f32) (sm : DmaSems sig S0) (B A : ℕ × ℕ → Elt F .f32) : sProp 𝕄 :=
  iprop(∃ fs fd, fly EC c K (half dst i) (.dma sm.sem) fullShare K.view.set fs dst.view.set fd
    ∗ ⌜IsArr (R := 32768) (C := 128) (K.view.read (Elt F) fs) B⌝ ∗ ⌜IsArr (R := 65536) (C := 128) (dst.view.read (Elt F) fd) A⌝)

theorem startOut_run
    (next : iprop(flyOut EC c i K dst sm B A ∗ X) ⊢ wp frame (wpE defs 𝒱 (c : Thread nD τ) bd) Set.univ (k ⟨⟩) Q) :
    iprop(hold (R := 32768) (C := 128) c K B ∗ hold (R := 65536) (C := 128) c dst A ∗ semVal ((c : Thread nD τ), .dma sm.sem) 0 ∗ X)
      ⊢ wp frame (wpE defs 𝒱 (c : Thread nD τ) bd) Set.univ (startOut i K hK dst sm >>= k) Q := by
  unfold flyOut at next
  unfold hold
  iintro ⟨⟨%fs, Hs, %hB⟩, ⟨%fd, Hd, %hA⟩, Hv, X⟩
  iapply (start_run EC 𝒱 c bd (src := K) (dst := half dst i) (S := K.view.set) (fs := fs) (Sd := dst.view.set) (fd := fd) (q := fullShare) (X := X) (k := k) (Q := Q)
    (by decide) (Finset.Subset.refl _) (View.set_slice_subset _ _) ?_)
  · iintro ⟨H, X⟩
    iapply next
    isplitl [H]
    · iexists fs, fd
      isplitl [H]
      · iexact H
      ipureintro
      exact ⟨hB, hA⟩
    iexact X
  isplitl [Hs]
  · iexact Hs
  isplitl [Hd]
  · iexact Hd
  isplitl [Hv]
  · iexact Hv
  iexact X

theorem waitOut_run
    (next : iprop(hold (R := 32768) (C := 128) c K B ∗ hold (R := 65536) (C := 128) c dst (put 32768 (i.val * 32768) B A)
        ∗ semVal ((c : Thread nD τ), .dma sm.sem) 0 ∗ (∃ W, owes (c : Thread nD τ) 0 W) ∗ X)
      ⊢ wp frame (wpE defs 𝒱 (c : Thread nD τ) bd) Set.univ (k ⟨⟩) Q) :
    iprop(flyOut EC c i K dst sm B A ∗ (∃ W, owes (c : Thread nD τ) 0 W) ∗ X)
      ⊢ wp frame (wpE defs 𝒱 (c : Thread nD τ) bd) Set.univ (waitOut i K hK dst sm >>= k) Q := by
  unfold flyOut
  unfold hold at next
  iintro ⟨⟨%fs, %fd, Hf, %hB, %hA⟩, HO, X⟩
  iapply (wait_run EC 𝒱 c bd (src := K) (dst := half dst i) (S := K.view.set) (fs := fs) (Sd := dst.view.set) (fd := fd) (q := fullShare) (X := X) (k := k) (Q := Q)
    (Finset.Subset.refl _) ?_)
  · iintro ⟨Hs, Hd, Hv, HO, X⟩
    iapply next
    isplitl [Hs]
    · iexists fs
      isplitl [Hs]
      · iexact Hs
      ipureintro
      exact hB
    isplitl [Hd]
    · iexists _
      isplitl [Hd]
      · iexact Hd
      ipureintro
      intro ι
      refine (isArr_store hA (o := (i.val * 32768, 0)) (h := 32768) (w := 128) (off := ![(halfW i.val).toNat, 0]) (by rw [halfW_toNat]) (inbHalf i)
        (W := B) hB isMask_univ ι).trans ?_
      have h1 : (ι 1).val < 128 := (ι 1).isLt
      unfold put
      by_cases hc : i.val * 32768 ≤ (ι 0).val ∧ (ι 0).val < i.val * 32768 + 32768
      · rw [if_pos hc]
        exact storeAt_hit (o := (i.val * 32768, 0)) (s := (32768, 128)) (p := ((ι 0).val, (ι 1).val))
          ⟨⟨hc, Nat.zero_le _, by show _ < 0 + 128; omega⟩, trivial⟩
      · rw [if_neg hc]
        exact storeAt_miss (o := (i.val * 32768, 0)) (s := (32768, 128)) (p := ((ι 0).val, (ι 1).val)) (fun h => hc h.1.1)
    isplitl [Hv]
    · iexact Hv
    isplitl [HO]
    · iexact HO
    iexact X
  isplitl [Hf]
  · iexact Hf
  isplitl [HO]
  · iexact HO
  iexact X

end Half

end Cert.Net
-- ==== Proof.RunA.lean ====
/-
The first kernel at one grid point, run.
-/
module

public import proofs.«01_k».proof.Proof.Copy

@[expose] public section

set_option maxRecDepth 65536

noncomputable section

namespace Cert.Net

open Idealize.ShloMosaic Idealize.ShloMosaic.TcCoe
open Idealize.ShloMosaic.LaneScatter (raw)
open Idealize.SL Idealize.SL.Sem
open Idealize.SL.BI (sProp)
open scoped Idealize.SL.BI
open Idealize.SL.BI.BIBase Idealize.SL.BI.Laws Idealize.SL.ProofMode
open Idealize.SL.RA

variable {F : FTy → Type} [FloatOps F]

/-- The distances `64 * 2 ^ (n - 1)`, …, 128, 64 between tiles. -/
def farsAt (u : ℕ → BitVec 1) : ℕ → A2 F → A2 F
  | 0, X => X
  | n + 1, X => farsAt u n (farAt (64 * 2 ^ n) u X)

/-- The stage of block length `2 ^ e`. -/
def stageAt (e : ℕ) (flip : BitVec 1) (X : A2 F) : A2 F := finishAt (upAt (2 ^ e) flip) (farsAt (upAt (2 ^ e) flip) (e - 6) X)

/-- The stages of block length 128, …, 16384, all the same in both halves. -/
def stages14 (X : A2 F) : A2 F :=
  stageAt 14 0#1 (stageAt 13 0#1 (stageAt 12 0#1 (stageAt 11 0#1 (stageAt 10 0#1 (stageAt 9 0#1 (stageAt 8 0#1 (stageAt 7 0#1 X)))))))

/-- Whether grid point `i` is the second. -/
abbrev flipOf (i : ℕ) : BitVec 1 := Scalar.cmpi .eq (BitVec.ofNat 32 i) 1#32

/-- The half `i` of an array. -/
def halfOf {α : Type} (i : ℕ) (X : ℕ × ℕ → α) : ℕ × ℕ → α := fun p => X (i * 32768 + p.1, p.2)

/-- The square root the keys are divided by. -/
def denOf (v : ℕ → F .f32) : ℕ → F .f32 := fun q => FloatOps.sqrt (FloatOps.addf (v q) (Scalar.ofBits .f32 0x3727C5AC#32))

/-- What the first kernel makes of half `i`. -/
def sortA (i : ℕ) (v m w b : ℕ → F .f32) (X G : ℕ × ℕ → F .f32) : A2 F :=
  stageAt 15 (flipOf i) (stages14 (tileSortAt (keyAt (denOf v) m w b (fun p => (halfOf i X p, halfOf i G p)))))

variable {nD : Nat} {τ : Topo} {sig : RefSig} {Λ : Labels} {U : Type} [URA U] {Lvl : Type} [Preorder Lvl]

local notation "𝕄" => MT nD τ sig Unit (Elt F) ℕ U Lvl

variable (EC : UEmb Counters (MT nD τ sig Unit (Elt F) ℕ U Lvl)) [EC.LandsIn (upEmb : UEmb _ (MT nD τ sig Unit (Elt F) ℕ U Lvl))]
variable {defs : Defs nD τ sig (Elt F) Λ} (𝒱 : Variants) (c : Dev nD) (bd : Option 𝒱.V)

/-- What is held put in another order first. -/
theorem reorder {P R S : sProp 𝕄} (h : P ⊢ R) (next : R ⊢ S) : P ⊢ S := h.trans next

/-- A run and then another. -/
theorem then_run {P R : sProp 𝕄} {p : Prog (TpuEff nD τ sig (Elt F) Λ .tc) PUnit} {α : Type} {k : PUnit → Prog (TpuEff nD τ sig (Elt F) Λ .tc) α}
    {Q : α → sProp 𝕄}
    (h : P ⊢ wp frame (wpE defs 𝒱 (c : Thread nD τ) bd) Set.univ p (fun _ => R))
    (next : R ⊢ wp frame (wpE defs 𝒱 (c : Thread nD τ) bd) Set.univ (k ⟨⟩) Q) :
    P ⊢ wp frame (wpE defs 𝒱 (c : Thread nD τ) bd) Set.univ (p >>= k) Q :=
  by rw [wp_bind]; exact h.trans (wp_mono _ _ _ fun _ => next)

/-- A row of 128 read whole. -/
theorem ld1_run {m : Memref sig .tc .vmem R1 .f32} {f : ℕ → F .f32} {α : Type} {k : Vec F R1 .f32 → Prog (TpuEff nD τ sig (Elt F) Λ .tc) α}
    {Q : α → sProp 𝕄} {X Z : sProp 𝕄} (perm : Z ⊢ iprop(hold (R := 1) (C := 128) c m (fun p => f p.2) ∗ X))
    (next : ∀ v : Vec F R1 .f32, IsRow v f →
      iprop(hold (R := 1) (C := 128) c m (fun p => f p.2) ∗ X) ⊢ wp frame (wpE defs 𝒱 (c : Thread nD τ) bd) Set.univ (k v) Q) :
    Z ⊢ wp frame (wpE defs 𝒱 (c : Thread nD τ) bd) Set.univ (ld1 m >>= k) Q :=
  perm.trans (load_hold 𝒱 c bd Set.univ (R := 1) (C := 128) (h := 1) (w := 128) (o := 0) rfl inbR1 fun v hv => next v hv)

section Kernel

variable (i : Fin 2) {x g ko po : Memref sig .tc .hbm X2 .f32} {K P : Memref sig .tc .vmem H .f32} {mean var w b : Memref sig .tc .vmem R1 .f32}
  {hK : K.IsWhole} {hP : P.IsWhole} {sa sb : DmaSems sig S0} {X G A B : ℕ × ℕ → F .f32} {fm fv fw fb : ℕ → F .f32}

/-- A row of 128 held. -/
abbrev row (m : Memref sig .tc .vmem R1 .f32) (f : ℕ → F .f32) : sProp (MT nD τ sig Unit (Elt F) ℕ U Lvl) := hold (R := 1) (C := 128) c m (fun p => f p.2)

/-- What the first kernel works on. -/
def stateA (x g ko po : Memref sig .tc .hbm X2 .f32) (mean var w b : Memref sig .tc .vmem R1 .f32) (K P : Memref sig .tc .vmem H .f32)
    (sa sb : DmaSems sig S0) (X G A B : ℕ × ℕ → F .f32) (fm fv fw fb : ℕ → F .f32) : sProp (MT nD τ sig Unit (Elt F) ℕ U Lvl) :=
  iprop(hold (R := 65536) (C := 128) c x X ∗ hold (R := 65536) (C := 128) c g G ∗ hold (R := 65536) (C := 128) c ko A
    ∗ hold (R := 65536) (C := 128) c po B ∗ row c mean fm ∗ row c var fv ∗ row c w fw ∗ row c b fb
    ∗ (∃ f, raw (c : Thread nD τ) K f) ∗ (∃ f, raw (c : Thread nD τ) P f)
    ∗ semVal ((c : Thread nD τ), .dma sa.sem) 0 ∗ semVal ((c : Thread nD τ), .dma sb.sem) 0 ∗ (∃ W, owes (c : Thread nD τ) 0 W))

/-- A buffer held at an array is held at something. -/
theorem hold_raw {sp : Space} {R C : ℕ} {m : Memref sig .tc sp ⟨2, ![R, C]⟩ .f32} {A : ℕ × ℕ → F .f32} :
    (hold c m A : sProp 𝕄) ⊢ iprop(∃ f, raw (c : Thread nD τ) m f) := by
  unfold hold
  iintro ⟨%f, H, %hf⟩
  iexists f
  iexact H

include EC in
/-- The first kernel at one grid point: both outputs get their half sorted. -/
theorem phaseA_run :
    (stateA c x g ko po mean var w b K P sa sb X G A B fm fv fw fb : sProp 𝕄)
      ⊢ wp frame (wpE defs 𝒱 (c : Thread nD τ) bd) Set.univ (phaseA K P i x g ko po mean var w b hK hP sa sb)
        (fun _ => stateA c x g ko po mean var w b K P sa sb X G
          (put 32768 (i.val * 32768) (fun p => (sortA i.val fv fm fw fb X G p).1) A)
          (put 32768 (i.val * 32768) (fun p => (sortA i.val fv fm fw fb X G p).2) B) fm fv fw fb) := by
  unfold phaseA a1 a2 a3
  simp only [bind_assoc, pure_bind]
  refine reorder (by unfold stateA; iintro ⟨H1, H2, H3, H4, H5, H6, H7, H8, H9, H10, H11, H12, H13⟩; iframe) (startIn_run EC 𝒱 c bd i (src := x) (K := K) (sm := sa) (A := X)
    (X := iprop(hold (R := 65536) (C := 128) c g G ∗ (∃ f, raw (c : Thread nD τ) P f) ∗ semVal ((c : Thread nD τ), .dma sb.sem) 0 ∗ (∃ W, owes (c : Thread nD τ) 0 W)
      ∗ hold (R := 65536) (C := 128) c ko A ∗ hold (R := 65536) (C := 128) c po B ∗ row c mean fm ∗ row c var fv ∗ row c w fw ∗ row c b fb)) ?_)
  refine reorder (by iintro ⟨H1, H2, H3, H4, H5, H6⟩; iframe) (startIn_run EC 𝒱 c bd i (src := g) (K := P) (sm := sb) (A := G)
    (X := iprop(flyIn EC c i x K sa X ∗ (∃ W, owes (c : Thread nD τ) 0 W)
      ∗ hold (R := 65536) (C := 128) c ko A ∗ hold (R := 65536) (C := 128) c po B ∗ row c mean fm ∗ row c var fv ∗ row c w fw ∗ row c b fb)) ?_)
  refine reorder (by iintro ⟨H1, H2, H3, H4⟩; iframe) (waitIn_run EC 𝒱 c bd i (src := x) (K := K) (sm := sa) (A := X)
    (X := iprop(flyIn EC c i g P sb G
      ∗ hold (R := 65536) (C := 128) c ko A ∗ hold (R := 65536) (C := 128) c po B ∗ row c mean fm ∗ row c var fv ∗ row c w fw ∗ row c b fb)) ?_)
  refine reorder (by iintro ⟨H1, H2, H3, H4, H5, H6⟩; iframe) (waitIn_run EC 𝒱 c bd i (src := g) (K := P) (sm := sb) (A := G)
    (X := iprop(hold (R := 65536) (C := 128) c x X ∗ hold (R := 32768) (C := 128) c K (fun p => X (i.val * 32768 + p.1, p.2)) ∗ semVal ((c : Thread nD τ), .dma sa.sem) 0
      ∗ hold (R := 65536) (C := 128) c ko A ∗ hold (R := 65536) (C := 128) c po B ∗ row c mean fm ∗ row c var fv ∗ row c w fw ∗ row c b fb)) ?_)
  generalize hZ : (iprop(hold (R := 65536) (C := 128) c x X ∗ hold (R := 65536) (C := 128) c g G
    ∗ hold (R := 65536) (C := 128) c ko A ∗ hold (R := 65536) (C := 128) c po B
    ∗ semVal ((c : Thread nD τ), .dma sa.sem) 0 ∗ semVal ((c : Thread nD τ), .dma sb.sem) 0 ∗ (∃ W, owes (c : Thread nD τ) 0 W)) : sProp 𝕄) = Z
  have open0 : iprop(hold (R := 65536) (C := 128) c g G ∗ hold (R := 32768) (C := 128) c P (fun p => G (i.val * 32768 + p.1, p.2))
      ∗ semVal ((c : Thread nD τ), .dma sb.sem) 0 ∗ (∃ W, owes (c : Thread nD τ) 0 W)
      ∗ hold (R := 65536) (C := 128) c x X ∗ hold (R := 32768) (C := 128) c K (fun p => X (i.val * 32768 + p.1, p.2)) ∗ semVal ((c : Thread nD τ), .dma sa.sem) 0
      ∗ hold (R := 65536) (C := 128) c ko A ∗ hold (R := 65536) (C := 128) c po B ∗ row c mean fm ∗ row c var fv ∗ row c w fw ∗ row c b fb)
      ⊢ iprop(row c var fv ∗ (row c mean fm ∗ row c w fw ∗ row c b fb
        ∗ hold (R := 32768) (C := 128) c K (fun p => X (i.val * 32768 + p.1, p.2)) ∗ hold (R := 32768) (C := 128) c P (fun p => G (i.val * 32768 + p.1, p.2)) ∗ Z)) := by
    rw [← hZ]
    iintro ⟨H1, H2, H3, H4, H5, H6, H7, H8, H9, H10, H11, H12, H13⟩
    iframe
  refine ld1_run 𝒱 c bd (m := var) (f := fv) open0 fun vv hv => ?_
  refine ld1_run 𝒱 c bd (m := mean) (f := fm) (X := iprop(row c var fv ∗ row c w fw ∗ row c b fb
        ∗ hold (R := 32768) (C := 128) c K (fun p => X (i.val * 32768 + p.1, p.2)) ∗ hold (R := 32768) (C := 128) c P (fun p => G (i.val * 32768 + p.1, p.2)) ∗ Z))
    (by iintro ⟨H1, H2, H3⟩; iframe) fun vm hm => ?_
  refine ld1_run 𝒱 c bd (m := w) (f := fw) (X := iprop(row c mean fm ∗ row c var fv ∗ row c b fb
        ∗ hold (R := 32768) (C := 128) c K (fun p => X (i.val * 32768 + p.1, p.2)) ∗ hold (R := 32768) (C := 128) c P (fun p => G (i.val * 32768 + p.1, p.2)) ∗ Z))
    (by iintro ⟨H1, H2, H3, H4⟩; iframe) fun vw hw => ?_
  refine ld1_run 𝒱 c bd (m := b) (f := fb) (X := iprop(row c mean fm ∗ row c var fv ∗ row c w fw
        ∗ hold (R := 32768) (C := 128) c K (fun p => X (i.val * 32768 + p.1, p.2)) ∗ hold (R := 32768) (C := 128) c P (fun p => G (i.val * 32768 + p.1, p.2)) ∗ Z))
    (by iintro ⟨H1, H2, H3, H4, H5⟩; iframe) fun vb hb => ?_
  have hd : IsRow (sqrt (addf (shapeCast R1 vv (by decide)) (broadcast R1 (Scalar.ofBits .f32 0x3727C5AC#32)))) (denOf fv) := by
    intro ι
    rw [shapeCast_self]
    show FloatOps.sqrt (FloatOps.addf (vv ι) _) = _
    rw [hv ι]
    rfl
  have open1 : iprop(row c b fb ∗ row c mean fm ∗ row c var fv ∗ row c w fw
        ∗ hold (R := 32768) (C := 128) c K (fun p => X (i.val * 32768 + p.1, p.2)) ∗ hold (R := 32768) (C := 128) c P (fun p => G (i.val * 32768 + p.1, p.2)) ∗ Z)
      ⊢ st c K P (fun p => (halfOf i.val X p, halfOf i.val G p)) iprop(row c mean fm ∗ row c var fv ∗ row c w fw ∗ row c b fb ∗ Z) := by
    unfold st
    iintro ⟨H1, H2, H3, H4, H5, H6, H7⟩
    isplitl [H5]
    · iexact H5
    isplitl [H6]
    · iexact H6
    iframe
  refine open1.trans ?_
  refine then_run 𝒱 c bd (passInit_run 𝒱 c bd Set.univ K P _ hd (by rw [shapeCast_self]; exact hm) (by rw [shapeCast_self]; exact hw) (by rw [shapeCast_self]; exact hb) _) ?_
  refine then_run 𝒱 c bd (passFused_run 𝒱 c bd Set.univ K P _ 7 (by omega) (by omega) 0#1 _) ?_
  refine then_run 𝒱 c bd (passFar_run 𝒱 c bd Set.univ K P _ 1 8 (by omega) (by omega) (by omega) 0#1 _) ?_
  refine then_run 𝒱 c bd (passFused_run 𝒱 c bd Set.univ K P _ 8 (by omega) (by omega) 0#1 _) ?_
  refine then_run 𝒱 c bd (passFar2_run 𝒱 c bd Set.univ K P _ 2 9 (by omega) (by omega) (by omega) 0#1 _) ?_
  refine then_run 𝒱 c bd (passFused_run 𝒱 c bd Set.univ K P _ 9 (by omega) (by omega) 0#1 _) ?_
  refine then_run 𝒱 c bd (passFar2_run 𝒱 c bd Set.univ K P _ 3 10 (by omega) (by omega) (by omega) 0#1 _) ?_
  refine then_run 𝒱 c bd (passFar_run 𝒱 c bd Set.univ K P _ 1 10 (by omega) (by omega) (by omega) 0#1 _) ?_
  refine then_run 𝒱 c bd (passFused_run 𝒱 c bd Set.univ K P _ 10 (by omega) (by omega) 0#1 _) ?_
  refine then_run 𝒱 c bd (passFar2_run 𝒱 c bd Set.univ K P _ 4 11 (by omega) (by omega) (by omega) 0#1 _) ?_
  refine then_run 𝒱 c bd (passFar2_run 𝒱 c bd Set.univ K P _ 2 11 (by omega) (by omega) (by omega) 0#1 _) ?_
  refine then_run 𝒱 c bd (passFused_run 𝒱 c bd Set.univ K P _ 11 (by omega) (by omega) 0#1 _) ?_
  refine then_run 𝒱 c bd (passFar2_run 𝒱 c bd Set.univ K P _ 5 12 (by omega) (by omega) (by omega) 0#1 _) ?_
  refine then_run 𝒱 c bd (passFar2_run 𝒱 c bd Set.univ K P _ 3 12 (by omega) (by omega) (by omega) 0#1 _) ?_
  refine then_run 𝒱 c bd (passFar_run 𝒱 c bd Set.univ K P _ 1 12 (by omega) (by omega) (by omega) 0#1 _) ?_
  refine then_run 𝒱 c bd (passFused_run 𝒱 c bd Set.univ K P _ 12 (by omega) (by omega) 0#1 _) ?_
  refine then_run 𝒱 c bd (passFar2_run 𝒱 c bd Set.univ K P _ 6 13 (by omega) (by omega) (by omega) 0#1 _) ?_
  refine then_run 𝒱 c bd (passFar2_run 𝒱 c bd Set.univ K P _ 4 13 (by omega) (by omega) (by omega) 0#1 _) ?_
  refine then_run 𝒱 c bd (passFar2_run 𝒱 c bd Set.univ K P _ 2 13 (by omega) (by omega) (by omega) 0#1 _) ?_
  refine then_run 𝒱 c bd (passFused_run 𝒱 c bd Set.univ K P _ 13 (by omega) (by omega) 0#1 _) ?_
  refine then_run 𝒱 c bd (passFar2_run 𝒱 c bd Set.univ K P _ 7 14 (by omega) (by omega) (by omega) 0#1 _) ?_
  refine then_run 𝒱 c bd (passFar2_run 𝒱 c bd Set.univ K P _ 5 14 (by omega) (by omega) (by omega) 0#1 _) ?_
  refine then_run 𝒱 c bd (passFar2_run 𝒱 c bd Set.univ K P _ 3 14 (by omega) (by omega) (by omega) 0#1 _) ?_
  refine then_run 𝒱 c bd (passFar_run 𝒱 c bd Set.univ K P _ 1 14 (by omega) (by omega) (by omega) 0#1 _) ?_
  refine then_run 𝒱 c bd (passFused_run 𝒱 c bd Set.univ K P _ 14 (by omega) (by omega) 0#1 _) ?_
  refine then_run 𝒱 c bd (passFar2_run 𝒱 c bd Set.univ K P _ 8 15 (by omega) (by omega) (by omega) (flipOf i.val) _) ?_
  refine then_run 𝒱 c bd (passFar2_run 𝒱 c bd Set.univ K P _ 6 15 (by omega) (by omega) (by omega) (flipOf i.val) _) ?_
  refine then_run 𝒱 c bd (passFar2_run 𝒱 c bd Set.univ K P _ 4 15 (by omega) (by omega) (by omega) (flipOf i.val) _) ?_
  refine then_run 𝒱 c bd (passFar2_run 𝒱 c bd Set.univ K P _ 2 15 (by omega) (by omega) (by omega) (flipOf i.val) _) ?_
  refine then_run 𝒱 c bd (passFused_run 𝒱 c bd Set.univ K P _ 15 (by omega) (by omega) (flipOf i.val) _) ?_
  refine BI.Entails.trans (Entails.of_eq (congrArg (fun S => st c K P S iprop(row c mean fm ∗ row c var fv ∗ row c w fw ∗ row c b fb ∗ Z))
    (?_ : _ = sortA i.val fv fm fw fb X G))) ?_
  · simp only [sortA, stageAt, stages14, farsAt, fusedAt, Nat.reduceSub, Nat.reduceMul, Nat.reducePow]
  generalize sortA i.val fv fm fw fb X G = S
  subst hZ
  unfold st
  refine reorder (by iintro ⟨H1, H2, H3, H4, H5, H6, H7, H8, H9, H10, H11, H12, H13⟩; iframe) (startOut_run EC 𝒱 c bd i (K := K) (dst := ko) (sm := sa) (A := A) (B := fun p => (S p).1)
    (X := iprop(hold (R := 32768) (C := 128) c P (fun p => (S p).2) ∗ hold (R := 65536) (C := 128) c po B ∗ semVal ((c : Thread nD τ), .dma sb.sem) 0
      ∗ hold (R := 65536) (C := 128) c x X ∗ hold (R := 65536) (C := 128) c g G ∗ (∃ W, owes (c : Thread nD τ) 0 W)
      ∗ row c mean fm ∗ row c var fv ∗ row c w fw ∗ row c b fb)) ?_)
  refine reorder (by iintro ⟨H1, H2, H3, H4, H5, H6, H7, H8⟩; iframe) (startOut_run EC 𝒱 c bd i (K := P) (dst := po) (sm := sb) (A := B) (B := fun p => (S p).2)
    (X := iprop(flyOut EC c i K ko sa (fun p => (S p).1) A ∗ (∃ W, owes (c : Thread nD τ) 0 W)
      ∗ hold (R := 65536) (C := 128) c x X ∗ hold (R := 65536) (C := 128) c g G
      ∗ row c mean fm ∗ row c var fv ∗ row c w fw ∗ row c b fb)) ?_)
  refine reorder (by iintro ⟨H1, H2, H3, H4⟩; iframe) (waitOut_run EC 𝒱 c bd i (K := K) (dst := ko) (sm := sa) (A := A) (B := fun p => (S p).1)
    (X := iprop(flyOut EC c i P po sb (fun p => (S p).2) B
      ∗ hold (R := 65536) (C := 128) c x X ∗ hold (R := 65536) (C := 128) c g G
      ∗ row c mean fm ∗ row c var fv ∗ row c w fw ∗ row c b fb)) ?_)
  refine reorder (by iintro ⟨H1, H2, H3, H4, H5, H6⟩; ihave H := hold_raw c $$ H1; iframe) (waitOut_run EC 𝒱 c bd i (K := P) (dst := po) (sm := sb) (A := B) (B := fun p => (S p).2)
    (X := iprop((∃ f, raw (c : Thread nD τ) K f) ∗ hold (R := 65536) (C := 128) c ko (put 32768 (i.val * 32768) (fun p => (S p).1) A)
      ∗ semVal ((c : Thread nD τ), .dma sa.sem) 0
      ∗ hold (R := 65536) (C := 128) c x X ∗ hold (R := 65536) (C := 128) c g G
      ∗ row c mean fm ∗ row c var fv ∗ row c w fw ∗ row c b fb)) ?_)
  rw [wp_pure]
  refine reorder ?_ BI.fupd_intro
  unfold stateA
  iintro ⟨H1, H2, H3, H4, H5, H6, H7, H8, H9, H10, H11, H12, H13⟩
  ihave H := hold_raw c $$ H1
  iframe

end Kernel

end Cert.Net
-- ==== Proof.PassC.lean ====
/-
The second kernel as a program: its own half copied in, the other half streamed through two slots of 2048 rows
and each row exchanged with its partner, then the rest of the last stage, then the payloads copied out.
-/
module

public import proofs.«01_k».proof.Proof.Pass

@[expose] public section

set_option maxRecDepth 65536

noncomputable section

namespace Cert.Net

open Idealize.ShloMosaic Idealize.SL.Sem

variable {F : FTy → Type} [FloatOps F]

abbrev B3 : Shape := ⟨3, ![2, 2048, 128]⟩
abbrev B1 : Shape := ⟨3, ![1, 2048, 128]⟩
abbrev B : Shape := ⟨2, ![2048, 128]⟩
abbrev Q2 : Shape := ⟨2, ![2, 2]⟩
abbrev Q1 : Shape := ⟨2, ![1, 1]⟩
abbrev T3 : Shape := ⟨3, ![1, 64, 128]⟩
theorem hT3 : 0 < T3.numel := by decide
theorem sqQ : Q1.Squeezes S0 := by decide
theorem sqB : B1.Squeezes B := by decide

/-- The words of a trip: the slot of its chunk, the slot of the next chunk, the rows of both chunks in the other half. -/
abbrev slotW (n : ℕ) : BitVec 32 := Scalar.remsi (Scf.iv 0#32 1#32 n) 2#32
abbrev slotW' (n : ℕ) : BitVec 32 := Scalar.remsi (Scalar.addi (Scf.iv 0#32 1#32 n) 1#32) 2#32
abbrev otherW (i : ℕ) : BitVec 32 := Scalar.muli (Scalar.subi 1#32 (BitVec.ofNat 32 i)) 32768#32
abbrev srcW (i n : ℕ) : BitVec 32 := Scalar.addi (otherW i) (Scalar.muli (Scf.iv 0#32 1#32 n) 2048#32)
abbrev srcW' (i n : ℕ) : BitVec 32 := Scalar.addi (otherW i) (Scalar.muli (Scalar.addi (Scf.iv 0#32 1#32 n) 1#32) 2048#32)
/-- Whether a trip has a next chunk. -/
abbrev moreW (n : ℕ) : BitVec 1 :=
  Scalar.cmpi .ne (Scalar.extui (Scalar.cmpi .slt (Scalar.addi (Scf.iv 0#32 1#32 n) 1#32) 16#32) : BitVec 32) 0#32
abbrev crossW (n t : ℕ) : BitVec 32 := Scalar.addi (Scalar.muli (Scf.iv 0#32 1#32 n) 2048#32) (Scalar.muli (Scf.iv 0#32 1#32 t) 64#32)

theorem words16 (n : ℕ) (hn : n < 16) :
    (slotW n).toNat = n % 2 ∧ (slotW' n).toNat = (n + 1) % 2 ∧ (moreW n = 1#1 ↔ n + 1 < 16) := by
  have h : ∀ n : Fin 16, (slotW n.val).toNat = n.val % 2 ∧ (slotW' n.val).toNat = (n.val + 1) % 2
      ∧ (moreW n.val = 1#1 ↔ n.val + 1 < 16) := by decide +kernel
  exact h ⟨n, hn⟩
theorem wordsSrc (i n : ℕ) (hi : i < 2) (hn : n < 16) :
    (srcW i n).toNat = (1 - i) * 32768 + n * 2048 ∧ (srcW' i n).toNat = (1 - i) * 32768 + (n + 1) * 2048 := by
  have h : ∀ (i : Fin 2) (n : Fin 16), (srcW i.val n.val).toNat = (1 - i.val) * 32768 + n.val * 2048
      ∧ (srcW' i.val n.val).toNat = (1 - i.val) * 32768 + (n.val + 1) * 2048 := by decide +kernel
  exact h ⟨i, hi⟩ ⟨n, hn⟩
theorem crossW_toNat (n t : ℕ) (hn : n < 16) (ht : t < 32) : (crossW n t).toNat = n * 2048 + t * 64 := by
  have h : ∀ (n : Fin 16) (t : Fin 32), (crossW n.val t.val).toNat = n.val * 2048 + t.val * 64 := by decide +kernel
  exact h ⟨n, hn⟩ ⟨t, ht⟩
theorem rowX_toNat (t : ℕ) (ht : t < 32) : (row1W t).toNat = t * 64 := by
  rw [row1W_toNat t (by omega)]; omega

theorem lt16 (t : Fin L16.trips) : t.val < 16 := lt_of_lt_of_eq t.isLt trips16
theorem lt32 (t : Fin L32.trips) : t.val < 32 := lt_of_lt_of_eq t.isLt trips32

theorem inbX (n : Fin L16.trips) (t : Fin L32.trips) : ∀ a, off2 (crossW n t) a + T.size a ≤ H.size a :=
  inbT (crossW_toNat n t (lt16 n) (lt32 t)) (by have := lt16 n; have := lt32 t; omega)

/-- A slot of the buffer of two chunks. -/
theorem inbSlot (w : BitVec 32) (h : w.toNat < 2) : ∀ a, (![w.toNat, 0, 0] : Fin 3 → Nat) a + B1.size a ≤ B3.size a := by
  intro a
  match a with
  | ⟨0, _⟩ => show w.toNat + 1 ≤ 2; omega
  | ⟨1, _⟩ => show 0 + 2048 ≤ 2048; omega
  | ⟨2, _⟩ => show 0 + 128 ≤ 128; omega
theorem inbSem (w : BitVec 32) (c : ℕ) (hc : c < 2) (h : w.toNat < 2) : ∀ a, (![w.toNat, c] : Fin 2 → Nat) a + Q1.size a ≤ Q2.size a := by
  intro a
  match a with
  | ⟨0, _⟩ => show w.toNat + 1 ≤ 2; omega
  | ⟨1, _⟩ => show c + 1 ≤ 2; omega
theorem inbSrc (w : BitVec 32) (h : w.toNat + 2048 ≤ 65536) : ∀ a, (![w.toNat, 0] : Fin 2 → Nat) a + B.size a ≤ X2.size a := by
  intro a
  match a with
  | ⟨0, _⟩ => show w.toNat + 2048 ≤ 65536; omega
  | ⟨1, _⟩ => show 0 + 128 ≤ 128; omega
theorem inbT3 (w v : BitVec 32) (h : w.toNat < 2) (hv : v.toNat + 64 ≤ 2048) :
    ∀ a, (![(Scalar.indexCast w).toNat, (Scalar.indexCast v).toNat, 0] : Fin 3 → Nat) a + T3.size a ≤ B3.size a := by
  intro a
  match a with
  | ⟨0, _⟩ => show w.toNat + 1 ≤ 2; omega
  | ⟨1, _⟩ => show v.toNat + 64 ≤ 2048; omega
  | ⟨2, _⟩ => show 0 + 128 ≤ 128; omega

theorem slotW_lt (n : Fin L16.trips) : (slotW n).toNat < 2 := by rw [(words16 n (lt16 n)).1]; omega
theorem slotW'_lt (n : Fin L16.trips) : (slotW' n).toNat < 2 := by rw [(words16 n (lt16 n)).2.1]; omega
theorem srcW_le (i : Fin 2) (n : Fin L16.trips) : (srcW i.val n).toNat + 2048 ≤ 65536 := by
  rw [(wordsSrc i.val n i.isLt (lt16 n)).1]; have := lt16 n; have := i.isLt; omega
theorem srcW'_le (i : Fin 2) (n : Fin L16.trips) (h : moreW n = 1#1) : (srcW' i.val n).toNat + 2048 ≤ 65536 := by
  rw [(wordsSrc i.val n i.isLt (lt16 n)).2]; have := (words16 n (lt16 n)).2.2.1 h; have := i.isLt; omega
theorem src0_le (i : Fin 2) : (Scalar.addi (otherW i.val) 0#32).toNat + 2048 ≤ 65536 := by
  revert i; decide
theorem rowX_le (t : Fin L32.trips) : (row1W t).toNat + 64 ≤ 2048 := by
  rw [rowX_toNat t (lt32 t)]; have := lt32 t; omega

section Programs

variable {nD : Nat} {τ : Topo} {sig : RefSig} {Λ : Labels}
variable (K P : Memref sig .tc .vmem H .f32) (C D : Memref sig .tc .vmem B3 .f32)

/-- Where a row of this half takes its partner of the other half: `hi` tells whether this is the second half. -/
def crossTakes (hi : BitVec 1) (k p k' p' : FVec F T .f32) : IVec T 1 := xori (before T k' p' k p) (broadcast T hi)

/-- A trip of the exchange: rows of this half at `o`, of the streamed half at `q`. -/
def bodyCross (hi : BitVec 1) (o : Fin 2 → Nat) (h : ∀ a, o a + T.size a ≤ H.size a)
    (q : Fin 3 → Nat) (hq : ∀ a, q a + T3.size a ≤ B3.size a) : Prog (TpuEff nD τ sig (Elt F) Λ .tc) PUnit := do
  let k : Vec F T .f32 ← Prog.lift (.load K (rT o h).toLoadRect (View.loadsAt_vmem hT))
  let p : Vec F T .f32 ← Prog.lift (.load P (rT o h).toLoadRect (View.loadsAt_vmem hT))
  let k' : Vec F T3 .f32 ← Prog.lift (.load C (Rect.unit (s := B3) q T3.size hq).toLoadRect (View.loadsAt_vmem hT3))
  let p' : Vec F T3 .f32 ← Prog.lift (.load D (Rect.unit (s := B3) q T3.size hq).toLoadRect (View.loadsAt_vmem hT3))
  putT K o h (select (crossTakes hi k p (shapeCast T k' (by decide)) (shapeCast T p' (by decide))) (shapeCast T k' (by decide)) k) <|
    putT P o h (select (crossTakes hi k p (shapeCast T k' (by decide)) (shapeCast T p' (by decide))) (shapeCast T p' (by decide)) p) <|
    pure ⟨⟩

abbrev slotSem (sm : DmaSems sig Q2) (w : BitVec 32) (c : ℕ) (hc : c < 2) (h : w.toNat < 2) : DmaSems sig S0 :=
  (sm.slice (Rect.unit (s := Q2) ![w.toNat, c] Q1.size (inbSem w c hc h))).squeeze S0 sqQ
abbrev slotRef (m : Memref sig .tc .vmem B3 .f32) (w : BitVec 32) (h : w.toNat < 2) : Memref sig .tc .vmem B .f32 :=
  (m.slice (Rect.unit (s := B3) ![w.toNat, 0, 0] B1.size (inbSlot w h)) (fun _ => rfl)).squeeze B sqB
abbrev chunkRef (m : Memref sig .tc .hbm X2 .f32) (w : BitVec 32) (h : w.toNat + 2048 ≤ 65536) : Memref sig .tc .hbm B .f32 :=
  m.slice (Rect.unit (s := X2) ![w.toNat, 0] B.size (inbSrc w h)) (fun _ => rfl)

variable (i : Fin 2) (ki pi o : Memref sig .tc .hbm X2 .f32)
  (hK : K.IsWhole) (hP : P.IsWhole) (sa sb : DmaSems sig S0) (sm : DmaSems sig Q2)

/-- A chunk started, and waited for. -/
abbrev startChunk (src : Memref sig .tc .hbm X2 .f32) (dst : Memref sig .tc .vmem B3 .f32) (c : ℕ) (hc : c < 2)
    (wr : BitVec 32) (hr : wr.toNat + 2048 ≤ 65536) (ws : BitVec 32) (hs : ws.toNat < 2) : Prog (TpuEff nD τ sig (Elt F) Λ .tc) PUnit :=
  Prog.lift (.enqueueDma (chunkRef src wr hr) (.here (slotRef dst ws hs)) (.dma (slotSem sm ws c hc hs).sem)
    (View.wordExact_bits rfl) ((View.wordExact_bits rfl).reshape _ _) ⟨Or.inl rfl, trivial⟩)
abbrev waitChunk (src : Memref sig .tc .hbm X2 .f32) (dst : Memref sig .tc .vmem B3 .f32) (c : ℕ) (hc : c < 2)
    (wr : BitVec 32) (hr : wr.toNat + 2048 ≤ 65536) (ws : BitVec 32) (hs : ws.toNat < 2) : Prog (TpuEff nD τ sig (Elt F) Λ .tc) PUnit :=
  Prog.lift (.waitDma2 (slotSem sm ws c hc hs).sem (chunkRef src wr hr) (slotRef dst ws hs)
    (View.wordExact_bits rfl) ((View.wordExact_bits rfl).reshape _ _))

/-- The rows of one chunk exchanged. -/
def crossChunk (n : Fin L16.trips) : Prog (TpuEff nD τ sig (Elt F) Λ .tc) PUnit :=
  Scf.Loop.for L32 ok32 ⟨⟩ fun t _ =>
    bodyCross K P C D (Scalar.cmpi .eq (BitVec.ofNat 32 i.val) 1#32) (off2 (crossW n t)) (inbX n t)
      ![(Scalar.indexCast (slotW n)).toNat, (Scalar.indexCast (row1W t)).toNat, 0]
      (inbT3 (slotW n) (row1W t) (slotW_lt n) (rowX_le t))

/-- The other half streamed and exchanged with this one. -/
def passCross : Prog (TpuEff nD τ sig (Elt F) Λ .tc) PUnit :=
  Scf.Loop.for L16 ok16 ⟨⟩ fun n _ => do
    if h : moreW n = 1#1 then do
      startChunk sm ki C 0 (by omega) (srcW' i.val n) (srcW'_le i n h) (slotW' n) (slotW'_lt n)
      startChunk sm pi D 1 (by omega) (srcW' i.val n) (srcW'_le i n h) (slotW' n) (slotW'_lt n)
      pure ⟨⟩
    else do
      pure ⟨⟩
    waitChunk sm ki C 0 (by omega) (srcW i.val n) (srcW_le i n) (slotW n) (slotW_lt n)
    waitChunk sm pi D 1 (by omega) (srcW i.val n) (srcW_le i n) (slotW n) (slotW_lt n)
    crossChunk K P C D i n
    pure ⟨⟩

/-- This half copied in, the exchange, and the first two distances. -/
def c1u : Prog (TpuEff nD τ sig (Elt F) Λ .tc) PUnit := do
  startIn i ki K hK sa
  startIn i pi P hP sb
  waitIn i ki K hK sa
  waitIn i pi P hP sb
  startChunk sm ki C 0 (by omega) (Scalar.addi (otherW i.val) 0#32) (src0_le i) 0#32 (by decide)
  startChunk sm pi D 1 (by omega) (Scalar.addi (otherW i.val) 0#32) (src0_le i) 0#32 (by decide)
  passCross K P C D i ki pi sm
  passFar2 K P 8 (by omega) 65536#32 0#1
  pure ⟨⟩

/-- The same, with the word the kernel hands on. -/
def c1 : Prog (TpuEff nD τ sig (Elt F) Λ .tc) (BitVec 32) := do
  startIn i ki K hK sa
  startIn i pi P hP sb
  waitIn i ki K hK sa
  waitIn i pi P hP sb
  startChunk sm ki C 0 (by omega) (Scalar.addi (otherW i.val) 0#32) (src0_le i) 0#32 (by decide)
  startChunk sm pi D 1 (by omega) (Scalar.addi (otherW i.val) 0#32) (src0_le i) 0#32 (by decide)
  passCross K P C D i ki pi sm
  passFar2 K P 8 (by omega) 65536#32 0#1
  pure 0#32

theorem c1_eq : (c1 K P C D i ki pi hK hP sa sb sm : Prog (TpuEff nD τ sig (Elt F) Λ .tc) (BitVec 32))
    = c1u K P C D i ki pi hK hP sa sb sm >>= fun _ => pure 0#32 := by
  simp only [c1, c1u, bind_assoc, pure_bind]

/-- The second kernel: the last stage. -/
def phaseC : Prog (TpuEff nD τ sig (Elt F) Λ .tc) PUnit := do
  c1u K P C D i ki pi hK hP sa sb sm
  passFar2 K P 6 (by omega) 65536#32 0#1
  passFar2 K P 4 (by omega) 65536#32 0#1
  passFar2 K P 2 (by omega) 65536#32 0#1
  passFused K P 65536#32 0#1
  startOut i P hP o sb
  waitOut i P hP o sb
  pure ⟨⟩

end Programs

end Cert.Net
-- ==== Proof.Ring.lean ====
/-
The other half streamed through two slots of 2048 rows: a slot's copies, and loads from a slot.
-/
module

public import proofs.«01_k».proof.Proof.Copy
public import proofs.«01_k».proof.Proof.PassC
public import Idealize.ShloMosaic.Lib.ValueLayout

@[expose] public section

set_option maxRecDepth 65536

noncomputable section

namespace Cert.Net

open Idealize.ShloMosaic Idealize.ShloMosaic.TcCoe
open Idealize.ShloMosaic.LaneScatter (raw)
open Idealize.ShloMosaic.Updates (Arr IsArr isArr_load)
open Idealize.SL Idealize.SL.Sem
open Idealize.SL.BI (sProp)
open scoped Idealize.SL.BI
open Idealize.SL.BI.BIBase Idealize.SL.BI.Laws Idealize.SL.ProofMode
open Idealize.SL.RA

variable {F : FTy → Type} [FloatOps F]
variable {nD : Nat} {τ : Topo} {sig : RefSig} {Λ : Labels} {U : Type} [URA U] {Lvl : Type} [Preorder Lvl]

local notation "𝕄" => MT nD τ sig Unit (Elt F) ℕ U Lvl

/-- The slot of chunk `n`. -/
abbrev pw (n : ℕ) : BitVec 32 := BitVec.ofNat 32 (n % 2)
/-- The first row of chunk `n` of the other half. -/
abbrev cw (i n : ℕ) : BitVec 32 := BitVec.ofNat 32 ((1 - i) * 32768 + (n % 16) * 2048)

theorem pw_toNat (n : ℕ) : (pw n).toNat = n % 2 := by
  rw [BitVec.toNat_ofNat]; omega
theorem pw_lt (n : ℕ) : (pw n).toNat < 2 := by rw [pw_toNat]; omega
theorem cw_toNat (i : Fin 2) (n : ℕ) : (cw i.val n).toNat = (1 - i.val) * 32768 + (n % 16) * 2048 := by
  rw [BitVec.toNat_ofNat]; omega
theorem cw_le (i : Fin 2) (n : ℕ) : (cw i.val n).toNat + 2048 ≤ 65536 := by
  rw [cw_toNat]; omega
theorem pw_next (n : ℕ) : pw (n + 1 + 1) = pw n := by show BitVec.ofNat 32 _ = BitVec.ofNat 32 _; congr 1; omega

theorem slotW_eq (n : Fin L16.trips) : slotW n = pw n :=
  BitVec.eq_of_toNat_eq (by rw [(words16 n (lt16 n)).1, pw_toNat])
theorem slotW'_eq (n : Fin L16.trips) : slotW' n = pw (n.val + 1) :=
  BitVec.eq_of_toNat_eq (by rw [(words16 n (lt16 n)).2.1, pw_toNat])
theorem srcW_eq (i : Fin 2) (n : Fin L16.trips) : srcW i.val n = cw i.val n :=
  BitVec.eq_of_toNat_eq (by rw [(wordsSrc i.val n i.isLt (lt16 n)).1, cw_toNat, Nat.mod_eq_of_lt (lt16 n)])
theorem srcW'_eq (i : Fin 2) (n : Fin L16.trips) (h : n.val + 1 < 16) : srcW' i.val n = cw i.val (n.val + 1) :=
  BitVec.eq_of_toNat_eq (by rw [(wordsSrc i.val n i.isLt (lt16 n)).2, cw_toNat, Nat.mod_eq_of_lt h])
theorem src0_eq (i : Fin 2) : Scalar.addi (otherW i.val) 0#32 = cw i.val 0 := by
  revert i; decide

section Load

variable {defs : Defs nD τ sig (Elt F) Λ} (𝒱 : Variants) (c : Dev nD) (bd : Option 𝒱.V) (E : Set ℕ)
variable {α : Type} {Q : α → sProp (MT nD τ sig Unit (Elt F) ℕ U Lvl)}

/-- A tile of 64 rows loaded from a slot. -/
theorem load_slot {m : Memref sig .tc .vmem B3 .f32} {w : BitVec 32} {h : w.toNat < 2} {A : ℕ × ℕ → Elt F .f32} {q : Fin 3 → ℕ} {o : ℕ}
    (hq : q = ![w.toNat, o, 0]) (ho : o + 64 ≤ 2048) (inb : ∀ a, q a + T3.size a ≤ B3.size a)
    {hl : m.view.LoadsAt (Rect.unit (s := B3) q T3.size inb).toLoadRect}
    {k : Vec F T3 .f32 → Prog (TpuEff nD τ sig (Elt F) Λ .tc) α} {X : sProp 𝕄}
    (next : ∀ v : Vec F T3 .f32, (∀ ι, v ι = A (o + (ι 1).val, (ι 2).val)) →
      iprop(hold (R := 2048) (C := 128) c (slotRef m w h) A ∗ X) ⊢ wp frame (wpE defs 𝒱 (c : Thread nD τ) bd) E (k v) Q) :
    iprop(hold (R := 2048) (C := 128) c (slotRef m w h) A ∗ X) ⊢ wp frame (wpE defs 𝒱 (c : Thread nD τ) bd) E
      ((Prog.lift (.load m (Rect.unit (s := B3) q T3.size inb).toLoadRect hl)
        : Prog (TpuEff nD τ sig (Elt F) Λ .tc) (Vec F T3 .f32)) >>= k) Q := by
  subst hq
  unfold hold at next ⊢
  iintro ⟨⟨%f, H, %hf⟩, X⟩
  iapply (wp_load (defs := defs) 𝒱 (c : Thread nD τ) bd (Γ := PendingWaitsCtx.empty) E (m := m) (hl := hl) (k := k) (Q := Q) (q := fullShare) (f := f)
    (S := (slotRef m w h).view.set) (by
      rw [show (slotRef m w h).view.set = (m.view.slice (Rect.unit (s := B3) ![w.toNat, 0, 0] B1.size (inbSlot w h))).set from View.set_reshape _ _,
        View.set_slice]
      refine Finset.map_subset_map.mpr fun x hx => ?_
      rw [LoadRect.mem_set] at hx ⊢
      intro a
      obtain ⟨j, hj, hx⟩ := hx a
      match a with
      | ⟨0, _⟩ => exact ⟨j, hj, hx⟩
      | ⟨1, _⟩ =>
        have hj' : j < 64 := hj
        have hx' : (x ⟨1, by decide⟩ : ℕ) = o + 1 * j := hx
        exact ⟨o + j, (by show o + j < 2048; omega), (by show _ = 0 + 1 * (o + j); rw [hx']; omega)⟩
      | ⟨2, _⟩ => exact ⟨j, hj, hx⟩)) $$ H
  iintro H
  iapply (next _ (fun ι => by
    have h1 : (ι 1).val < 64 := (ι 1).isLt
    have e := hf (ix2 (⟨o + (ι 1).val, by omega⟩ : Fin 2048) (⟨(ι 2).val, (ι 2).isLt⟩ : Fin 128))
    refine Eq.trans ?_ e
    rw [View.readAt_apply]
    show m.view.read (Elt F) f _ = m.view.read (Elt F) f _
    congr 1
    refine Eq.trans ?_ (congrArg (fun y => (Rect.unit (s := B3) ![w.toNat, 0, 0] B1.size (inbSlot w h)).emb y)
      (ValueIdx.reshapeEquiv_ix2_1ab (a := 2048) (b := 128) (by decide) _ _).symm)
    funext a
    apply Fin.ext
    match a with
    | ⟨0, _⟩ =>
      have h0 : (ι 0).val < 1 := (ι 0).isLt
      show w.toNat + 1 * (ι 0).val = w.toNat + 1 * 0
      omega
    | ⟨1, _⟩ => show o + 1 * (ι 1).val = 0 + 1 * (o + (ι 1).val); omega
    | ⟨2, _⟩ => rfl))
  isplitl [H]
  · iexists f
    isplitl [H]
    · iexact H
    ipureintro
    exact hf
  iexact X

end Load

variable (EC : UEmb Counters (MT nD τ sig Unit (Elt F) ℕ U Lvl)) [EC.LandsIn (upEmb : UEmb _ (MT nD τ sig Unit (Elt F) ℕ U Lvl))]
variable {defs : Defs nD τ sig (Elt F) Λ} (𝒱 : Variants) (c : Dev nD) (bd : Option 𝒱.V)
variable {α : Type} {Q : α → sProp (MT nD τ sig Unit (Elt F) ℕ U Lvl)}

section Chunk

variable (i : Fin 2) (src : Memref sig .tc .hbm X2 .f32) (dst : Memref sig .tc .vmem B3 .f32) (sm : DmaSems sig Q2) (col : ℕ) (hc : col < 2)
variable (q : PosShare TreeShare) (fs : Buf (Elt F) (src.view.loc (c : Thread nD τ))) (n : ℕ)

/-- The slot of a word with nothing on its way. -/
def idleW (w : BitVec 32) (h : w.toNat < 2) : sProp (MT nD τ sig Unit (Elt F) ℕ U Lvl) :=
  iprop((src.view.loc (c : Thread nD τ) ↦[src.view.set]{q} fs) ∗ (∃ f, raw (c : Thread nD τ) (slotRef dst w h) f)
    ∗ semVal ((c : Thread nD τ), .dma (slotSem sm w col hc h).sem) 0)

/-- A slot with nothing on its way. -/
def idle1 : sProp (MT nD τ sig Unit (Elt F) ℕ U Lvl) := idleW c src dst sm col hc q fs (pw n) (pw_lt n)

/-- A slot with chunk `n` on its way. -/
def busy1 : sProp (MT nD τ sig Unit (Elt F) ℕ U Lvl) :=
  iprop(∃ fd, fly EC c (chunkRef src (cw i.val n) (cw_le i n)) (slotRef dst (pw n) (pw_lt n))
    (.dma (slotSem sm (pw n) col hc (pw_lt n)).sem) q src.view.set fs (slotRef dst (pw n) (pw_lt n)).view.set fd)

/-- A slot that holds chunk `n`. -/
def full1 (A : ℕ × ℕ → Elt F .f32) : sProp (MT nD τ sig Unit (Elt F) ℕ U Lvl) :=
  iprop(hold (R := 2048) (C := 128) c (slotRef dst (pw n) (pw_lt n)) (fun p => A ((1 - i.val) * 32768 + n * 2048 + p.1, p.2))
    ∗ (src.view.loc (c : Thread nD τ) ↦[src.view.set]{q} fs)
    ∗ semVal ((c : Thread nD τ), .dma (slotSem sm (pw n) col hc (pw_lt n)).sem) 0)

variable {i src dst sm col hc q fs n}

theorem idle_next : (idle1 c src dst sm col hc q fs n : sProp 𝕄) ⊢ idle1 c src dst sm col hc q fs (n + 1 + 1) := by
  have h : ∀ (w w' : BitVec 32) (e : w = w') (h : w.toNat < 2) (h' : w'.toNat < 2),
      (idleW c src dst sm col hc q fs w h : sProp 𝕄) = idleW c src dst sm col hc q fs w' h' := by
    intro w w' e h h'
    subst e
    rfl
  exact Entails.of_eq (h _ _ (pw_next n).symm _ _)

theorem full_idle {A : ℕ × ℕ → Elt F .f32} : (full1 c i src dst sm col hc q fs n A : sProp 𝕄) ⊢ idle1 c src dst sm col hc q fs n := by
  unfold full1 idle1 idleW hold
  iintro ⟨⟨%f, H, %_⟩, Hs, Hv⟩
  isplitl [Hs]
  · iexact Hs
  isplitl [H]
  · iexists f
    iexact H
  iexact Hv

theorem startChunk_run {wr ws : BitVec 32} (ewr : wr = cw i.val n) (ews : ws = pw n) {hr hs}
    {k : PUnit → Prog (TpuEff nD τ sig (Elt F) Λ .tc) α} {X : sProp 𝕄}
    (next : iprop(busy1 EC c i src dst sm col hc q fs n ∗ X) ⊢ wp frame (wpE defs 𝒱 (c : Thread nD τ) bd) Set.univ (k ⟨⟩) Q) :
    iprop(idle1 c src dst sm col hc q fs n ∗ X)
      ⊢ wp frame (wpE defs 𝒱 (c : Thread nD τ) bd) Set.univ (startChunk sm src dst col hc wr hr ws hs >>= k) Q := by
  subst ewr ews
  unfold busy1 at next
  unfold idle1 idleW
  iintro ⟨⟨Hs, ⟨%fd, Hd⟩, Hv⟩, X⟩
  iapply (start_run EC 𝒱 c bd (src := chunkRef src (cw i.val n) (cw_le i n)) (dst := slotRef dst (pw n) (pw_lt n)) (S := src.view.set) (fs := fs)
    (Sd := (slotRef dst (pw n) (pw_lt n)).view.set) (fd := fd) (q := q) (X := X) (k := k) (Q := Q)
    (by decide) (View.set_slice_subset _ _) (Finset.Subset.refl _) ?_)
  · iintro ⟨H, X⟩
    iapply next
    isplitl [H]
    · iexists fd
      iexact H
    iexact X
  isplitl [Hs]
  · iexact Hs
  isplitl [Hd]
  · iexact Hd
  isplitl [Hv]
  · iexact Hv
  iexact X

theorem waitChunk_run {A : ℕ × ℕ → Elt F .f32} (hA : IsArr (R := 65536) (C := 128) (src.view.read (Elt F) fs) A) (hn : n < 16)
    {wr ws : BitVec 32} (ewr : wr = cw i.val n) (ews : ws = pw n) {hr hs}
    {k : PUnit → Prog (TpuEff nD τ sig (Elt F) Λ .tc) α} {X : sProp 𝕄}
    (next : iprop(full1 c i src dst sm col hc q fs n A ∗ (∃ W, owes (c : Thread nD τ) 0 W) ∗ X)
      ⊢ wp frame (wpE defs 𝒱 (c : Thread nD τ) bd) Set.univ (k ⟨⟩) Q) :
    iprop(busy1 EC c i src dst sm col hc q fs n ∗ (∃ W, owes (c : Thread nD τ) 0 W) ∗ X)
      ⊢ wp frame (wpE defs 𝒱 (c : Thread nD τ) bd) Set.univ (waitChunk sm src dst col hc wr hr ws hs >>= k) Q := by
  subst ewr ews
  unfold busy1
  unfold full1 hold at next
  iintro ⟨⟨%fd, Hf⟩, HO, X⟩
  iapply (wait_run EC 𝒱 c bd (src := chunkRef src (cw i.val n) (cw_le i n)) (dst := slotRef dst (pw n) (pw_lt n)) (S := src.view.set) (fs := fs)
    (Sd := (slotRef dst (pw n) (pw_lt n)).view.set) (fd := fd) (q := q) (X := X) (k := k) (Q := Q)
    (View.set_slice_subset _ _) ?_)
  · iintro ⟨Hs, Hd, Hv, HO, X⟩
    iapply next
    isplitl [Hs Hd Hv]
    · isplitl [Hd]
      · iexists _
        isplitl [Hd]
        · iexact Hd
        ipureintro
        intro ι
        rw [View.read_write_univ]
        have := isArr_load hA (o := ((1 - i.val) * 32768 + n * 2048, 0)) (h := 2048) (w := 128) (off := ![(cw i.val n).toNat, 0])
          (by rw [cw_toNat, Nat.mod_eq_of_lt hn]) (inbSrc _ (cw_le i n)) ι
        refine this.trans ?_
        show A ((1 - i.val) * 32768 + n * 2048 + _, 0 + _) = _
        rw [Nat.zero_add]
      isplitl [Hs]
      · iexact Hs
      iexact Hv
    isplitl [HO]
    · iexact HO
    iexact X
  isplitl [Hf]
  · iexact Hf
  isplitl [HO]
  · iexact HO
  iexact X

end Chunk

end Cert.Net
-- ==== Proof.RunC.lean ====
/-
The second kernel at one grid point, run.
-/
module

public import proofs.«01_k».proof.Proof.RunA
public import proofs.«01_k».proof.Proof.Ring

@[expose] public section

set_option maxRecDepth 65536

noncomputable section

namespace Cert.Net

open Idealize.ShloMosaic Idealize.ShloMosaic.TcCoe
open Idealize.ShloMosaic.LaneScatter (raw)
open Idealize.ShloMosaic.Updates (Arr IsArr isArr_load)
open Idealize.SL Idealize.SL.Sem
open Idealize.SL.BI (sProp)
open scoped Idealize.SL.BI
open Idealize.SL.BI.BIBase Idealize.SL.BI.Laws Idealize.SL.ProofMode
open Idealize.SL.RA

variable {F : FTy → Type} [FloatOps F]

/-- The exchange with the other half: each row takes the other half's row at the same place or stays. -/
def crossAt (hi : BitVec 1) (X Y : A2 F) : A2 F := fun p => pick (IntOp.xori (lt (Y p) (X p)) hi) (Y p) (X p)

/-- What the second kernel makes of half `i`, `J` the array both halves are read from. -/
def lastC (i : ℕ) (J : A2 F) : A2 F :=
  finishAt (upAt (2 ^ 16) 0#1) (farsAt (upAt (2 ^ 16) 0#1) 9 (crossAt (flipOf i) (halfOf i J) (halfOf (1 - i) J)))

variable {nD : Nat} {τ : Topo} {sig : RefSig} {Λ : Labels} {U : Type} [URA U] {Lvl : Type} [Preorder Lvl]

local notation "𝕄" => MT nD τ sig Unit (Elt F) ℕ U Lvl

variable (EC : UEmb Counters (MT nD τ sig Unit (Elt F) ℕ U Lvl)) [EC.LandsIn (upEmb : UEmb _ (MT nD τ sig Unit (Elt F) ℕ U Lvl))]
variable {defs : Defs nD τ sig (Elt F) Λ} (𝒱 : Variants) (c : Dev nD) (bd : Option 𝒱.V)

section Trip

variable {K P : Memref sig .tc .vmem H .f32} {C D : Memref sig .tc .vmem B3 .f32}

/-- A trip of the exchange. -/
theorem bodyCross_run {Z : sProp 𝕄} {hi : BitVec 1} {X Y : A2 F} {w : BitVec 32} {hw : w.toNat < 2} {A B : ℕ × ℕ → Elt F .f32}
    {o : Fin 2 → ℕ} {a : ℕ} (eo : o = ![a, 0]) (h : ∀ a, o a + T.size a ≤ H.size a)
    {q : Fin 3 → ℕ} {b : ℕ} (eq : q = ![w.toNat, b, 0]) (hb : b + 64 ≤ 2048) (hq : ∀ a, q a + T3.size a ≤ B3.size a)
    (hY : ∀ r < 64, ∀ l < 128, Y (a + r, l) = (A (b + r, l), B (b + r, l))) :
    st c K P X iprop(hold (R := 2048) (C := 128) c (slotRef C w hw) A ∗ hold (R := 2048) (C := 128) c (slotRef D w hw) B ∗ Z)
      ⊢ wp frame (wpE defs 𝒱 (c : Thread nD τ) bd) Set.univ (bodyCross K P C D hi o h q hq)
        (fun _ => st c K P (put 64 a (fun p => crossAt hi X Y (a + p.1, p.2)) X)
          iprop(hold (R := 2048) (C := 128) c (slotRef C w hw) A ∗ hold (R := 2048) (C := 128) c (slotRef D w hw) B ∗ Z)) := by
  unfold st bodyCross
  refine load_hold 𝒱 c bd Set.univ (h := 64) (w := 128) eo h fun k hk => ?_
  refine load_snd 𝒱 c bd Set.univ (h := 64) eo h fun p hp => ?_
  refine reorder (by iintro ⟨H1, H2, H3, H4, H5⟩; iframe) (load_slot 𝒱 c bd Set.univ (m := C) (w := w) (h := hw) (A := A) eq hb hq
    (X := iprop(hold (R := 32768) (C := 128) c K (fun p => (X p).1) ∗ hold (R := 32768) (C := 128) c P (fun p => (X p).2)
      ∗ hold (R := 2048) (C := 128) c (slotRef D w hw) B ∗ Z)) fun k' hk' => ?_)
  refine reorder (by iintro ⟨H1, H2, H3, H4, H5⟩; iframe) (load_slot 𝒱 c bd Set.univ (m := D) (w := w) (h := hw) (A := B) eq hb hq
    (X := iprop(hold (R := 2048) (C := 128) c (slotRef C w hw) A ∗ hold (R := 32768) (C := 128) c K (fun p => (X p).1) ∗ hold (R := 32768) (C := 128) c P (fun p => (X p).2)
      ∗ Z)) fun p' hp' => ?_)
  have hk3 : ∀ ι, (shapeCast T k' (by decide) : Vec F T .f32) ι = (Y (a + (ι 0).val, (ι 1).val)).1 := by
    intro ι
    rw [hY _ (ι 0).isLt _ (ι 1).isLt]
    refine (shapeCast_dropUnit_apply ![64, 128] k' (by decide) ι).trans ?_
    rw [hk']
    rfl
  have hp3 : ∀ ι, (shapeCast T p' (by decide) : Vec F T .f32) ι = (Y (a + (ι 0).val, (ι 1).val)).2 := by
    intro ι
    rw [hY _ (ι 0).isLt _ (ι 1).isLt]
    refine (shapeCast_dropUnit_apply ![64, 128] p' (by decide) ι).trans ?_
    rw [hp']
    rfl
  generalize (shapeCast T k' (by decide) : Vec F T .f32) = k3 at hk3
  generalize (shapeCast T p' (by decide) : Vec F T .f32) = p3 at hp3
  have ht : ∀ ι, crossTakes hi k p k3 p3 ι = IntOp.xori (lt (Y (a + (ι 0).val, (ι 1).val)) (X (a + (ι 0).val, (ι 1).val))) hi := by
    intro ι
    show IntOp.xori (IntOp.ori (FloatOps.cmpf .olt (k3 ι) (k ι)) (IntOp.andi (FloatOps.cmpf .oeq (k3 ι) (k ι)) (FloatOps.cmpf .olt (p3 ι) (p ι)))) hi = _
    rw [hk3, hp3, hk, hp]
    rfl
  refine reorder (by iintro ⟨H1, H2, H3, H4, H5⟩; iframe) (putT_fst 𝒱 c bd Set.univ eo h (A := fun p => (X p).1) (B := fun p => (X p).2)
    (Z := iprop(hold (R := 2048) (C := 128) c (slotRef C w hw) A ∗ hold (R := 2048) (C := 128) c (slotRef D w hw) B ∗ Z))
    (W := fun p => (crossAt hi X Y (a + p.1, p.2)).1) (fun ι => ?_) ?_)
  · show (if crossTakes hi k p k3 p3 ι = 1 then k3 ι else k ι) = _
    rw [ht, hk3, hk]
    unfold crossAt pick
    exact (apply_ite Prod.fst _ _ _).symm
  refine putT_snd 𝒱 c bd Set.univ eo h (W := fun p => (crossAt hi X Y (a + p.1, p.2)).2) (fun ι => ?_) ?_
  · show (if crossTakes hi k p k3 p3 ι = 1 then p3 ι else p ι) = _
    rw [ht, hp3, hp]
    unfold crossAt pick
    exact (apply_ite Prod.snd _ _ _).symm
  simp only [put_proj Prod.fst, put_proj Prod.snd]
  rw [wp_pure]
  exact BI.fupd_intro

/-- The rows of chunk `n` exchanged. -/
theorem crossChunk_run {Z : sProp 𝕄} (i : Fin 2) (n : Fin L16.trips) {X Y : A2 F} {w : BitVec 32} (hw : w.toNat < 2) (ew : slotW n = w)
    {A B : ℕ × ℕ → Elt F .f32} (hY : ∀ r < 2048, ∀ l < 128, Y (n.val * 2048 + r, l) = (A (r, l), B (r, l))) :
    st c K P X iprop(hold (R := 2048) (C := 128) c (slotRef C w hw) A ∗ hold (R := 2048) (C := 128) c (slotRef D w hw) B ∗ Z)
      ⊢ wp frame (wpE defs 𝒱 (c : Thread nD τ) bd) Set.univ (crossChunk K P C D i n)
        (fun _ => st c K P (fun p => if p.1 / 2048 = n.val then crossAt (flipOf i.val) X Y p else X p)
          iprop(hold (R := 2048) (C := 128) c (slotRef C w hw) A ∗ hold (R := 2048) (C := 128) c (slotRef D w hw) B ∗ Z)) := by
  have hn := lt16 n
  refine loop_run 𝒱 c bd Set.univ K P _ L32 ok32 (fun r => if r / 2048 = n.val then r % 2048 / 64 else 0) (fun r hr => by
    rw [trips32]; split <;> omega) _ X _ ?_
  intro t S hS
  have ht := lt32 t
  refine (bodyCross_run 𝒱 c bd (a := n.val * 2048 + t.val * 64) (b := t.val * 64) (Y := Y)
    (by show ![(crossW n t).toNat, 0] = _; rw [crossW_toNat _ _ hn ht]) _
    (by show ![(slotW n).toNat, (row1W t).toNat, 0] = _; rw [ew, rowX_toNat _ ht]) (by omega) _
    (fun r hr l hl => by rw [Nat.add_assoc]; exact hY _ (by omega) _ hl)).trans (wp_mono _ _ _ fun _ => st_congr c K P _ fun p hp hp2 => ?_)
  have e := hS p hp hp2
  unfold put
  by_cases h1 : n.val * 2048 + t.val * 64 ≤ p.1 ∧ p.1 < n.val * 2048 + t.val * 64 + 64
  · have h2 : p.1 / 2048 = n.val := by omega
    rw [if_pos h1, if_pos h2, if_pos h2, if_pos (by omega)]
    have e' : S p = X p := e (by rw [if_pos h2]; omega)
    show crossAt _ S Y (n.val * 2048 + t.val * 64 + (p.1 - (n.val * 2048 + t.val * 64)), p.2) = _
    rw [Nat.add_sub_cancel' h1.1]
    unfold crossAt
    rw [e']
  · rw [if_neg h1]
    by_cases h2 : p.1 / 2048 = n.val
    · simp only [if_pos h2]
      rw [if_neg (by omega)]
    · simp only [if_neg h2] at e ⊢
      split
      · rename_i h3
        exact e h3
      · rfl

end Trip

section Stream

variable (i : Fin 2) (ki pi : Memref sig .tc .hbm X2 .f32) (C D : Memref sig .tc .vmem B3 .f32) (sm : DmaSems sig Q2)
variable (fk : Buf (Elt F) (ki.view.loc (c : Thread nD τ))) (fp : Buf (Elt F) (pi.view.loc (c : Thread nD τ)))

/-- The share of the two arrays a slot reads with. -/
def qs (n : ℕ) : PosShare TreeShare := if n % 2 = 0 then fullShare.left else fullShare.right

theorem col0 : 0 < 2 := by omega
theorem col1 : 1 < 2 := by omega

/-- The slot of chunk `n` at rest. -/
def restSlot (n : ℕ) : sProp (MT nD τ sig Unit (Elt F) ℕ U Lvl) :=
  iprop(idle1 c ki C sm 0 col0 (qs n) fk n ∗ idle1 c pi D sm 1 col1 (qs n) fp n)

/-- The slot of chunk `n` being filled. -/
def fillSlot (n : ℕ) : sProp (MT nD τ sig Unit (Elt F) ℕ U Lvl) :=
  iprop(busy1 EC c i ki C sm 0 col0 (qs n) fk n ∗ busy1 EC c i pi D sm 1 col1 (qs n) fp n)

/-- The slot of chunk `n` before trip `n`: there is no chunk 16. -/
def headSlot (n : ℕ) : sProp (MT nD τ sig Unit (Elt F) ℕ U Lvl) :=
  if n < 16 then fillSlot EC c i ki pi C D sm fk fp n else restSlot c ki pi C D sm fk fp n

theorem qs_next (n : ℕ) : qs (n + 1 + 1) = qs n := by
  unfold qs
  rw [show (n + 1 + 1) % 2 = n % 2 by omega]

theorem rest_next (n : ℕ) : (restSlot c ki pi C D sm fk fp n : sProp 𝕄) ⊢ restSlot c ki pi C D sm fk fp (n + 1 + 1) := by
  unfold restSlot
  rw [qs_next]
  exact sep_mono (idle_next c) (idle_next c)

variable {i ki pi C D sm fk fp} {K P : Memref sig .tc .vmem H .f32}

include EC in
/-- Both copies of a chunk started. -/
theorem starts_run {n : ℕ} {wr ws : BitVec 32} (ewr : wr = cw i.val n) (ews : ws = pw n) {hr hs} {α : Type}
    {k : PUnit → Prog (TpuEff nD τ sig (Elt F) Λ .tc) α} {Q : α → sProp 𝕄} {X : sProp 𝕄}
    (next : iprop(fillSlot EC c i ki pi C D sm fk fp n ∗ X) ⊢ wp frame (wpE defs 𝒱 (c : Thread nD τ) bd) Set.univ (k ⟨⟩) Q) :
    iprop(restSlot c ki pi C D sm fk fp n ∗ X) ⊢ wp frame (wpE defs 𝒱 (c : Thread nD τ) bd) Set.univ
      (startChunk sm ki C 0 col0 wr hr ws hs >>= fun _ => startChunk sm pi D 1 col1 wr hr ws hs >>= k) Q := by
  unfold restSlot
  unfold fillSlot at next
  refine reorder (by iintro ⟨⟨H1, H2⟩, H3⟩; iframe) (startChunk_run EC 𝒱 c bd (i := i) (n := n) ewr ews (src := ki) (q := qs n) (fs := fk)
    (X := iprop(idle1 c pi D sm 1 col1 (qs n) fp n ∗ X)) ?_)
  refine reorder (by iintro ⟨H1, H2, H3⟩; iframe) (startChunk_run EC 𝒱 c bd (i := i) (n := n) ewr ews (src := pi) (q := qs n) (fs := fp)
    (X := iprop(busy1 EC c i ki C sm 0 col0 (qs n) fk n ∗ X)) ?_)
  exact reorder (by iintro ⟨H1, H2, H3⟩; iframe) next

include EC in
/-- The wait for a chunk and its exchange. -/
theorem tail_run {J X : A2 F} (hk : IsArr (R := 65536) (C := 128) (ki.view.read (Elt F) fk) (fun p => (J p).1))
    (hp : IsArr (R := 65536) (C := 128) (pi.view.read (Elt F) fp) (fun p => (J p).2)) (n : Fin L16.trips) {hr hs} {Z : sProp 𝕄} :
    st c K P (fun p => if p.1 / 2048 < n.val then crossAt (flipOf i.val) X (halfOf (1 - i.val) J) p else X p)
        iprop((∃ W, owes (c : Thread nD τ) 0 W) ∗ fillSlot EC c i ki pi C D sm fk fp n ∗ Z)
      ⊢ wp frame (wpE defs 𝒱 (c : Thread nD τ) bd) Set.univ
        (waitChunk sm ki C 0 col0 (srcW i.val n) hr (slotW n) hs >>= fun _ => waitChunk sm pi D 1 col1 (srcW i.val n) hr (slotW n) hs >>= fun _ =>
          crossChunk K P C D i n >>= fun _ => pure PUnit.unit)
        (fun _ => st c K P (fun p => if p.1 / 2048 < n.val + 1 then crossAt (flipOf i.val) X (halfOf (1 - i.val) J) p else X p)
          iprop((∃ W, owes (c : Thread nD τ) 0 W) ∗ restSlot c ki pi C D sm fk fp n ∗ Z)) := by
    have hn := lt16 n
    have hY : ∀ r < 2048, ∀ l < 128, halfOf (1 - i.val) J (n.val * 2048 + r, l)
        = ((J ((1 - i.val) * 32768 + n.val * 2048 + r, l)).1, (J ((1 - i.val) * 32768 + n.val * 2048 + r, l)).2) := by
      intro r _ l _
      unfold halfOf
      rw [Nat.add_assoc]
    have cross : ∀ Z : sProp 𝕄, st c K P (fun p => if p.1 / 2048 < n.val then crossAt (flipOf i.val) X (halfOf (1 - i.val) J) p else X p)
          iprop(hold (R := 2048) (C := 128) c (slotRef C (pw n) (pw_lt n)) (fun p => (J ((1 - i.val) * 32768 + n.val * 2048 + p.1, p.2)).1)
            ∗ hold (R := 2048) (C := 128) c (slotRef D (pw n) (pw_lt n)) (fun p => (J ((1 - i.val) * 32768 + n.val * 2048 + p.1, p.2)).2) ∗ Z)
        ⊢ wp frame (wpE defs 𝒱 (c : Thread nD τ) bd) Set.univ (crossChunk K P C D i n)
          (fun _ => st c K P (fun p => if p.1 / 2048 < n.val + 1 then crossAt (flipOf i.val) X (halfOf (1 - i.val) J) p else X p)
            iprop(hold (R := 2048) (C := 128) c (slotRef C (pw n) (pw_lt n)) (fun p => (J ((1 - i.val) * 32768 + n.val * 2048 + p.1, p.2)).1)
              ∗ hold (R := 2048) (C := 128) c (slotRef D (pw n) (pw_lt n)) (fun p => (J ((1 - i.val) * 32768 + n.val * 2048 + p.1, p.2)).2) ∗ Z)) :=
      fun Z => (crossChunk_run 𝒱 c bd i n (pw_lt n) (slotW_eq n) hY).trans (wp_mono _ _ _ fun _ => st_congr c K P _ fun p _ _ => by
        unfold crossAt
        beta_reduce
        split_ifs <;> first | rfl | omega)
    generalize (fun p => if p.1 / 2048 < n.val then crossAt (flipOf i.val) X (halfOf (1 - i.val) J) p else X p) = S at cross ⊢
    generalize (fun p => if p.1 / 2048 < n.val + 1 then crossAt (flipOf i.val) X (halfOf (1 - i.val) J) p else X p) = S' at cross ⊢
    unfold fillSlot
    refine reorder (by unfold st; iintro ⟨H1, H2, H3, ⟨H4, H5⟩, H6⟩; iframe) (waitChunk_run EC 𝒱 c bd (i := i) (n := n) hk hn (srcW_eq i n) (slotW_eq n)
      (src := ki) (q := qs n) (fs := fk)
      (X := iprop(busy1 EC c i pi D sm 1 col1 (qs n) fp n ∗ hold (R := 32768) (C := 128) c K (fun p => (S p).1)
        ∗ hold (R := 32768) (C := 128) c P (fun p => (S p).2) ∗ Z)) ?_)
    refine reorder (by iintro ⟨H1, H2, H3, H4⟩; iframe) (waitChunk_run EC 𝒱 c bd (i := i) (n := n) hp hn (srcW_eq i n) (slotW_eq n)
      (src := pi) (q := qs n) (fs := fp)
      (X := iprop(full1 c i ki C sm 0 col0 (qs n) fk n (fun p => (J p).1) ∗ hold (R := 32768) (C := 128) c K (fun p => (S p).1)
        ∗ hold (R := 32768) (C := 128) c P (fun p => (S p).2) ∗ Z)) ?_)
    refine reorder ?_ (then_run 𝒱 c bd (cross iprop((ki.view.loc (c : Thread nD τ) ↦[ki.view.set]{qs n} fk)
      ∗ semVal ((c : Thread nD τ), .dma (slotSem sm (pw n) 0 col0 (pw_lt n)).sem) 0
      ∗ (pi.view.loc (c : Thread nD τ) ↦[pi.view.set]{qs n} fp)
      ∗ semVal ((c : Thread nD τ), .dma (slotSem sm (pw n) 1 col1 (pw_lt n)).sem) 0 ∗ (∃ W, owes (c : Thread nD τ) 0 W) ∗ Z)) ?_)
    · unfold full1 st
      iintro ⟨⟨H1, H2, H3⟩, H4, ⟨H5, H6, H7⟩, H8, H9, H10⟩
      iframe
    · rw [wp_pure]
      refine reorder ?_ BI.fupd_intro
      have e1 := full_idle (F := F) (U := U) (Lvl := Lvl) c (i := i) (src := ki) (dst := C) (sm := sm) (col := 0) (hc := col0) (q := qs n) (fs := fk) (n := n) (A := fun p => (J p).1)
      have e2 := full_idle (F := F) (U := U) (Lvl := Lvl) c (i := i) (src := pi) (dst := D) (sm := sm) (col := 1) (hc := col1) (q := qs n) (fs := fp) (n := n) (A := fun p => (J p).2)
      unfold restSlot st
      unfold full1 at e1 e2
      iintro ⟨H1, H2, H3, H4, H5, H6, H7, H8, H9, H10⟩
      isplitl [H1]
      · iexact H1
      isplitl [H2]
      · iexact H2
      isplitl [H9]
      · iexact H9
      isplitl [H3 H4 H5 H6 H7 H8]
      · isplitl [H3 H5 H6]
        · iapply e1
          iframe
        · iapply e2
          iframe
      iexact H10

include EC in
/-- The other half streamed and exchanged. -/
theorem passCross_run {J X : A2 F} (hk : IsArr (R := 65536) (C := 128) (ki.view.read (Elt F) fk) (fun p => (J p).1))
    (hp : IsArr (R := 65536) (C := 128) (pi.view.read (Elt F) fp) (fun p => (J p).2)) (Z : sProp 𝕄) :
    (st c K P X iprop((∃ W, owes (c : Thread nD τ) 0 W) ∗ fillSlot EC c i ki pi C D sm fk fp 0 ∗ restSlot c ki pi C D sm fk fp 1 ∗ Z) : sProp 𝕄)
      ⊢ wp frame (wpE defs 𝒱 (c : Thread nD τ) bd) Set.univ (passCross K P C D i ki pi sm)
        (fun _ => st c K P (crossAt (flipOf i.val) X (halfOf (1 - i.val) J))
          iprop((∃ W, owes (c : Thread nD τ) 0 W) ∗ restSlot c ki pi C D sm fk fp 0 ∗ restSlot c ki pi C D sm fk fp 1 ∗ Z)) := by
  refine reorder ?_ (Scf.wp_for frame (wpE defs 𝒱 (c : Thread nD τ) bd) Set.univ L16.lb L16.ub L16.st ok16 (⟨⟩ : PUnit) _
    (fun n _ => st c K P (fun p => if p.1 / 2048 < n then crossAt (flipOf i.val) X (halfOf (1 - i.val) J) p else X p)
      iprop((∃ W, owes (c : Thread nD τ) 0 W) ∗ headSlot EC c i ki pi C D sm fk fp n ∗ restSlot c ki pi C D sm fk fp (n + 1) ∗ Z)) (fun n acc => ?_))
  · have a : st c K P X iprop((∃ W, owes (c : Thread nD τ) 0 W) ∗ fillSlot EC c i ki pi C D sm fk fp 0 ∗ restSlot c ki pi C D sm fk fp 1 ∗ Z)
        ⊢ st c K P (fun p => if p.1 / 2048 < 0 then crossAt (flipOf i.val) X (halfOf (1 - i.val) J) p else X p)
          iprop((∃ W, owes (c : Thread nD τ) 0 W) ∗ headSlot EC c i ki pi C D sm fk fp 0 ∗ restSlot c ki pi C D sm fk fp (0 + 1) ∗ Z) := by
      unfold headSlot
      rw [if_pos (by omega)]
      exact st_congr c K P _ fun p _ _ => by rw [if_neg (Nat.not_lt_zero _)]
    have b : st c K P (fun p => if p.1 / 2048 < L16.trips then crossAt (flipOf i.val) X (halfOf (1 - i.val) J) p else X p)
          iprop((∃ W, owes (c : Thread nD τ) 0 W) ∗ headSlot EC c i ki pi C D sm fk fp L16.trips ∗ restSlot c ki pi C D sm fk fp (L16.trips + 1) ∗ Z)
        ⊢ st c K P (crossAt (flipOf i.val) X (halfOf (1 - i.val) J))
          iprop((∃ W, owes (c : Thread nD τ) 0 W) ∗ restSlot c ki pi C D sm fk fp 0 ∗ restSlot c ki pi C D sm fk fp 1 ∗ Z) := by
      have e16 := trips16
      rw [e16]
      exact st_congr c K P _ fun p hp _ => by rw [if_pos (by omega)]
    refine a.trans ?_
    iintro H
    isplitl [H]
    · iexact H
    · iintro %_ H
      iapply b
      iexact H
  · have hn := lt16 n
    by_cases hm : n.val + 1 < 16
    · have hw : moreW n = 1#1 := (words16 n hn).2.2.2 hm
      simp only [dif_pos hw, bind_assoc, pure_bind]
      unfold headSlot
      rw [if_pos hn, if_pos hm]
      refine reorder (by unfold st; iintro ⟨H1, H2, H3, H4, H5, H6⟩; iframe) (starts_run EC 𝒱 c bd (ki := ki) (pi := pi) (C := C) (D := D) (sm := sm) (fk := fk) (fp := fp)
        (n := n.val + 1) (srcW'_eq i n hm) (slotW'_eq n)
        (X := st c K P (fun p => if p.1 / 2048 < n.val then crossAt (flipOf i.val) X (halfOf (1 - i.val) J) p else X p)
          iprop((∃ W, owes (c : Thread nD τ) 0 W) ∗ fillSlot EC c i ki pi C D sm fk fp n ∗ Z)) ?_)
      refine reorder (by unfold st; iintro ⟨H1, H2, H3, H4, H5, H6⟩; iframe) ((tail_run EC 𝒱 c bd (K := K) (P := P) (X := X) hk hp n
        (Z := iprop(fillSlot EC c i ki pi C D sm fk fp (n.val + 1) ∗ Z))).trans (wp_mono _ _ _ fun _ => ?_))
      unfold st
      refine sep_mono .rfl (sep_mono .rfl (sep_mono .rfl ?_))
      exact reorder (sep_mono (rest_next c ki pi C D sm fk fp n) .rfl) (by iintro ⟨H1, H2, H3⟩; iframe)
    · have hw : ¬ moreW n = 1#1 := fun h => hm ((words16 n hn).2.2.1 h)
      simp only [dif_neg hw, bind_assoc, pure_bind]
      unfold headSlot
      rw [if_pos hn, if_neg hm]
      refine (tail_run EC 𝒱 c bd (K := K) (P := P) (X := X) hk hp n (Z := iprop(restSlot c ki pi C D sm fk fp (n.val + 1) ∗ Z))).trans (wp_mono _ _ _ fun _ => ?_)
      unfold st
      refine sep_mono .rfl (sep_mono .rfl (sep_mono .rfl ?_))
      exact reorder (sep_mono (rest_next c ki pi C D sm fk fp n) .rfl) (by iintro ⟨H1, H2, H3⟩; iframe)

end Stream

section Slots

variable {C : Memref sig .tc .vmem B3 .f32}

/-- The two slots of a buffer are apart. -/
theorem slots_apart : Disjoint (slotRef C (pw 0) (pw_lt 0)).view.set (slotRef C (pw 1) (pw_lt 1)).view.set := by
  rw [show (slotRef C (pw 0) (pw_lt 0)).view.set = (C.view.slice (Rect.unit (s := B3) ![(pw 0).toNat, 0, 0] B1.size (inbSlot _ (pw_lt 0)))).set from View.set_reshape _ _,
    show (slotRef C (pw 1) (pw_lt 1)).view.set = (C.view.slice (Rect.unit (s := B3) ![(pw 1).toNat, 0, 0] B1.size (inbSlot _ (pw_lt 1)))).set from View.set_reshape _ _]
  exact View.disjoint_slice_of_sep _ _ _ ⟨0, by decide⟩ rfl rfl (.inl (by decide))

theorem slot_sub (n : ℕ) : (slotRef C (pw n) (pw_lt n)).view.set ⊆ C.view.set := by
  rw [show (slotRef C (pw n) (pw_lt n)).view.set = (C.view.slice (Rect.unit (s := B3) ![(pw n).toNat, 0, 0] B1.size (inbSlot _ (pw_lt n)))).set from View.set_reshape _ _]
  exact View.set_slice_subset _ _

/-- What is left of a buffer without its two slots: nothing, which need not be said. -/
def leftOver (C : Memref sig .tc .vmem B3 .f32) : sProp (MT nD τ sig Unit (Elt F) ℕ U Lvl) :=
  iprop(∃ f, C.view.loc (c : Thread nD τ) ↦[(C.view.set \ (slotRef C (pw 0) (pw_lt 0)).view.set) \ (slotRef C (pw 1) (pw_lt 1)).view.set]{fullShare} f)

/-- A buffer taken apart into its slots. -/
theorem slots_split : iprop(∃ f, raw (c : Thread nD τ) C f)
    ⊢ (iprop((∃ f, raw (c : Thread nD τ) (slotRef C (pw 0) (pw_lt 0)) f) ∗ (∃ f, raw (c : Thread nD τ) (slotRef C (pw 1) (pw_lt 1)) f) ∗ leftOver c C) : sProp 𝕄) := by
  unfold leftOver
  iintro ⟨%f, H⟩
  ihave H := (pointsTo_split_subset (slot_sub (C := C) 0)).1 $$ H
  icases H with ⟨H0, H⟩
  ihave H := (pointsTo_split_subset (show (slotRef C (pw 1) (pw_lt 1)).view.set ⊆ C.view.set \ (slotRef C (pw 0) (pw_lt 0)).view.set from
    Finset.subset_sdiff.2 ⟨slot_sub 1, (slots_apart (C := C)).symm⟩)).1 $$ H
  icases H with ⟨H1, H⟩
  isplitl [H0]
  · iexists f
    iexact H0
  isplitl [H1]
  · iexists f
    iexact H1
  iexists f
  iexact H

/-- The slots put together again. -/
theorem slots_join : (iprop((∃ f, raw (c : Thread nD τ) (slotRef C (pw 0) (pw_lt 0)) f) ∗ (∃ f, raw (c : Thread nD τ) (slotRef C (pw 1) (pw_lt 1)) f) ∗ leftOver c C) : sProp 𝕄)
    ⊢ iprop(∃ f, raw (c : Thread nD τ) C f) := by
  unfold leftOver
  iintro ⟨⟨%f, H0⟩, ⟨%g, H1⟩, %h, H⟩
  ihave H := (pointsTo_join_subset (ℓ := C.view.loc (c : Thread nD τ)) (q := fullShare) (g := g) (f := h) (Finset.subset_sdiff.2 ⟨slot_sub (C := C) 1, (slots_apart (C := C)).symm⟩)) $$ [H1 H]
  · isplitl [H1]
    · iexact H1
    iexact H
  ihave H := (pointsTo_join_subset (ℓ := C.view.loc (c : Thread nD τ)) (q := fullShare) (g := f) (slot_sub (C := C) 0)) $$ [H0 H]
  · isplitl [H0]
    · iexact H0
    iexact H
  iexists _
  iexact H

end Slots

section Kernel

variable (i : Fin 2) {ki pi o : Memref sig .tc .hbm X2 .f32} {K P : Memref sig .tc .vmem H .f32} {C D : Memref sig .tc .vmem B3 .f32}
  {hK : K.IsWhole} {hP : P.IsWhole} {sa sb : DmaSems sig S0} {sm : DmaSems sig Q2} {J : A2 F} {A : ℕ × ℕ → F .f32}

/-- One of the four semaphores of the slots, at nothing. -/
abbrev sem4 (sm : DmaSems sig Q2) (n col : ℕ) (hc : col < 2) : sProp (MT nD τ sig Unit (Elt F) ℕ U Lvl) :=
  semVal ((c : Thread nD τ), .dma (slotSem sm (pw n) col hc (pw_lt n)).sem) 0

/-- What the second kernel works on. -/
def stateC (ki pi o : Memref sig .tc .hbm X2 .f32) (K P : Memref sig .tc .vmem H .f32) (C D : Memref sig .tc .vmem B3 .f32)
    (sa sb : DmaSems sig S0) (sm : DmaSems sig Q2) (J : A2 F) (A : ℕ × ℕ → F .f32) : sProp (MT nD τ sig Unit (Elt F) ℕ U Lvl) :=
  iprop(hold (R := 65536) (C := 128) c ki (fun p => (J p).1) ∗ hold (R := 65536) (C := 128) c pi (fun p => (J p).2)
    ∗ hold (R := 65536) (C := 128) c o A
    ∗ (∃ f, raw (c : Thread nD τ) K f) ∗ (∃ f, raw (c : Thread nD τ) P f) ∗ (∃ f, raw (c : Thread nD τ) C f) ∗ (∃ f, raw (c : Thread nD τ) D f)
    ∗ semVal ((c : Thread nD τ), .dma sa.sem) 0 ∗ semVal ((c : Thread nD τ), .dma sb.sem) 0
    ∗ sem4 c sm 0 0 col0 ∗ sem4 c sm 0 1 col1 ∗ sem4 c sm 1 0 col0 ∗ sem4 c sm 1 1 col1 ∗ (∃ W, owes (c : Thread nD τ) 0 W))

/-- An array in two shares, each slot's. -/
theorem share2 {m : Memref sig .tc .hbm X2 .f32} {f : Buf (Elt F) (m.view.loc (c : Thread nD τ))} :
    (raw (c : Thread nD τ) m f : sProp 𝕄) ⊣⊢ iprop((m.view.loc (c : Thread nD τ) ↦[m.view.set]{qs 0} f) ∗ (m.view.loc (c : Thread nD τ) ↦[m.view.set]{qs 1} f)) :=
  pointsTo_share (PosShare.mem_left_op_right fullShare)

/-- Both slots at rest, out of what they are made of. -/
theorem rest_intro {fk : Buf (Elt F) (ki.view.loc (c : Thread nD τ))} {fp : Buf (Elt F) (pi.view.loc (c : Thread nD τ))} :
    (iprop(raw (c : Thread nD τ) ki fk ∗ raw (c : Thread nD τ) pi fp ∗ (∃ f, raw (c : Thread nD τ) C f) ∗ (∃ f, raw (c : Thread nD τ) D f)
      ∗ sem4 c sm 0 0 col0 ∗ sem4 c sm 0 1 col1 ∗ sem4 c sm 1 0 col0 ∗ sem4 c sm 1 1 col1) : sProp 𝕄)
    ⊢ iprop(restSlot c ki pi C D sm fk fp 0 ∗ restSlot c ki pi C D sm fk fp 1 ∗ leftOver c C ∗ leftOver c D) := by
  refine (sep_mono (share2 c).1 (sep_mono (share2 c).1 (sep_mono (slots_split c) (sep_mono (slots_split c) .rfl)))).trans ?_
  unfold restSlot idle1 idleW
  iintro ⟨⟨H1, H2⟩, ⟨H3, H4⟩, ⟨H5, H6, H7⟩, ⟨H8, H9, H10⟩, H11, H12, H13, H14⟩
  iframe

theorem rest_elim {fk : Buf (Elt F) (ki.view.loc (c : Thread nD τ))} {fp : Buf (Elt F) (pi.view.loc (c : Thread nD τ))} :
    (iprop(restSlot c ki pi C D sm fk fp 0 ∗ restSlot c ki pi C D sm fk fp 1 ∗ leftOver c C ∗ leftOver c D) : sProp 𝕄)
    ⊢ iprop(raw (c : Thread nD τ) ki fk ∗ raw (c : Thread nD τ) pi fp ∗ (∃ f, raw (c : Thread nD τ) C f) ∗ (∃ f, raw (c : Thread nD τ) D f)
      ∗ sem4 c sm 0 0 col0 ∗ sem4 c sm 0 1 col1 ∗ sem4 c sm 1 0 col0 ∗ sem4 c sm 1 1 col1) := by
  refine reorder ?_ (sep_mono (share2 c).2 (sep_mono (share2 c).2 (sep_mono (slots_join c) (sep_mono (slots_join c) .rfl))))
  unfold restSlot idle1 idleW
  iintro ⟨⟨⟨H1, H2, H3⟩, H4, H5, H6⟩, ⟨⟨H7, H8, H9⟩, H10, H11, H12⟩, H13, H14⟩
  iframe

include EC in
/-- The second kernel at one grid point: its half of the output gets the last stage's payloads. -/
theorem phaseC_run :
    (stateC c ki pi o K P C D sa sb sm J A : sProp 𝕄)
      ⊢ wp frame (wpE defs 𝒱 (c : Thread nD τ) bd) Set.univ (phaseC K P C D i ki pi o hK hP sa sb sm)
        (fun _ => stateC c ki pi o K P C D sa sb sm J (put 32768 (i.val * 32768) (fun p => (lastC i.val J p).2) A)) := by
  unfold phaseC c1u
  simp only [bind_assoc, pure_bind]
  refine reorder (by unfold stateC; iintro ⟨H1, H2, H3, H4, H5, H6, H7, H8, H9, H10, H11, H12, H13, H14⟩; iframe) (startIn_run EC 𝒱 c bd i (src := ki) (K := K) (sm := sa) (A := fun p => (J p).1)
    (X := iprop(hold (R := 65536) (C := 128) c pi (fun p => (J p).2) ∗ (∃ f, raw (c : Thread nD τ) P f) ∗ semVal ((c : Thread nD τ), .dma sb.sem) 0 ∗ (∃ W, owes (c : Thread nD τ) 0 W)
      ∗ hold (R := 65536) (C := 128) c o A ∗ (∃ f, raw (c : Thread nD τ) C f) ∗ (∃ f, raw (c : Thread nD τ) D f)
      ∗ sem4 c sm 0 0 col0 ∗ sem4 c sm 0 1 col1 ∗ sem4 c sm 1 0 col0 ∗ sem4 c sm 1 1 col1)) ?_)
  generalize hZ : (iprop(hold (R := 65536) (C := 128) c o A ∗ (∃ f, raw (c : Thread nD τ) C f) ∗ (∃ f, raw (c : Thread nD τ) D f)
      ∗ sem4 c sm 0 0 col0 ∗ sem4 c sm 0 1 col1 ∗ sem4 c sm 1 0 col0 ∗ sem4 c sm 1 1 col1) : sProp 𝕄) = Z
  refine reorder (by iintro ⟨H1, H2, H3, H4, H5⟩; iframe) (startIn_run EC 𝒱 c bd i (src := pi) (K := P) (sm := sb) (A := fun p => (J p).2)
    (X := iprop(flyIn EC c i ki K sa (fun p => (J p).1) ∗ (∃ W, owes (c : Thread nD τ) 0 W) ∗ Z)) ?_)
  refine reorder (by iintro ⟨H1, H2, H3, H4⟩; iframe) (waitIn_run EC 𝒱 c bd i (src := ki) (K := K) (sm := sa) (A := fun p => (J p).1)
    (X := iprop(flyIn EC c i pi P sb (fun p => (J p).2) ∗ Z)) ?_)
  refine reorder (by iintro ⟨H1, H2, H3, H4, H5, H6⟩; iframe) (waitIn_run EC 𝒱 c bd i (src := pi) (K := P) (sm := sb) (A := fun p => (J p).2)
    (X := iprop(hold (R := 65536) (C := 128) c ki (fun p => (J p).1) ∗ hold (R := 32768) (C := 128) c K (fun p => (J (i.val * 32768 + p.1, p.2)).1)
      ∗ semVal ((c : Thread nD τ), .dma sa.sem) 0 ∗ Z)) ?_)
  subst hZ
  unfold hold
  iintro ⟨⟨%fp, Hp, %hp⟩, HP, Hsb, HO, ⟨%fk, Hk, %hk⟩, HK, Hsa, Ho, HC, HD, HS⟩
  ihave HR := rest_intro (F := F) (U := U) (Lvl := Lvl) c (sm := sm) (C := C) (D := D) (ki := ki) (pi := pi) (fk := fk) (fp := fp) $$ [Hp Hk HC HD HS]
  · iframe
  iapply (starts_run EC 𝒱 c bd (n := 0) (src0_eq i) rfl (ki := ki) (pi := pi) (C := C) (D := D) (sm := sm) (fk := fk) (fp := fp)
    (X := st c K P (halfOf i.val J) iprop((∃ W, owes (c : Thread nD τ) 0 W) ∗ restSlot c ki pi C D sm fk fp 1 ∗ leftOver c C ∗ leftOver c D
      ∗ semVal ((c : Thread nD τ), .dma sa.sem) 0 ∗ semVal ((c : Thread nD τ), .dma sb.sem) 0 ∗ hold (R := 65536) (C := 128) c o A)) ?_)
  · generalize hZ : (iprop(leftOver c C ∗ leftOver c D
      ∗ semVal ((c : Thread nD τ), .dma sa.sem) 0 ∗ semVal ((c : Thread nD τ), .dma sb.sem) 0 ∗ hold (R := 65536) (C := 128) c o A) : sProp 𝕄) = Z
    have cross : st c K P (halfOf i.val J) iprop((∃ W, owes (c : Thread nD τ) 0 W) ∗ fillSlot EC c i ki pi C D sm fk fp 0 ∗ restSlot c ki pi C D sm fk fp 1 ∗ Z)
        ⊢ wp frame (wpE defs 𝒱 (c : Thread nD τ) bd) Set.univ (passCross K P C D i ki pi sm)
          (fun _ => st c K P (crossAt (flipOf i.val) (halfOf i.val J) (halfOf (1 - i.val) J))
            iprop((∃ W, owes (c : Thread nD τ) 0 W) ∗ restSlot c ki pi C D sm fk fp 0 ∗ restSlot c ki pi C D sm fk fp 1 ∗ Z)) :=
      passCross_run EC 𝒱 c bd hk hp Z
    refine reorder (by unfold st; iintro ⟨H1, H2, H3, H4, H5, H6⟩; iframe) (then_run 𝒱 c bd cross ?_)
    refine then_run 𝒱 c bd (passFar2_run 𝒱 c bd Set.univ K P _ 8 16 (by omega) (by omega) (by omega) 0#1 _) ?_
    refine then_run 𝒱 c bd (passFar2_run 𝒱 c bd Set.univ K P _ 6 16 (by omega) (by omega) (by omega) 0#1 _) ?_
    refine then_run 𝒱 c bd (passFar2_run 𝒱 c bd Set.univ K P _ 4 16 (by omega) (by omega) (by omega) 0#1 _) ?_
    refine then_run 𝒱 c bd (passFar2_run 𝒱 c bd Set.univ K P _ 2 16 (by omega) (by omega) (by omega) 0#1 _) ?_
    refine then_run 𝒱 c bd (passFused_run 𝒱 c bd Set.univ K P _ 16 (by omega) (by omega) 0#1 _) ?_
    refine reorder (Entails.of_eq (congrArg (fun S => st c K P S iprop((∃ W, owes (c : Thread nD τ) 0 W)
      ∗ restSlot c ki pi C D sm fk fp 0 ∗ restSlot c ki pi C D sm fk fp 1 ∗ Z)) (?_ : _ = lastC i.val J))) ?_
    · simp only [lastC, farsAt, fusedAt, Nat.reduceMul, Nat.reducePow]
    generalize lastC i.val J = S
    subst hZ
    refine reorder (by unfold st; iintro ⟨H1, H2, H3, H4, H5, H6, H7, H8, H9, H10⟩; iframe) (startOut_run EC 𝒱 c bd i (K := P) (dst := o) (sm := sb) (A := A) (B := fun p => (S p).2)
      (X := iprop(hold (R := 32768) (C := 128) c K (fun p => (S p).1) ∗ semVal ((c : Thread nD τ), .dma sa.sem) 0 ∗ (∃ W, owes (c : Thread nD τ) 0 W)
        ∗ restSlot c ki pi C D sm fk fp 0 ∗ restSlot c ki pi C D sm fk fp 1 ∗ leftOver c C ∗ leftOver c D)) ?_)
    refine reorder (by iintro ⟨H1, H2, H3, H4, H5⟩; iframe) (waitOut_run EC 𝒱 c bd i (K := P) (dst := o) (sm := sb) (A := A) (B := fun p => (S p).2)
      (X := iprop(hold (R := 32768) (C := 128) c K (fun p => (S p).1) ∗ semVal ((c : Thread nD τ), .dma sa.sem) 0
        ∗ restSlot c ki pi C D sm fk fp 0 ∗ restSlot c ki pi C D sm fk fp 1 ∗ leftOver c C ∗ leftOver c D)) ?_)
    rw [wp_pure]
    refine reorder ?_ BI.fupd_intro
    refine reorder (R := iprop(hold (R := 32768) (C := 128) c P (fun p => (S p).2)
      ∗ hold (R := 65536) (C := 128) c o (put 32768 (i.val * 32768) (fun p => (S p).2) A) ∗ semVal ((c : Thread nD τ), .dma sb.sem) 0
      ∗ (∃ W, owes (c : Thread nD τ) 0 W) ∗ hold (R := 32768) (C := 128) c K (fun p => (S p).1) ∗ semVal ((c : Thread nD τ), .dma sa.sem) 0
      ∗ raw (c : Thread nD τ) ki fk ∗ raw (c : Thread nD τ) pi fp ∗ (∃ f, raw (c : Thread nD τ) C f) ∗ (∃ f, raw (c : Thread nD τ) D f)
      ∗ sem4 c sm 0 0 col0 ∗ sem4 c sm 0 1 col1 ∗ sem4 c sm 1 0 col0 ∗ sem4 c sm 1 1 col1))
      (sep_mono .rfl (sep_mono .rfl (sep_mono .rfl (sep_mono .rfl (sep_mono .rfl (sep_mono .rfl (rest_elim c))))))) ?_
    unfold stateC
    iintro ⟨H1, H2, H3, H4, H5, H6, H7, H8, H9, H10, H11, H12, H13, H14⟩
    ihave HP := hold_raw c $$ H1
    ihave HK := hold_raw c $$ H5
    isplitl [H7]
    · unfold hold
      iexists fk
      isplitl [H7]
      · iexact H7
      ipureintro
      exact hk
    isplitl [H8]
    · unfold hold
      iexists fp
      isplitl [H8]
      · iexact H8
      ipureintro
      exact hp
    iframe
  · unfold st hold
    icases HR with ⟨R0, R1, L1, L2⟩
    isplitl [R0]
    · iexact R0
    isplitl [HK]
    · iexact HK
    isplitl [HP]
    · iexact HP
    isplitl [HO]
    · iexact HO
    isplitl [R1]
    · iexact R1
    isplitl [L1]
    · iexact L1
    isplitl [L2]
    · iexact L2
    isplitl [Hsa]
    · iexact Hsa
    isplitl [Hsb]
    · iexact Hsb
    iexact Ho

end Kernel

end Cert.Net
-- ==== Proof.Whole.lean ====
/-
A whole buffer, and the array it is held at.
-/
module

public import proofs.«01_k».proof.Proof.RunC

@[expose] public section

noncomputable section

namespace Cert.Net

open Idealize.ShloMosaic Idealize.ShloMosaic.TcCoe
open Idealize.ShloMosaic.LaneScatter (raw)
open Idealize.SL Idealize.SL.Sem
open Idealize.SL.BI (sProp)
open scoped Idealize.SL.BI
open Idealize.SL.BI.BIBase Idealize.SL.BI.Laws Idealize.SL.ProofMode
open Idealize.SL.RA

variable {F : FTy → Type} [FloatOps F]
variable {nD : Nat} {τ : Topo} {sig : RefSig} {Ix : Type} [DecidableEq Ix] {U : Type} [URA U] {Lvl : Type} [Preorder Lvl]

local notation "𝕄" => MT nD τ sig Ix (Elt F) ℕ U Lvl

/-- The contents of a whole buffer as an array; what it is outside the buffer's places does not matter. -/
def arrOf (f : X2.Idx → F .f32) : ℕ × ℕ → F .f32 := fun p =>
  f (fun a => match a with
    | ⟨0, _⟩ => (⟨p.1 % 65536, Nat.mod_lt _ (by norm_num)⟩ : Fin 65536)
    | ⟨1, _⟩ => (⟨p.2 % 128, Nat.mod_lt _ (by norm_num)⟩ : Fin 128))

/-- The contents an array gives a whole buffer. -/
def bufOf (A : ℕ × ℕ → F .f32) : X2.Idx → F .f32 := fun ι => A ((ι 0).val, (ι 1).val)

omit [FloatOps F] in
/-- The array of a buffer's contents gives them back. -/
theorem bufOf_arrOf (f : X2.Idx → F .f32) : bufOf (arrOf f) = f := by
  funext ι
  unfold bufOf arrOf
  refine congrArg f (funext fun a => ?_)
  have h0 : (ι 0).val < 65536 := (ι 0).isLt
  have h1 : (ι 1).val < 128 := (ι 1).isLt
  match a with
  | ⟨0, _⟩ => exact Fin.ext (Nat.mod_eq_of_lt h0)
  | ⟨1, _⟩ => exact Fin.ext (Nat.mod_eq_of_lt h1)

/-- A whole buffer is held at its array. -/
theorem raw_to_hold (c : Dev nD) {sp : Space} (m : Memref sig .tc sp X2 .f32) (f : Buf (Elt F) (m.view.loc (c : Thread nD τ)))
    {A : ℕ × ℕ → F .f32} (h : m.view.read (Elt F) f = bufOf A) :
    (raw (c : Thread nD τ) m f : sProp 𝕄) ⊢ hold (R := 65536) (C := 128) c m A := by
  unfold hold
  iintro H
  iexists f
  isplitl [H]
  · iexact H
  ipureintro
  intro ι
  exact congrFun h ι

/-- A whole buffer held at an array has the contents the array gives. -/
theorem hold_to_raw (c : Dev nD) {sp : Space} (m : Memref sig .tc sp X2 .f32) (f : Buf (Elt F) (m.view.loc (c : Thread nD τ)))
    {A : ℕ × ℕ → F .f32} (h : ∀ f', m.view.read (Elt F) f' = bufOf A → f' = f) :
    (hold (R := 65536) (C := 128) c m A : sProp 𝕄) ⊢ raw (c : Thread nD τ) m f := by
  unfold hold
  iintro ⟨%f', H, %hf⟩
  obtain rfl := h f' (funext fun ι => hf ι)
  iexact H

/-- What is held of a whole buffer is all of it. -/
theorem raw_whole (c : Dev nD) (r : Ref sig .tc) (f : Buf (Elt F) ((c : Thread nD τ).loc r)) :
    (raw (c : Thread nD τ) (Memref.whole r) f : sProp 𝕄) = iprop(((c : Thread nD τ).loc r) ↦{fullShare} f) := by
  unfold raw
  simp only [Memref.view_whole, View.set_whole]

end Cert.Net
-- ==== Proof.PrintedIdeal.lean ====
/-
The printed kernels are the programs of Pass.lean and PassC.lean: each part of the printed text, then the whole.
-/
module

public import proofs.«01_k».proof.KernelIdeal
public import proofs.«01_k».proof.Proof.PassC
import Idealize.ShloMosaic.Lib.Pipeline.Regions

@[expose] public section

set_option maxRecDepth 65536
set_option synthInstance.maxSize 4096

noncomputable section

namespace Cert.KernelIdeal

open Idealize.ShloMosaic Idealize.SL.Sem

variable {F : FTy → Type} [FloatOps F] [Facts]

section First

variable (i : grid0.Coords)
  (arg1 : Memref sig .tc .hbm S65536x128 .f32) (harg1 : arg1.IsWhole)
  (arg2 : Memref sig .tc .vmem S1x128 .f32) (harg2 : arg2.IsWhole)
  (arg3 : Memref sig .tc .vmem S1x128 .f32) (harg3 : arg3.IsWhole)
  (arg4 : Memref sig .tc .vmem S1x128 .f32) (harg4 : arg4.IsWhole)
  (arg5 : Memref sig .tc .vmem S1x128 .f32) (harg5 : arg5.IsWhole)
  (arg6 : Memref sig .tc .hbm S65536x128 .f32) (harg6 : arg6.IsWhole)
  (arg7 : Memref sig .tc .hbm S65536x128 .f32) (harg7 : arg7.IsWhole)
  (arg8 : Memref sig .tc .hbm S65536x128 .f32) (harg8 : arg8.IsWhole)
  (arg9 : Memref sig .tc .vmem S32768x128 .f32) (harg9 : arg9.IsWhole)
  (arg10 : Memref sig .tc .vmem S32768x128 .f32) (harg10 : arg10.IsWhole)
  (arg11 : DmaSems sig S_)
  (arg12 : DmaSems sig S_)

theorem part_a1 : (k0_part124 i arg1 harg1 arg2 harg2 arg3 harg3 arg4 harg4 arg5 harg5 arg6 harg6 arg7 harg7 arg8 harg8 arg9 harg9 arg10
      harg10 arg11 arg12 : Prog (TpuEff nD τ sig (Elt F) Λ₀ .tc) (BitVec 32))
    = Net.a1 arg9 arg10 (i 0) arg1 arg6 arg2 arg3 arg4 arg5 harg9 harg10 arg11 arg12 := by
  chain_rfl

theorem part_a2 : (k0_part125 i arg1 harg1 arg2 harg2 arg3 harg3 arg4 harg4 arg5 harg5 arg6 harg6 arg7 harg7 arg8 harg8 arg9 harg9 arg10
      harg10 arg11 arg12 : Prog (TpuEff nD τ sig (Elt F) Λ₀ .tc) PUnit) = Net.a2 arg9 arg10 := by
  chain_rfl

theorem part_a3 : (k0_part126 i arg1 harg1 arg2 harg2 arg3 harg3 arg4 harg4 arg5 harg5 arg6 harg6 arg7 harg7 arg8 harg8 arg9 harg9 arg10
      harg10 arg11 arg12 : Prog (TpuEff nD τ sig (Elt F) Λ₀ .tc) PUnit) = Net.a3 arg9 arg10 := by
  chain_rfl

/-- The first printed kernel. -/
theorem first_eq : (cc0__phase_a_impl i arg1 harg1 arg2 harg2 arg3 harg3 arg4 harg4 arg5 harg5 arg6 harg6 arg7 harg7 arg8 harg8 arg9 harg9
      arg10 harg10 arg11 arg12 : Prog (TpuEff nD τ sig (Elt F) Λ₀ .tc) PUnit)
    = Net.phaseA arg9 arg10 (i 0) arg1 arg6 arg7 arg8 arg2 arg3 arg4 arg5 harg9 harg10 arg11 arg12 := by
  unfold cc0__phase_a_impl
  rw [part_a1, part_a2, part_a3]
  chain_rfl

end First

section Second

variable (i : grid1.Coords)
  (arg1 : Memref sig .tc .hbm S65536x128 .f32) (harg1 : arg1.IsWhole)
  (arg2 : Memref sig .tc .hbm S65536x128 .f32) (harg2 : arg2.IsWhole)
  (arg3 : Memref sig .tc .hbm S65536x128 .f32) (harg3 : arg3.IsWhole)
  (arg4 : Memref sig .tc .vmem S32768x128 .f32) (harg4 : arg4.IsWhole)
  (arg5 : Memref sig .tc .vmem S32768x128 .f32) (harg5 : arg5.IsWhole)
  (arg6 : Memref sig .tc .vmem S2x2048x128 .f32) (harg6 : arg6.IsWhole)
  (arg7 : Memref sig .tc .vmem S2x2048x128 .f32) (harg7 : arg7.IsWhole)
  (arg8 : DmaSems sig S_)
  (arg9 : DmaSems sig S_)
  (arg10 : DmaSems sig S2x2)

theorem part_c1 : (k1_part17 i arg1 harg1 arg2 harg2 arg3 harg3 arg4 harg4 arg5 harg5 arg6 harg6 arg7 harg7 arg8 arg9 arg10 : Prog (TpuEff
      nD τ sig (Elt F) Λ₀ .tc) (BitVec 32))
    = Net.c1 arg4 arg5 arg6 arg7 (i 0) arg1 arg2 harg4 harg5 arg8 arg9 arg10 := by
  chain_rfl

/-- The second printed kernel. -/
theorem second_eq : (cc1__phase_c_impl i arg1 harg1 arg2 harg2 arg3 harg3 arg4 harg4 arg5 harg5 arg6 harg6 arg7 harg7 arg8 arg9 arg10 :
      Prog (TpuEff nD τ sig (Elt F) Λ₀ .tc) PUnit)
    = Net.phaseC arg4 arg5 arg6 arg7 (i 0) arg1 arg2 arg3 harg4 harg5 arg8 arg9 arg10 := by
  unfold cc1__phase_c_impl
  refine (congrArg (fun p => p >>= _) ((part_c1 _ _ _ _ _ _ _ _ _ _ _ _ _ _ _ _ _ _).trans (Net.c1_eq ..))).trans
    ((bind_assoc _ _ _).trans ?_)
  chain_rfl

end Second

end Cert.KernelIdeal
-- ==== Proof.Region0.lean ====
/-
The first pipeline of the program: its grid points one after the other, and what it leaves.
-/
module

public import proofs.«01_k».proof.Proof.Whole
public import proofs.«01_k».proof.Proof.PrintedIdeal
public import proofs.«01_k».proof.Proof.Gen.KernelIdeal.Points
public import proofs.«01_k».proof.Proof.Gen.KernelIdeal.Regions
public import Idealize.ShloMosaic.Lib.Pipeline.RegionsLoop

@[expose] public section

set_option maxRecDepth 65536

noncomputable section

namespace Cert.KernelIdeal.Own

open Cert.KernelIdeal Cert.KernelIdeal.Gen Cert.Net
open Idealize.ShloMosaic Idealize.ShloMosaic.TcCoe
open Idealize.ShloMosaic.LaneScatter (raw)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the program: the pipelines' rounds, and the counters of the copies. -/
abbrev UU : Type := Pipeline.UD sig nD τ

local notation "𝕄" => MT nD τ sig Unit (Elt F) ℕ UU ℕ

/-- The counters' place among the resources. -/
abbrev EC : UEmb Counters 𝕄 := countersEmb

abbrev 𝒱₀ : Variants := Variants.none
abbrev L : GSem nD τ sig → Finset Unit := fun _ => ∅
abbrev lv : GSem nD τ sig → Unit → ℕ := fun _ _ => 0

/-- A whole buffer of the program at contents. -/
abbrev pt (c : Dev nD) (r : Ref sig .tc) (f : Buf (Elt F) ((c : Thread nD τ).loc r)) : sProp 𝕄 :=
  ((c : Thread nD τ).loc r) ↦{fullShare} f

/-- The core owes nothing. -/
abbrev dueless (c : Dev nD) : sProp 𝕄 := iprop(∃ W, owes (c : Thread nD τ) (0 : CellTallies nD τ sig Unit) W)

/-- The semaphores of the first kernel. -/
abbrev osem0 : Fin 2 → SemLoc sig := fun
  | 0 => .dma cc0_scratch2.sem
  | 1 => .dma cc0_scratch3.sem

theorem ownFacts0 : Pipeline.OwnSemFacts spec0 osem0 := by decide

variable (V : Dev nD → Valuation τ sig (Elt F))

/-- Row `w`'s values: the block its window stages. -/
abbrev rowVals (c : Dev nD) : (w : Fin cfg0.W) → (cfg0.win w).block.Idx → Elt F (cfg0.win w).elt
  | ⟨0, _⟩ => ((cfg0.win 0).blk t0_0).view.read (Elt F) (V c (Pipeline.arrRef spec0 0))
  | ⟨1, _⟩ => ((cfg0.win 1).blk t0_0).view.read (Elt F) (V c (Pipeline.arrRef spec0 1))
  | ⟨2, _⟩ => ((cfg0.win 2).blk t0_0).view.read (Elt F) (V c (Pipeline.arrRef spec0 2))
  | ⟨3, _⟩ => ((cfg0.win 3).blk t0_0).view.read (Elt F) (V c (Pipeline.arrRef spec0 3))

/-- A row of one block as values by column. -/
def colOf (v : (⟨2, ![1, 128]⟩ : Shape).Idx → F .f32) : ℕ → F .f32 := fun n =>
  v (fun a => match a with
    | ⟨0, _⟩ => (0 : Fin 1)
    | ⟨1, _⟩ => (⟨n % 128, Nat.mod_lt _ (by norm_num)⟩ : Fin 128))

omit [FloatOps F] in
theorem colOf_at (v : (⟨2, ![1, 128]⟩ : Shape).Idx → F .f32) (ι) : v ι = colOf v (ι 1).val := by
  unfold colOf
  refine congrArg v (funext fun a => ?_)
  match a with
  | ⟨0, _⟩ => exact Subsingleton.elim (α := Fin 1) _ _
  | ⟨1, _⟩ => exact Fin.ext (Nat.mod_eq_of_lt (ι 1).isLt).symm

/-- The input, the payloads and what the two results held at the region's start. -/
abbrev inX (c : Dev nD) : ℕ × ℕ → F .f32 := arrOf (V c main_arg0)
abbrev inG (c : Dev nD) : ℕ × ℕ → F .f32 := arrOf (V c main_v1)

/-- Half `i`'s keys and payloads, sorted. -/
abbrev half0 (c : Dev nD) (i : ℕ) : A2 F :=
  sortA i (colOf (rowVals V c 1)) (colOf (rowVals V c 0)) (colOf (rowVals V c 2)) (colOf (rowVals V c 3)) (inX V c) (inG V c)

/-- The keys after `n` grid points. -/
def keys0 (c : Dev nD) : ℕ → ℕ × ℕ → F .f32
  | 0 => arrOf (V c main_v6_0)
  | n + 1 => put 32768 (n * 32768) (fun p => (half0 V c n p).1) (keys0 c n)

/-- The payloads after `n` grid points. -/
def pays0 (c : Dev nD) : ℕ → ℕ × ℕ → F .f32
  | 0 => arrOf (V c main_v6_1)
  | n + 1 => put 32768 (n * 32768) (fun p => (half0 V c n p).2) (pays0 c n)

/-- A buffer of the program at some contents. -/
abbrev some' (c : Dev nD) (r : Ref sig .tc) : sProp 𝕄 := iprop(∃ f : Buf (Elt F) ((c : Thread nD τ).loc r), ((c : Thread nD τ).loc r) ↦{fullShare} f)

/-- The state between the grid points. -/
def Φ0 (c : Dev nD) (n : ℕ) : sProp 𝕄 :=
  iprop((hold (R := 65536) (C := 128) c (Memref.whole main_arg0) (inX V c) ∗ hold (R := 65536) (C := 128) c (Memref.whole main_v1) (inG V c)
      ∗ hold (R := 65536) (C := 128) c (Memref.whole main_v6_0) (keys0 V c n) ∗ hold (R := 65536) (C := 128) c (Memref.whole main_v6_1) (pays0 V c n))
    ∗ (some' c cc0_scratch0 ∗ some' c cc0_scratch1 ∗ some' c cc1_scratch0 ∗ some' c cc1_scratch1 ∗ some' c cc1_scratch2 ∗ some' c cc1_scratch3)
    ∗ semVal ((c : Thread nD τ), .dma cc0_scratch2.sem) 0 ∗ semVal ((c : Thread nD τ), .dma cc0_scratch3.sem) 0)

/-- The first pipeline's data: the rows stay as staged, the state goes from grid point to grid point. -/
def dat0 (c : Dev nD) : Dat τ (Elt F) Unit ℕ UU ℕ cfg0 c where
  A w := V c (Pipeline.arrRef spec0 w)
  after w _ := rowVals V c w
  Φ t := Φ0 V c t.val
  q _ := fullShare
  owed _ := 0

/-- What a window's buffer holds when the kernel runs: its row. -/
theorem before0 (c : Dev nD) (w : Fin cfg0.W) (t : Fin cfg0.N) (d : (cfg0.win w).block.Idx → Elt F (cfg0.win w).elt) :
    (dat0 V c).before w t d = rowVals V c w := by
  obtain rfl | rfl := fin_N0 t
  · unfold Dat.before
    fin_cases w <;> (rw [if_pos (by decide)]; rfl)
  · unfold Dat.before
    fin_cases w <;> (rw [if_neg (by decide), if_neg (by decide)]; dsimp only; rw [if_neg (by decide)]; rfl)

/-- The kernel at a grid point is the program the run is about. -/
theorem body0 (t : Fin cfg0.N) : (bodyAt0 (F := F) t)
    = Net.phaseA (Memref.whole cc0_scratch0) (Memref.whole cc0_scratch1) (grid0.coords t 0) (Memref.whole main_arg0) (Memref.whole main_v1)
      (Memref.whole main_v6_0) (Memref.whole main_v6_1) (st0_0 t) (st0_1 t) (st0_2 t) (st0_3 t) (Memref.isWhole_whole _) (Memref.isWhole_whole _)
      cc0_scratch2 cc0_scratch3 :=
  first_eq ..

theorem coord0 (t : Fin cfg0.N) : (grid0.coords t 0).val = t.val := by
  obtain rfl | rfl := fin_N0 t <;> decide

/-- A staged row, as the run takes it and back. -/
theorem row_of_owns (c : Dev nD) (m : Memref sig .tc .vmem R1 .f32) (v : R1.Idx → F .f32) :
    (owns (c : Thread nD τ) m fullShare v : sProp 𝕄) ⊣⊢ row c m (colOf v) := by
  unfold owns row hold
  refine ⟨?_, ?_⟩
  · iintro ⟨%f, %h, H⟩
    iexists f
    isplitl [H]
    · iexact H
    ipureintro
    intro ι
    exact (congrFun h ι).trans (colOf_at v ι)
  · iintro ⟨%f, H, %h⟩
    iexists f
    isplitr
    · ipureintro
      funext ι
      exact (h ι).trans (colOf_at v ι).symm
    iexact H

/-- A scratch buffer at some contents, as the run takes it. -/
theorem some_raw (c : Dev nD) (r : Ref sig .tc) : (some' c r : sProp 𝕄) = iprop(∃ f, raw (c : Thread nD τ) (Memref.whole r) f) := by
  simp only [raw_whole]

set_option maxHeartbeats 400000 in
/-- The kernel at each grid point. -/
theorem obligation0 (c : Dev nD) : BodyObligation (dat0 V c) (defs₀ (F := F)) 𝒱₀ () Set.univ := fun t => by
  rw [bigSep_W0, bigSep_W0]
  rw [show (dat0 V c).Φ t.castSucc = Φ0 V c t.val from rfl, show (dat0 V c).Φ t.succ = Φ0 V c (t.val + 1) from rfl,
    show (dat0 V c).owesAt () t.succ = (dat0 V c).owesAt () t.castSucc from rfl]
  simp only [before0]
  show _ ⊢ wp frame (wpE defs₀ 𝒱₀ (c : Thread nD τ) none) Set.univ (bodyAt0 t) _
  rw [body0]
  refine reorder (R := iprop(stateA c (Memref.whole main_arg0) (Memref.whole main_v1) (Memref.whole main_v6_0) (Memref.whole main_v6_1)
      (st0_0 t) (st0_1 t) (st0_2 t) (st0_3 t) (Memref.whole cc0_scratch0) (Memref.whole cc0_scratch1) cc0_scratch2 cc0_scratch3 (inX V c) (inG V c)
      (keys0 V c t.val) (pays0 V c t.val) (colOf (rowVals V c 0)) (colOf (rowVals V c 1)) (colOf (rowVals V c 2)) (colOf (rowVals V c 3))
      ∗ some' c cc1_scratch0 ∗ some' c cc1_scratch1 ∗ some' c cc1_scratch2 ∗ some' c cc1_scratch3)) ?_
    (reorder (sep_mono (phaseA_run EC 𝒱₀ c none (grid0.coords t 0) (hK := Memref.isWhole_whole _) (hP := Memref.isWhole_whole _)) .rfl)
      ((wp_frame_r _ _ _).trans (wp_mono _ _ _ fun _ => ?_)))
  · unfold Φ0 stateA Pipeline.Dat.owesAt Pipeline.owesWithin
    rw [some_raw c cc0_scratch0, some_raw c cc0_scratch1]
    iintro ⟨⟨⟨HX, HG, HK, HP⟩, ⟨S0, S1, S2, S3, S4, S5⟩, A0, A1⟩, ⟨%W, -, HO⟩, ⟨%d0, R0⟩, ⟨%d1, R1⟩, ⟨%d2, R2⟩, ⟨%d3, R3⟩⟩
    ihave R0' := (row_of_owns c _ _).1 $$ R0
    ihave R1' := (row_of_owns c _ _).1 $$ R1
    ihave R2' := (row_of_owns c _ _).1 $$ R2
    ihave R3' := (row_of_owns c _ _).1 $$ R3
    isplitr [S2 S3 S4 S5]
    · isplitl [HX]; · iexact HX
      isplitl [HG]; · iexact HG
      isplitl [HK]; · iexact HK
      isplitl [HP]; · iexact HP
      isplitl [R0']; · iexact R0'
      isplitl [R1']; · iexact R1'
      isplitl [R2']; · iexact R2'
      isplitl [R3']; · iexact R3'
      isplitl [S0]; · iexact S0
      isplitl [S1]; · iexact S1
      isplitl [A0]; · iexact A0
      isplitl [A1]; · iexact A1
      iexists W
      iexact HO
    · iframe
  · unfold Φ0 stateA Pipeline.Dat.owesAt Pipeline.owesWithin
    rw [some_raw c cc0_scratch0, some_raw c cc0_scratch1, coord0]
    iintro ⟨⟨HX, HG, HK, HP, R0, R1, R2, R3, S0, S1, A0, A1, ⟨%W, HO⟩⟩, S2, S3, S4, S5⟩
    ihave R0' := (row_of_owns c _ _).2 $$ R0
    ihave R1' := (row_of_owns c _ _).2 $$ R1
    ihave R2' := (row_of_owns c _ _).2 $$ R2
    ihave R3' := (row_of_owns c _ _).2 $$ R3
    isplitl [HX HG HK HP S0 S1 S2 S3 S4 S5 A0 A1]
    · isplitl [HX HG HK HP]
      · isplitl [HX]; · iexact HX
        isplitl [HG]; · iexact HG
        isplitl [HK]; · iexact HK
        iexact HP
      isplitl [S0 S1 S2 S3 S4 S5]
      · isplitl [S0]; · iexact S0
        isplitl [S1]; · iexact S1
        iframe
      isplitl [A0]; · iexact A0
      iexact A1
    isplitl [HO]
    · iexists W
      isplitr
      · ipureintro
        exact fun _ _ => Or.inl trivial
      iexact HO
    isplitl [R0']; · iexact R0'
    isplitl [R1']; · iexact R1'
    isplitl [R2']; · iexact R2'
    iexact R3'

/-- A proof data for a pipeline not looked at. -/
def junkDat {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

/-- A whole buffer at the contents of the run's array, back as a buffer of the program. -/
theorem hold_of_pt (c : Dev nD) {r : Ref sig .tc} {sp : Space} {m : Memref sig .tc sp X2 .f32} {f : Buf (Elt F) ((c : Thread nD τ).loc r)}
    {f' : Buf (Elt F) (m.view.loc (c : Thread nD τ))} {A : ℕ × ℕ → F .f32}
    (e : (raw (c : Thread nD τ) m f' : sProp 𝕄) = pt c r f) (h : m.view.read (Elt F) f' = bufOf A) :
    pt c r f ⊢ hold (R := 65536) (C := 128) c m A :=
  e ▸ raw_to_hold c m f' h

theorem pt_of_hold (c : Dev nD) {r : Ref sig .tc} {sp : Space} {m : Memref sig .tc sp X2 .f32} {f : Buf (Elt F) ((c : Thread nD τ).loc r)}
    {f' : Buf (Elt F) (m.view.loc (c : Thread nD τ))} {A : ℕ × ℕ → F .f32}
    (e : (raw (c : Thread nD τ) m f' : sProp 𝕄) = pt c r f) (h : ∀ g, m.view.read (Elt F) g = bufOf A → g = f') :
    hold (R := 65536) (C := 128) c m A ⊢ pt c r f :=
  e ▸ hold_to_raw c m f' h

section Entry

variable (c : Dev nD)

theorem in_arg0 : pt c main_arg0 (V c main_arg0) ⊢ hold (R := 65536) (C := 128) c (Memref.whole main_arg0) (arrOf (V c main_arg0)) :=
  hold_of_pt c (raw_whole c main_arg0 _) (bufOf_arrOf _).symm
theorem in_v1 : pt c main_v1 (V c main_v1) ⊢ hold (R := 65536) (C := 128) c (Memref.whole main_v1) (arrOf (V c main_v1)) :=
  hold_of_pt c (raw_whole c main_v1 _) (bufOf_arrOf _).symm
theorem in_v6_0 : pt c main_v6_0 (V c main_v6_0) ⊢ hold (R := 65536) (C := 128) c (Memref.whole main_v6_0) (arrOf (V c main_v6_0)) :=
  hold_of_pt c (raw_whole c main_v6_0 _) (bufOf_arrOf _).symm
theorem in_v6_1 : pt c main_v6_1 (V c main_v6_1) ⊢ hold (R := 65536) (C := 128) c (Memref.whole main_v6_1) (arrOf (V c main_v6_1)) :=
  hold_of_pt c (raw_whole c main_v6_1 _) (bufOf_arrOf _).symm
theorem in_v7 : pt c main_v7 (V c main_v7) ⊢ hold (R := 65536) (C := 128) c (Memref.whole main_v7) (arrOf (V c main_v7)) :=
  hold_of_pt c (raw_whole c main_v7 _) (bufOf_arrOf _).symm

theorem out_arg0 (A : ℕ × ℕ → F .f32) : hold (R := 65536) (C := 128) c (Memref.whole main_arg0) A ⊢ pt c main_arg0 (bufOf A) :=
  pt_of_hold c (raw_whole c main_arg0 _) fun _ h => h
theorem out_v1 (A : ℕ × ℕ → F .f32) : hold (R := 65536) (C := 128) c (Memref.whole main_v1) A ⊢ pt c main_v1 (bufOf A) :=
  pt_of_hold c (raw_whole c main_v1 _) fun _ h => h
theorem out_v6_0 (A : ℕ × ℕ → F .f32) : hold (R := 65536) (C := 128) c (Memref.whole main_v6_0) A ⊢ pt c main_v6_0 (bufOf A) :=
  pt_of_hold c (raw_whole c main_v6_0 _) fun _ h => h
theorem out_v6_1 (A : ℕ × ℕ → F .f32) : hold (R := 65536) (C := 128) c (Memref.whole main_v6_1) A ⊢ pt c main_v6_1 (bufOf A) :=
  pt_of_hold c (raw_whole c main_v6_1 _) fun _ h => h
theorem out_v7 (A : ℕ × ℕ → F .f32) : hold (R := 65536) (C := 128) c (Memref.whole main_v7) A ⊢ pt c main_v7 (bufOf A) :=
  pt_of_hold c (raw_whole c main_v7 _) fun _ h => h

end Entry

/-- The buffers the first region leaves alone. -/
def rest0 (c : Dev nD) : sProp 𝕄 :=
  iprop(pt c main_arg1 (V c main_arg1) ∗ pt c main_arg2 (V c main_arg2) ∗ pt c main_arg3 (V c main_arg3) ∗ pt c main_arg4 (V c main_arg4)
    ∗ pt c main_arg5 (V c main_arg5) ∗ pt c main_v0 (V c main_v0) ∗ pt c main_v7 (V c main_v7))

/-- What the first region works on in memory, after `n` grid points. -/
def work0 (c : Dev nD) (n : ℕ) : sProp 𝕄 :=
  iprop(hold (R := 65536) (C := 128) c (Memref.whole main_arg0) (inX V c) ∗ hold (R := 65536) (C := 128) c (Memref.whole main_v1) (inG V c)
    ∗ hold (R := 65536) (C := 128) c (Memref.whole main_v6_0) (keys0 V c n) ∗ hold (R := 65536) (C := 128) c (Memref.whole main_v6_1) (pays0 V c n))

/-- The first region's buffers sorted out of the rest of memory. -/
theorem enter0 (c : Dev nD) : (Pipeline.unscopedRest (Ix := Unit) (Name := ℕ) (U := UU) (Lvl := ℕ) spec0 c (fun b => V c b) : sProp 𝕄)
    ⊢ iprop(work0 V c 0 ∗ rest0 V c) := by
  rw [unscopedRest0_eq]
  unfold work0 rest0
  iintro ⟨H0, H1, H2, H3, H4, H5, H6, H7, H8, H9, H10⟩
  ihave X := (in_arg0 V c) $$ H0
  ihave G := (in_v1 V c) $$ H7
  ihave K := (in_v6_0 V c) $$ H8
  ihave P := (in_v6_1 V c) $$ H9
  isplitl [X G K P]
  · isplitl [X]; · iexact X
    isplitl [G]; · iexact G
    isplitl [K]; · iexact K
    iexact P
  iframe

variable (Vp : Dev nD → Valuation τ sig (Elt F))

/-- … and put back. -/
theorem leave0 (c : Dev nD) (hk : Vp c main_v6_0 = bufOf (keys0 V c 2)) (hp : Vp c main_v6_1 = bufOf (pays0 V c 2))
    (hne : ∀ b : Ref sig .tc, b ≠ main_v6_0 → b ≠ main_v6_1 → Vp c b = V c b) :
    iprop(work0 V c 2 ∗ rest0 V c) ⊢ (Pipeline.unscopedRest (Ix := Unit) (Name := ℕ) (U := UU) (Lvl := ℕ) spec0 c (fun b => Vp c b) : sProp 𝕄) := by
  rw [unscopedRest0_eq]
  rw [hk, hp, hne main_arg0 (by decide) (by decide), hne main_arg1 (by decide) (by decide), hne main_arg2 (by decide) (by decide),
    hne main_arg3 (by decide) (by decide), hne main_arg4 (by decide) (by decide), hne main_arg5 (by decide) (by decide),
    hne main_v0 (by decide) (by decide), hne main_v1 (by decide) (by decide), hne main_v7 (by decide) (by decide)]
  unfold work0 rest0
  iintro ⟨⟨X, G, K, P⟩, H1, H2, H3, H4, H5, H6, H10⟩
  ihave X' := ((out_arg0 c _).trans (Entails.of_eq (congrArg (pt c main_arg0) (bufOf_arrOf (V c main_arg0))))) $$ X
  ihave G' := ((out_v1 c _).trans (Entails.of_eq (congrArg (pt c main_v1) (bufOf_arrOf (V c main_v1))))) $$ G
  ihave K' := (out_v6_0 c _) $$ K
  ihave P' := (out_v6_1 c _) $$ P
  isplitl [X']; · iexact X'
  isplitl [H1]; · iexact H1
  isplitl [H2]; · iexact H2
  isplitl [H3]; · iexact H3
  isplitl [H4]; · iexact H4
  isplitl [H5]; · iexact H5
  isplitl [H6]; · iexact H6
  isplitl [G']; · iexact G'
  isplitl [K']; · iexact K'
  isplitl [P']; · iexact P'
  iexact H10

/-- The semaphores at rest. -/
theorem sems0 (c : Dev nD) : (Pipeline.ownSems0 (Ix := Unit) (Name := ℕ) (U := UU) (Lvl := ℕ) (Val := Elt F) (τ := τ) osem0 c : sProp 𝕄)
    = iprop(semVal ((c : Thread nD τ), .dma cc0_scratch2.sem) 0 ∗ semVal ((c : Thread nD τ), .dma cc0_scratch3.sem) 0) :=
  Pipeline.ownSems0_eq_of_list c osem0 [0, 1] (by decide) (by decide)

section Record

variable (pdats : (p : Fin 2) → (c : Dev nD) → Dat τ (Elt F) Unit ℕ UU ℕ (cfgs p) c) (hd : ∀ c, pdats 0 c = dat0 V c)

include hd in
set_option backward.isDefEq.respectTransparency.types false in
/-- The first region, entered from any contents of memory. -/
def reg0 (hk : ∀ c, Vp c main_v6_0 = bufOf (keys0 V c 2)) (hp : ∀ c, Vp c main_v6_1 = bufOf (pays0 V c 2))
    (hne : ∀ c (b : Ref sig .tc), b ≠ main_v6_0 → b ≠ main_v6_1 → Vp c b = V c b) :
    Pipeline.RegionSeg (pcfgs (F := F)) adm pdats () defs₀ 𝒱₀ L lv 0 where
  win := launch0.win.to₀
  block_pos := launch0.block_pos
  stage_whole := launch0.stage_whole
  K := Fin 2
  osem := osem0
  ho := ownFacts0
  hbody c := by rw [hd]; exact (obligation0 V c).loose
  hwaits := Pipeline.hwaits_of_owed_zero _ _ _ _ L lv 0 fun c _ => by rw [hd]; rfl
  pre c := iprop(unscopedBufs c (fun b => V c b) ∗ dueless c)
  post c := iprop(unscopedBufs c (fun b => Vp c b) ∗ dueless c)
  X c := iprop(work0 V c 0 ∗ semVal ((c : Thread nD τ), .dma cc0_scratch2.sem) 0 ∗ semVal ((c : Thread nD τ), .dma cc0_scratch3.sem) 0)
  Y c := work0 V c 2
  Z c := rest0 V c
  hentry c := by
    rw [sems0]
    have hsplit := Pipeline.arrays_of_unscopedBufs (p := 0) (pcfgs (F := F)) adm pdats launch0.win launch0.arr_whole c
      ((pdats 0 c).share_full fun _ => by rw [hd]; rfl) (fun b => V c b) fun _ => by rw [hd]; rfl
    iintro ⟨⟨Hub, HO⟩, Hs, -⟩
    ihave H := hsplit $$ Hub
    icases H with ⟨Ha, Hrest⟩
    ihave H' := (enter0 V c) $$ Hrest
    icases H' with ⟨HW, HZ⟩
    imodintro
    isplitl [Ha]; · iexact Ha
    isplitr; · unfold Pipeline.prefHeld; rw [show (Finset.univ : Finset (Fin 0)) = ∅ from rfl, BI.bigSep_empty]; iempintro
    isplitl [HO]
    · rw [hd]
      unfold Pipeline.Dat.owesAt Pipeline.owesWithin
      icases HO with ⟨%W, HO⟩; iexists W; isplitr; · ipureintro; exact fun _ _ => Or.inl trivial
      iexact HO
    isplitl [HW Hs]
    · isplitl [HW]; · iexact HW
      iexact Hs
    iexact HZ
  hin c := by
    rw [hd, show (dat0 V c).Φ 0 = Φ0 V c 0 from rfl]
    have hs := scopedRest0_eq (Ix := Unit) (Val := Elt F) (Name := ℕ) (U := UU) (Lvl := ℕ) c
    unfold Φ0 work0
    iintro ⟨⟨HW, Hs⟩, -, Hr⟩
    ihave Hr' := (Entails.of_eq hs) $$ Hr
    isplitl [HW]; · iexact HW
    isplitl [Hr']; · iexact Hr'
    iexact Hs
  hout c := by
    rw [hd, sems0]
    show Φ0 V c 2 ⊢ _
    have hs := scopedRest0_eq (Ix := Unit) (Val := Elt F) (Name := ℕ) (U := UU) (Lvl := ℕ) c
    unfold Φ0 work0
    iintro ⟨HW, Hr, Hs⟩
    isplitl [HW]; · iexact HW
    isplitl [Hs]; · iexact Hs
    iapply (Entails.of_eq hs.symm)
    iexact Hr
  hexit c := by
    have hjoin := Pipeline.unscopedBufs_of_arrays (p := 0) (pcfgs (F := F)) adm (Ix := Unit) (Name := ℕ) (U := UU) (Lvl := ℕ) launch0.win launch0.arr_whole c
      pdats ((pdats 0 c).share_full fun _ => by rw [hd]; rfl) (fun b => Vp c b) (fun b => Vp c b) ((pdats 0 c).arrAt · cfg0.N)
      (fun w => by
        rw [hd]
        fin_cases w
        · exact ((dat0 V c).arrAt_in 0 rfl _).trans (hne c main_v2 (by decide) (by decide)).symm
        · exact ((dat0 V c).arrAt_in 1 rfl _).trans (hne c main_v3 (by decide) (by decide)).symm
        · exact ((dat0 V c).arrAt_in 2 rfl _).trans (hne c main_v4 (by decide) (by decide)).symm
        · exact ((dat0 V c).arrAt_in 3 rfl _).trans (hne c main_v5 (by decide) (by decide)).symm)
      (fun b hb => rfl)
    iintro ⟨Ha, HO, HY, HZ⟩
    ihave Hrest := (leave0 V Vp c (hk c) (hp c) (hne c)) $$ [HY HZ]
    · isplitl [HY] <;> iassumption
    imodintro
    isplitl [Ha Hrest]
    · iapply hjoin; isplitl [Ha] <;> iassumption
    rw [hd]
    unfold Pipeline.Dat.owesAt Pipeline.owesWithin
    icases HO with ⟨%W, -, HO⟩; iexists W; iexact HO

end Record

end Cert.KernelIdeal.Own
-- ==== Proof.Region1.lean ====
/-
The second pipeline of the program: its grid points one after the other, and what it leaves.
-/
module

public import proofs.«01_k».proof.Proof.Region0

@[expose] public section

set_option maxRecDepth 65536

noncomputable section

namespace Cert.KernelIdeal.Own

open Cert.KernelIdeal Cert.KernelIdeal.Gen Cert.Net
open Idealize.ShloMosaic Idealize.ShloMosaic.TcCoe
open Idealize.ShloMosaic.LaneScatter (raw)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The semaphores of the second kernel. -/
abbrev osem1 : Fin 6 → SemLoc sig := fun
  | 0 => .dma cc1_scratch4.sem
  | 1 => .dma cc1_scratch5.sem
  | 2 => .dma (slotSem cc1_scratch6 (pw 0) 0 col0 (pw_lt 0)).sem
  | 3 => .dma (slotSem cc1_scratch6 (pw 0) 1 col1 (pw_lt 0)).sem
  | 4 => .dma (slotSem cc1_scratch6 (pw 1) 0 col0 (pw_lt 1)).sem
  | 5 => .dma (slotSem cc1_scratch6 (pw 1) 1 col1 (pw_lt 1)).sem

theorem ownFacts1 : Pipeline.OwnSemFacts cfg1.spec osem1 := by decide

variable (V : Dev nD → Valuation τ sig (Elt F))

/-- The pairs the second region starts from. -/
abbrev inJ (c : Dev nD) : A2 F := fun p => (arrOf (V c main_v6_0) p, arrOf (V c main_v6_1) p)

/-- The result after `n` grid points. -/
def res1 (c : Dev nD) : ℕ → ℕ × ℕ → F .f32
  | 0 => arrOf (V c main_v7)
  | n + 1 => put 32768 (n * 32768) (fun p => (lastC n (inJ V c) p).2) (res1 c n)

/-- The semaphores of the second kernel at rest. -/
def rest6 (c : Dev nD) : sProp 𝕄 :=
  iprop(semVal ((c : Thread nD τ), .dma cc1_scratch4.sem) 0 ∗ semVal ((c : Thread nD τ), .dma cc1_scratch5.sem) 0
    ∗ sem4 c cc1_scratch6 0 0 col0 ∗ sem4 c cc1_scratch6 0 1 col1 ∗ sem4 c cc1_scratch6 1 0 col0 ∗ sem4 c cc1_scratch6 1 1 col1)

/-- What the second region works on in memory, after `n` grid points. -/
def work1 (c : Dev nD) (n : ℕ) : sProp 𝕄 :=
  iprop(hold (R := 65536) (C := 128) c (Memref.whole main_v6_0) (fun p => (inJ V c p).1)
    ∗ hold (R := 65536) (C := 128) c (Memref.whole main_v6_1) (fun p => (inJ V c p).2)
    ∗ hold (R := 65536) (C := 128) c (Memref.whole main_v7) (res1 V c n))

/-- The state between the grid points. -/
def Φ1 (c : Dev nD) (n : ℕ) : sProp 𝕄 :=
  iprop(work1 V c n
    ∗ (some' c cc0_stg0_0 ∗ some' c cc0_stg1_0 ∗ some' c cc0_stg2_0 ∗ some' c cc0_stg3_0 ∗ some' c cc0_scratch0 ∗ some' c cc0_scratch1
      ∗ some' c cc1_scratch0 ∗ some' c cc1_scratch1 ∗ some' c cc1_scratch2 ∗ some' c cc1_scratch3)
    ∗ rest6 c)

/-- The second pipeline's data: no window, the state goes from grid point to grid point. -/
def dat1 (c : Dev nD) : Dat τ (Elt F) Unit ℕ UU ℕ cfg1 c where
  A w := w.elim0
  after w _ := w.elim0
  Φ t := Φ1 V c t.val
  q _ := fullShare
  owed _ := 0

/-- The kernel at a grid point is the program the run is about. -/
theorem body1 (t : Fin cfg1.N) : (bodyAt1 (F := F) t)
    = Net.phaseC (Memref.whole cc1_scratch0) (Memref.whole cc1_scratch1) (Memref.whole cc1_scratch2) (Memref.whole cc1_scratch3) (grid1.coords t 0)
      (Memref.whole main_v6_0) (Memref.whole main_v6_1) (Memref.whole main_v7) (Memref.isWhole_whole _) (Memref.isWhole_whole _)
      cc1_scratch4 cc1_scratch5 cc1_scratch6 :=
  second_eq ..

theorem coord1 (t : Fin cfg1.N) : (grid1.coords t 0).val = t.val := by
  obtain rfl | rfl := fin_N1 t <;> decide

set_option maxHeartbeats 400000 in
/-- The kernel at each grid point. -/
theorem obligation1 (c : Dev nD) : BodyObligation (dat1 V c) (defs₀ (F := F)) 𝒱₀ () Set.univ := fun t => by
  rw [show (Finset.univ : Finset (Fin cfg1.W)) = ∅ from rfl, BI.bigSep_empty, BI.bigSep_empty]
  rw [show (dat1 V c).Φ t.castSucc = Φ1 V c t.val from rfl, show (dat1 V c).Φ t.succ = Φ1 V c (t.val + 1) from rfl,
    show (dat1 V c).owesAt () t.succ = (dat1 V c).owesAt () t.castSucc from rfl]
  show _ ⊢ wp frame (wpE defs₀ 𝒱₀ (c : Thread nD τ) none) Set.univ (bodyAt1 t) _
  rw [body1]
  refine reorder (R := iprop(stateC c (Memref.whole main_v6_0) (Memref.whole main_v6_1) (Memref.whole main_v7)
      (Memref.whole cc1_scratch0) (Memref.whole cc1_scratch1) (Memref.whole cc1_scratch2) (Memref.whole cc1_scratch3)
      cc1_scratch4 cc1_scratch5 cc1_scratch6 (inJ V c) (res1 V c t.val)
      ∗ some' c cc0_stg0_0 ∗ some' c cc0_stg1_0 ∗ some' c cc0_stg2_0 ∗ some' c cc0_stg3_0 ∗ some' c cc0_scratch0 ∗ some' c cc0_scratch1)) ?_
    (reorder (sep_mono (phaseC_run EC 𝒱₀ c none (grid1.coords t 0) (hK := Memref.isWhole_whole _) (hP := Memref.isWhole_whole _)) .rfl)
      ((wp_frame_r _ _ _).trans (wp_mono _ _ _ fun _ => ?_)))
  · unfold Φ1 work1 rest6 stateC Pipeline.Dat.owesAt Pipeline.owesWithin
    rw [some_raw c cc1_scratch0, some_raw c cc1_scratch1, some_raw c cc1_scratch2, some_raw c cc1_scratch3]
    iintro ⟨⟨⟨HK, HP, HO⟩, ⟨T0, T1, T2, T3, T4, T5, S0, S1, S2, S3⟩, A0, A1, A2, A3, A4, A5⟩, ⟨%W, -, HW⟩, -⟩
    isplitr [T0 T1 T2 T3 T4 T5]
    · isplitl [HK]; · iexact HK
      isplitl [HP]; · iexact HP
      isplitl [HO]; · iexact HO
      isplitl [S0]; · iexact S0
      isplitl [S1]; · iexact S1
      isplitl [S2]; · iexact S2
      isplitl [S3]; · iexact S3
      isplitl [A0]; · iexact A0
      isplitl [A1]; · iexact A1
      isplitl [A2]; · iexact A2
      isplitl [A3]; · iexact A3
      isplitl [A4]; · iexact A4
      isplitl [A5]; · iexact A5
      iexists W
      iexact HW
    · iframe
  · unfold Φ1 work1 rest6 stateC Pipeline.Dat.owesAt Pipeline.owesWithin
    rw [some_raw c cc1_scratch0, some_raw c cc1_scratch1, some_raw c cc1_scratch2, some_raw c cc1_scratch3, coord1]
    iintro ⟨⟨HK, HP, HO, S0, S1, S2, S3, A0, A1, A2, A3, A4, A5, ⟨%W, HW⟩⟩, T0, T1, T2, T3, T4, T5⟩
    isplitr [HW]
    · isplitl [HK HP HO]
      · isplitl [HK]; · iexact HK
        isplitl [HP]; · iexact HP
        iexact HO
      isplitl [S0 S1 S2 S3 T0 T1 T2 T3 T4 T5]
      · isplitl [T0]; · iexact T0
        isplitl [T1]; · iexact T1
        isplitl [T2]; · iexact T2
        isplitl [T3]; · iexact T3
        isplitl [T4]; · iexact T4
        isplitl [T5]; · iexact T5
        isplitl [S0]; · iexact S0
        isplitl [S1]; · iexact S1
        isplitl [S2]; · iexact S2
        iexact S3
      isplitl [A0]; · iexact A0
      isplitl [A1]; · iexact A1
      isplitl [A2]; · iexact A2
      isplitl [A3]; · iexact A3
      isplitl [A4]; · iexact A4
      iexact A5
    isplitl [HW]
    · iexists W
      isplitr
      · ipureintro
        exact fun _ _ => Or.inl trivial
      iexact HW
    iempintro

/-- The buffers the second region leaves alone. -/
def rest1 (c : Dev nD) : sProp 𝕄 :=
  iprop(pt c main_arg0 (V c main_arg0) ∗ pt c main_arg1 (V c main_arg1) ∗ pt c main_arg2 (V c main_arg2) ∗ pt c main_arg3 (V c main_arg3)
    ∗ pt c main_arg4 (V c main_arg4) ∗ pt c main_arg5 (V c main_arg5) ∗ pt c main_v0 (V c main_v0) ∗ pt c main_v1 (V c main_v1)
    ∗ pt c main_v2 (V c main_v2) ∗ pt c main_v3 (V c main_v3) ∗ pt c main_v4 (V c main_v4) ∗ pt c main_v5 (V c main_v5))

/-- The second region's buffers sorted out of the rest of memory. -/
theorem enter1 (c : Dev nD) : (Pipeline.unscopedRest (Ix := Unit) (Name := ℕ) (U := UU) (Lvl := ℕ) (cfg1.spec) c (fun b => V c b) : sProp 𝕄)
    ⊢ iprop(work1 V c 0 ∗ rest1 V c) := by
  rw [unscopedRest1_eq]
  unfold work1 rest1
  iintro ⟨H0, H1, H2, H3, H4, H5, H6, H7, H8, H9, H10, H11, H12, H13, H14⟩
  ihave K := (in_v6_0 V c) $$ H12
  ihave P := (in_v6_1 V c) $$ H13
  ihave O := (in_v7 V c) $$ H14
  isplitl [K P O]
  · isplitl [K]; · iexact K
    isplitl [P]; · iexact P
    iexact O
  iframe

variable (Vp : Dev nD → Valuation τ sig (Elt F))

/-- … and put back. -/
theorem leave1 (c : Dev nD) (ho : Vp c main_v7 = bufOf (res1 V c 2)) (hne : ∀ b : Ref sig .tc, b ≠ main_v7 → Vp c b = V c b) :
    iprop(work1 V c 2 ∗ rest1 V c) ⊢ (Pipeline.unscopedRest (Ix := Unit) (Name := ℕ) (U := UU) (Lvl := ℕ) (cfg1.spec) c (fun b => Vp c b) : sProp 𝕄) := by
  rw [unscopedRest1_eq]
  rw [ho, hne main_arg0 (by decide), hne main_arg1 (by decide), hne main_arg2 (by decide), hne main_arg3 (by decide), hne main_arg4 (by decide),
    hne main_arg5 (by decide), hne main_v0 (by decide), hne main_v1 (by decide), hne main_v2 (by decide), hne main_v3 (by decide),
    hne main_v4 (by decide), hne main_v5 (by decide), hne main_v6_0 (by decide), hne main_v6_1 (by decide)]
  unfold work1 rest1
  iintro ⟨⟨K, P, O⟩, H0, H1, H2, H3, H4, H5, H6, H7, H8, H9, H10, H11⟩
  ihave K' := ((out_v6_0 c _).trans (Entails.of_eq (congrArg (pt c main_v6_0) (bufOf_arrOf (V c main_v6_0))))) $$ K
  ihave P' := ((out_v6_1 c _).trans (Entails.of_eq (congrArg (pt c main_v6_1) (bufOf_arrOf (V c main_v6_1))))) $$ P
  ihave O' := (out_v7 c _) $$ O
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [K']; · iexact K'
  isplitl [P']; · iexact P'
  iexact O'

/-- The semaphores at rest. -/
theorem sems1 (c : Dev nD) : (Pipeline.ownSems0 (Ix := Unit) (Name := ℕ) (U := UU) (Lvl := ℕ) (Val := Elt F) (τ := τ) osem1 c : sProp 𝕄) = rest6 c :=
  Pipeline.ownSems0_eq_of_list c osem1 [0, 1, 2, 3, 4, 5] (by decide) (by decide)

section Record

variable (pdats : (p : Fin 2) → (c : Dev nD) → Dat τ (Elt F) Unit ℕ UU ℕ (cfgs p) c) (hd : ∀ c, pdats 1 c = dat1 V c)

include hd in
set_option backward.isDefEq.respectTransparency.types false in
/-- The second region, entered from any contents of memory. -/
def reg1 (ho : ∀ c, Vp c main_v7 = bufOf (res1 V c 2)) (hne : ∀ c (b : Ref sig .tc), b ≠ main_v7 → Vp c b = V c b) :
    Pipeline.RegionSeg (pcfgs (F := F)) adm pdats () defs₀ 𝒱₀ L lv 1 where
  win := launch1.win.to₀
  block_pos := launch1.block_pos
  stage_whole := launch1.stage_whole
  K := Fin 6
  osem := osem1
  ho := ownFacts1
  hbody c := by rw [hd]; exact (obligation1 V c).loose
  hwaits := Pipeline.hwaits_of_owed_zero _ _ _ _ L lv 1 fun c _ => by rw [hd]; rfl
  pre c := iprop(unscopedBufs c (fun b => V c b) ∗ dueless c)
  post c := iprop(unscopedBufs c (fun b => Vp c b) ∗ dueless c)
  X c := iprop(work1 V c 0 ∗ rest6 c)
  Y c := work1 V c 2
  Z c := rest1 V c
  hentry c := by
    rw [sems1]
    have hsplit := Pipeline.arrays_of_unscopedBufs (p := 1) (pcfgs (F := F)) adm pdats launch1.win launch1.arr_whole c
      ((pdats 1 c).share_full fun _ => by rw [hd]; rfl) (fun b => V c b) fun w => Fin.elim0 (show Fin 0 from w)
    iintro ⟨⟨Hub, HO⟩, Hs, -⟩
    ihave H := hsplit $$ Hub
    icases H with ⟨Ha, Hrest⟩
    ihave H' := (enter1 V c) $$ Hrest
    icases H' with ⟨HW, HZ⟩
    imodintro
    isplitl [Ha]; · iexact Ha
    isplitr; · unfold Pipeline.prefHeld; rw [show (Finset.univ : Finset (Fin 0)) = ∅ from rfl, BI.bigSep_empty]; iempintro
    isplitl [HO]
    · rw [hd]
      unfold Pipeline.Dat.owesAt Pipeline.owesWithin
      icases HO with ⟨%W, HO⟩; iexists W; isplitr; · ipureintro; exact fun _ _ => Or.inl trivial
      iexact HO
    isplitl [HW Hs]
    · isplitl [HW]; · iexact HW
      iexact Hs
    iexact HZ
  hin c := by
    rw [hd, show (dat1 V c).Φ 0 = Φ1 V c 0 from rfl]
    have hs := scopedRest1_eq (Ix := Unit) (Val := Elt F) (Name := ℕ) (U := UU) (Lvl := ℕ) c
    unfold Φ1
    iintro ⟨⟨HW, Hs⟩, -, Hr⟩
    ihave Hr' := (Entails.of_eq hs) $$ Hr
    isplitl [HW]; · iexact HW
    isplitl [Hr']; · iexact Hr'
    iexact Hs
  hout c := by
    rw [hd, sems1]
    show Φ1 V c 2 ⊢ _
    have hs := scopedRest1_eq (Ix := Unit) (Val := Elt F) (Name := ℕ) (U := UU) (Lvl := ℕ) c
    unfold Φ1
    iintro ⟨HW, Hr, Hs⟩
    isplitl [HW]; · iexact HW
    isplitl [Hs]; · iexact Hs
    iapply (Entails.of_eq hs.symm)
    iexact Hr
  hexit c := by
    have hjoin := Pipeline.unscopedBufs_of_arrays (p := 1) (pcfgs (F := F)) adm (Ix := Unit) (Name := ℕ) (U := UU) (Lvl := ℕ) launch1.win launch1.arr_whole c
      pdats ((pdats 1 c).share_full fun _ => by rw [hd]; rfl) (fun b => Vp c b) (fun b => Vp c b) ((pdats 1 c).arrAt · cfg1.N)
      (fun w => Fin.elim0 (show Fin 0 from w)) (fun b hb => rfl)
    iintro ⟨Ha, HO, HY, HZ⟩
    ihave Hrest := (leave1 V Vp c (ho c) (hne c)) $$ [HY HZ]
    · isplitl [HY] <;> iassumption
    imodintro
    isplitl [Ha Hrest]
    · iapply hjoin; isplitl [Ha] <;> iassumption
    rw [hd]
    unfold Pipeline.Dat.owesAt Pipeline.owesWithin
    icases HO with ⟨%W, -, HO⟩; iexists W; iexact HO

end Record

end Cert.KernelIdeal.Own
-- ==== Proof.Launched.lean ====
/-
The whole program run: its arguments stay as they were, and what its result holds.
-/
module

public import proofs.«01_k».proof.Proof.Region1

@[expose] public section

set_option maxRecDepth 65536

noncomputable section

namespace Cert.KernelIdeal.Own

open Cert.KernelIdeal Cert.KernelIdeal.Gen Cert.Net
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the implicit arguments of the launch theorem are found by unfolding plain definitions in a metavariable's type
set_option backward.isDefEq.respectTransparency.types false in
/-- The run of the program, given the two regions' records: each argument ends as launched, the result as the last contents say. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v7) = V3 m outs c main_v7)
      ∧ r.2.sem = fun _ => 0) := by
  refine Pipeline.θ_run_regions_kit_dev_sems (pcfgs (F := F)) adm pdats ι cellOf_inj EP defs₀ 𝒱₀ L lv m ρ main
    (segs m 𝒱₀ L lv E ι pdats R0 R1)
    (fun c Q => by
      rewrite [main_chain c, Seg.run_eq_chain,
        show (segs m 𝒱₀ L lv E ι pdats R0 R1 c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V3 m outs c))
    (hch := fun c => ⟨.rfl, hpre0 c, (hpost0 c).trans (hpre1 c), (hpost1 c).trans (sep_mono .rfl (hE2 c))⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_v7) = V3 m outs c main_v7)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V3 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V3_main_arg0 m outs c),
        (h (Proc.devRef .tc main_arg1) (Finset.mem_filter.mpr ⟨StableHlo.devRef_mem_tcRefs main_arg1, by decide⟩)).trans (V3_main_arg1 m outs c),
        (h (Proc.devRef .tc main_arg2) (Finset.mem_filter.mpr ⟨StableHlo.devRef_mem_tcRefs main_arg2, by decide⟩)).trans (V3_main_arg2 m outs c),
        (h (Proc.devRef .tc main_arg3) (Finset.mem_filter.mpr ⟨StableHlo.devRef_mem_tcRefs main_arg3, by decide⟩)).trans (V3_main_arg3 m outs c),
        (h (Proc.devRef .tc main_arg4) (Finset.mem_filter.mpr ⟨StableHlo.devRef_mem_tcRefs main_arg4, by decide⟩)).trans (V3_main_arg4 m outs c),
        (h (Proc.devRef .tc main_arg5) (Finset.mem_filter.mpr ⟨StableHlo.devRef_mem_tcRefs main_arg5, by decide⟩)).trans (V3_main_arg5 m outs c),
        h (Proc.devRef .tc main_v7) (Finset.mem_filter.mpr ⟨StableHlo.devRef_mem_tcRefs main_v7, by decide⟩)⟩
    · iexact HSI

/-- Memory after the first region. -/
def W2 (c : Dev nD) : Valuation τ sig (Elt F) :=
  Function.update (Function.update (V1 m c) main_v6_0 (bufOf (keys0 (V1 m) c 2))) main_v6_1 (bufOf (pays0 (V1 m) c 2))

/-- Memory after the second region. -/
def W3 (c : Dev nD) : Valuation τ sig (Elt F) := Function.update (W2 m c) main_v7 (bufOf (res1 (W2 m) c 2))

/-- What the regions leave. -/
def outs : Outs (F := F) := fun J r c => if J = 2 then W2 m c r else W3 m c r

theorem W2_ne (c : Dev nD) (b : Ref sig .tc) (h0 : b ≠ main_v6_0) (h1 : b ≠ main_v6_1) : W2 m c b = V1 m c b := by
  unfold W2
  rw [Function.update_of_ne (StableHlo.devRef_ne_of_ne h1), Function.update_of_ne (StableHlo.devRef_ne_of_ne h0)]

theorem W2_keys (c : Dev nD) : W2 m c main_v6_0 = bufOf (keys0 (V1 m) c 2) := by
  unfold W2
  rw [Function.update_of_ne (StableHlo.devRef_ne_of_ne (by decide)), Function.update_self]

theorem W2_pays (c : Dev nD) : W2 m c main_v6_1 = bufOf (pays0 (V1 m) c 2) := by
  unfold W2
  rw [Function.update_self]

theorem W3_ne (c : Dev nD) (b : Ref sig .tc) (h : b ≠ main_v7) : W3 m c b = W2 m c b := by
  unfold W3
  rw [Function.update_of_ne (StableHlo.devRef_ne_of_ne h)]

theorem W3_res (c : Dev nD) : W3 m c main_v7 = bufOf (res1 (W2 m) c 2) := by
  unfold W3
  rw [Function.update_self]

theorem V2_eq (c : Dev nD) : V2 m (outs m) c = W2 m c := by
  have e1 : outs m 2 main_v1 c = V1 m c main_v1 := W2_ne m c main_v1 (by decide) (by decide)
  have e2 : outs m 2 main_v6_0 c = bufOf (keys0 (V1 m) c 2) := W2_keys m c
  have e3 : outs m 2 main_v6_1 c = bufOf (pays0 (V1 m) c 2) := W2_pays m c
  unfold V2
  rw [e1, e2, e3, Function.update_eq_self]
  rfl

theorem V3_eq (c : Dev nD) : V3 m (outs m) c = W3 m c := by
  have e1 : outs m 3 main_v6_0 c = W2 m c main_v6_0 := W3_ne m c main_v6_0 (by decide)
  have e2 : outs m 3 main_v6_1 c = W2 m c main_v6_1 := W3_ne m c main_v6_1 (by decide)
  have e3 : outs m 3 main_v7 c = bufOf (res1 (W2 m) c 2) := W3_res m c
  unfold V3
  rw [V2_eq, e1, e2, e3, Function.update_eq_self, Function.update_eq_self]
  rfl

/-- The data of both pipelines. -/
def pdats : (p : Fin 2) → (c : Dev nD) → Dat τ (Elt F) Unit ℕ UU ℕ (cfgs p) c
  | ⟨0, _⟩ => fun c => dat0 (V1 m) c
  | ⟨1, _⟩ => fun c => dat1 (W2 m) c

/-- The first region of the program. -/
def R0 := reg0 (V1 m) (W2 m) (pdats m) (fun _ => rfl) (W2_keys m) (W2_pays m) (W2_ne m)

/-- The second region of the program. -/
def R1 := reg1 (W2 m) (W3 m) (pdats m) (fun _ => rfl) (W3_res m) (W3_ne m)

/-- At the start the core owes nothing. -/
theorem starts (ρ : Dev nD → PrngReg) (c : Dev nD) :
    (iprop(unscopedSems0 c ∗ owes (c : Thread nD τ) (0 : CellTallies nD τ sig Unit) ∅ ∗ Pipeline.launchCred (fun _ => 0) c ∗ prngReg c (ρ c) ∗ emp)
      : sProp (MT nD τ sig Unit (Elt F) ℕ UU ℕ)) ⊢ dueless c := by
  iintro ⟨-, HO, -⟩
  iexists ∅
  iexact HO

/-- The program runs to its end from any memory: its arguments stay, its result is the sorted payloads, its semaphores are at rest. -/
theorem run (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v7) = bufOf (res1 (W2 m) c 2))
      ∧ r.2.sem = fun _ => 0) := by
  have h := run_cond m (U := UU) (Lvl := ℕ) (EP := embL) () 𝒱₀ L lv (fun _ _ => rfl) ρ (outs m) (pdats m) (fun _ => 0) (fun _ => iprop(emp))
    (initOf (Pipeline.cells cfgs cellOf_inj) (Pipeline.launchToks cfgs cellOf_inj), 1)
    (by
      iintro Hu
      ihave H' := (ownU_pair _ _) $$ Hu
      icases H' with ⟨HP, -⟩
      imodintro
      isplitl [HP]; · iexact HP
      iapply (show (BI.emp : sProp (MT nD τ sig Unit (Elt F) ℕ UU ℕ)) ⊢ bigSep Finset.univ (fun _ : Dev nD => (BI.emp : sProp (MT nD τ sig Unit (Elt F) ℕ UU ℕ)))
        from by rw [BI.bigSep_emp_const])
      iempintro)
    (fun _ c => dueless c)
    (by
      refine .trans ?_ BI.fupd_intro
      refine (show _ ⊢ _ from by iintro ⟨H, -⟩; iexact H).trans (bigSep_mono fun c _ => starts ρ c))
    (fun c => .rfl) (R0 m)
    (fun c => by rw [← Pipeline.unscopedBufs_held]; exact .rfl)
    (fun c => by rw [← Pipeline.unscopedBufs_held, V2_eq]; exact .rfl)
    (R1 m)
    (fun c => by rw [← Pipeline.unscopedBufs_held, V2_eq]; exact .rfl)
    (fun c => by rw [← Pipeline.unscopedBufs_held, V3_eq]; exact .rfl)
  refine (θ_run _ _ _).mono (fun r hr => ⟨fun c => ?_, hr.2⟩) h
  obtain ⟨h0, h1, h2, h3, h4, h5, h7⟩ := hr.1 c
  exact ⟨h0, h1, h2, h3, h4, h5, h7.trans ((congrFun (V3_eq m c) _).trans (W3_res m c))⟩

end Cert.KernelIdeal.Own
-- ==== Proof.Frames.lean ====
/-
The frames: each of the three programs leaves its arguments as they were and every semaphore at zero.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launched
public import proofs.«01_k».proof.Proof.Printed

@[expose] public section

noncomputable section

namespace Cert.Proof

open Idealize.ShloMosaic Idealize.SL.Sem

open Cert.KernelIdeal in
/-- For any float values, the kernel's program terminates with its six arguments as they were and every semaphore
    at zero: the run of the whole program, its result left out. -/
theorem frameAny {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5))
      ∧ r.2.sem = fun _ => 0) := by
  refine (θ_run _ _ _).mono (fun r hr => ⟨fun c => ?_, hr.2⟩) (Cert.KernelIdeal.Own.run m ρ)
  obtain ⟨h0, h1, h2, h3, h4, h5, -⟩ := hr.1 c
  exact ⟨h0, h1, h2, h3, h4, h5⟩

/-- The idealized kernel's frame. -/
theorem frameIdeal : letI := Cert.KernelIdeal.Gen.facts; Cert.quiescent_KernelIdeal := by
  intro m g _
  exact frameAny (F := Ideal) m g

/-- The same under the precondition, which it does not use. -/
theorem frameIdealPre : letI := Cert.KernelIdeal.Gen.facts; ∀ [Cert.Pre_sortable.Facts], Cert.quiescent_KernelIdeal_pre_sortable := by
  intro _ m g _
  exact frameAny (F := Ideal) m g

/-- The two prints of the kernel have the same kernel bodies: both are the sorting network's written form. -/
theorem bodies {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => exact (Cert.Kernel.first_eq ..).trans (Cert.KernelIdeal.first_eq ..).symm
  | ⟨1, _⟩, (t, s) => exact (Cert.Kernel.second_eq ..).trans (Cert.KernelIdeal.second_eq ..).symm

/-- So the two prints have the same table of definitions. -/
theorem tables {F : FTy → Type} [FloatOps F] : Cert.Kernel.defs (F := F) = Cert.KernelIdeal.defs (F := F) := by
  unfold Cert.Kernel.defs Cert.KernelIdeal.defs
  exact congrArg (Pipeline.defs Cert.KernelIdeal.pcfgs) bodies

/-- The kernel's own frame, on floats of machine words. -/
theorem frameBits : letI := Cert.Kernel.Gen.facts; Cert.quiescent_Kernel := by
  intro m g _
  rw [tables]
  exact frameAny (F := Bits) m g

/-- The reference's frame: no operation of it writes an argument, and it declares no semaphore. -/
theorem frameRef : letI := Cert.ReferenceIdeal.Gen.facts; Cert.quiescent_ReferenceIdeal := by
  intro m g _
  refine (θ_run _ _ _).mono (fun r hr => ⟨fun c => (hr c).2, sem_eq_zero_of_no_sems (by decide) r.2⟩)
    (Cert.ReferenceIdeal.Value.run m g)

/-- The same under the precondition, which it does not use. -/
theorem frameRefPre : letI := Cert.ReferenceIdeal.Gen.facts; ∀ [Cert.Pre_sortable.Facts], Cert.quiescent_ReferenceIdeal_pre_sortable := by
  intro _ m g _
  refine (θ_run _ _ _).mono (fun r hr => ⟨fun c => (hr c).2, sem_eq_zero_of_no_sems (by decide) r.2⟩)
    (Cert.ReferenceIdeal.Value.run m g)

end Cert.Proof

end
-- ==== Proof.Entry.lean ====
/-
What the sorting network receives: the host's operations before the first region, and the rows it stages.
-/
module

public import proofs.«01_k».proof.Proof.Launched
public import Idealize.ShloMosaic.Lib.ValueIdxCore
public import Idealize.ShloMosaic.Lib.Pipeline.Value

@[expose] public section

set_option maxRecDepth 8192

noncomputable section

namespace Cert.KernelIdeal.Own

open Cert.KernelIdeal Cert.KernelIdeal.Gen Cert.Net
open Idealize.ShloMosaic Idealize.ShloMosaic.TcCoe
open Idealize.ShloMosaic.StableHlo

variable {F : FTy → Type} [FloatOps F]
variable (m : (ℓ : Loc nD τ sig) → Buf (Elt F) ℓ)

/-- The payloads: the targets, the same in every column. -/
theorem V1_pay (c : Dev nD) : V1 m c main_v1 = broadcastInDim S65536x128 ![0, 1] Gen.bcast_S65536x1_S65536x128_0_1
    (broadcastInDim S65536x1 ![0] Gen.bcast_S65536_S65536x1_0 (m ((c : Thread nD τ).loc main_arg5) : FVec F S65536 .f32)) := by
  simp only [V1, hostOps0]
  after_results_simp <;> rfl

/-- The mean's row. -/
theorem V1_mean (c : Dev nD) : V1 m c main_v2 = shapeCast S1x128 (m ((c : Thread nD τ).loc main_arg3) : FVec F S128 .f32) Gen.shapeCasts_S128_S1x128 := by
  simp only [V1, hostOps0]
  after_results_simp <;> rfl

/-- The variance's row. -/
theorem V1_var (c : Dev nD) : V1 m c main_v3 = shapeCast S1x128 (m ((c : Thread nD τ).loc main_arg4) : FVec F S128 .f32) Gen.shapeCasts_S128_S1x128 := by
  simp only [V1, hostOps0]
  after_results_simp <;> rfl

/-- The weight's row. -/
theorem V1_weight (c : Dev nD) : V1 m c main_v4 = shapeCast S1x128 (m ((c : Thread nD τ).loc main_arg1) : FVec F S128 .f32) Gen.shapeCasts_S128_S1x128 := by
  simp only [V1, hostOps0]
  after_results_simp <;> rfl

/-- The bias's row. -/
theorem V1_bias (c : Dev nD) : V1 m c main_v5 = shapeCast S1x128 (m ((c : Thread nD τ).loc main_arg2) : FVec F S128 .f32) Gen.shapeCasts_S128_S1x128 := by
  simp only [V1, hostOps0]
  after_results_simp <;> rfl

omit [FloatOps F] in
/-- A reshaped row's value in a column. -/
theorem colOf_cast (v : FVec F S128 .f32) (h : S128.ShapeCasts S1x128) (q : Fin 128) : colOf (shapeCast S1x128 v h) q.val = v (ValueIdx.ix1 q) := by
  unfold colOf
  refine shapeCast_apply v h _ (ValueIdx.ix1 q) ?_
  rw [Shape.rowMajor_val_two, Shape.rowMajor_val_one]
  show q.val = 0 * 128 + q.val % 128
  have := q.isLt
  omega

omit [FloatOps F] in
/-- A buffer's array at an index. -/
theorem arrOf_at (f : X2.Idx → F .f32) (r : Fin 65536) (q : Fin 128) : arrOf f (r.val, q.val) = f (ValueIdx.ix2 r q) := by
  unfold arrOf
  refine congrArg f (funext fun a => ?_)
  match a with
  | ⟨0, _⟩ => exact Fin.ext (Nat.mod_eq_of_lt r.isLt)
  | ⟨1, _⟩ => exact Fin.ext (Nat.mod_eq_of_lt q.isLt)

/-- The input at an index. -/
theorem inX_at (c : Dev nD) (r : Fin 65536) (q : Fin 128) :
    inX (V1 m) c (r.val, q.val) = (m ((c : Thread nD τ).loc main_arg0) : FVec F S65536x128 .f32) (ValueIdx.ix2 r q) := by
  refine (arrOf_at _ r q).trans ?_
  rw [V1_of m c main_arg0 (by decide)]

/-- A payload at an index. -/
theorem inG_at (c : Dev nD) (r : Fin 65536) (q : Fin 128) :
    inG (V1 m) c (r.val, q.val) = (m ((c : Thread nD τ).loc main_arg5) : FVec F S65536 .f32) (ValueIdx.ix1 r) := by
  refine (arrOf_at _ r q).trans ?_
  rw [V1_pay]
  refine (broadcastInDim_apply (s := S65536x1) (t := S65536x128) ![0, 1] _ _ _ (ValueIdx.ix2 r 0) fun a => ?_).trans
    (broadcastInDim_apply (s := S65536) (t := S65536x1) ![0] _ _ _ (ValueIdx.ix1 r) fun a => ?_)
  · match a with
    | ⟨0, _⟩ => rfl
    | ⟨1, _⟩ => rfl
  · obtain rfl : a = 0 := Subsingleton.elim _ _
    rfl

/-- Every window's first block starts its array. -/
theorem first_block : (∀ a, (cfg0.win 0).index t0_0 a = 0) ∧ (∀ a, (cfg0.win 1).index t0_0 a = 0)
    ∧ (∀ a, (cfg0.win 2).index t0_0 a = 0) ∧ (∀ a, (cfg0.win 3).index t0_0 a = 0) := by
  decide +kernel

/-- The staged rows at a column: the mean, the variance, the weight and the bias. -/
theorem rows_at (c : Dev nD) (q : Fin 128) :
    colOf (rowVals (V1 m) c 0) q.val = (m ((c : Thread nD τ).loc main_arg3) : FVec F S128 .f32) (ValueIdx.ix1 q)
    ∧ colOf (rowVals (V1 m) c 1) q.val = (m ((c : Thread nD τ).loc main_arg4) : FVec F S128 .f32) (ValueIdx.ix1 q)
    ∧ colOf (rowVals (V1 m) c 2) q.val = (m ((c : Thread nD τ).loc main_arg1) : FVec F S128 .f32) (ValueIdx.ix1 q)
    ∧ colOf (rowVals (V1 m) c 3) q.val = (m ((c : Thread nD τ).loc main_arg2) : FVec F S128 .f32) (ValueIdx.ix1 q) := by
  refine ⟨Eq.trans ?_ (colOf_cast (m ((c : Thread nD τ).loc main_arg3) : FVec F S128 .f32) Gen.shapeCasts_S128_S1x128 q),
    Eq.trans ?_ (colOf_cast (m ((c : Thread nD τ).loc main_arg4) : FVec F S128 .f32) Gen.shapeCasts_S128_S1x128 q),
    Eq.trans ?_ (colOf_cast (m ((c : Thread nD τ).loc main_arg1) : FVec F S128 .f32) Gen.shapeCasts_S128_S1x128 q),
    Eq.trans ?_ (colOf_cast (m ((c : Thread nD τ).loc main_arg2) : FVec F S128 .f32) Gen.shapeCasts_S128_S1x128 q)⟩
  · rw [← V1_mean]
    unfold colOf
    exact congrArg (V1 m c main_v2) (funext fun a => Fin.ext ((cfg0.win 0).rect_emb_val_of_index_zero t0_0 a (first_block.1 a) _))
  · rw [← V1_var]
    unfold colOf
    exact congrArg (V1 m c main_v3) (funext fun a => Fin.ext ((cfg0.win 1).rect_emb_val_of_index_zero t0_0 a (first_block.2.1 a) _))
  · rw [← V1_weight]
    unfold colOf
    exact congrArg (V1 m c main_v4) (funext fun a => Fin.ext ((cfg0.win 2).rect_emb_val_of_index_zero t0_0 a (first_block.2.2.1 a) _))
  · rw [← V1_bias]
    unfold colOf
    exact congrArg (V1 m c main_v5) (funext fun a => Fin.ext ((cfg0.win 3).rect_emb_val_of_index_zero t0_0 a (first_block.2.2.2 a) _))

/-- A first-kernel input, key and payload, at an index. -/
theorem keyed_at (c : Dev nD) (r : Fin 65536) (q : Fin 128) :
    keyAt (denOf (colOf (rowVals (V1 m) c 1))) (colOf (rowVals (V1 m) c 0)) (colOf (rowVals (V1 m) c 2)) (colOf (rowVals (V1 m) c 3))
      (fun p => (inX (V1 m) c p, inG (V1 m) c p)) (r.val, q.val)
    = (FloatOps.addf (FloatOps.mulf (FloatOps.divf (FloatOps.subf ((m ((c : Thread nD τ).loc main_arg0) : FVec F S65536x128 .f32) (ValueIdx.ix2 r q))
          ((m ((c : Thread nD τ).loc main_arg3) : FVec F S128 .f32) (ValueIdx.ix1 q)))
        (FloatOps.sqrt (FloatOps.addf ((m ((c : Thread nD τ).loc main_arg4) : FVec F S128 .f32) (ValueIdx.ix1 q)) (Scalar.ofBits .f32 0x3727C5AC#32))))
        ((m ((c : Thread nD τ).loc main_arg1) : FVec F S128 .f32) (ValueIdx.ix1 q))) ((m ((c : Thread nD τ).loc main_arg2) : FVec F S128 .f32) (ValueIdx.ix1 q)),
      (m ((c : Thread nD τ).loc main_arg5) : FVec F S65536 .f32) (ValueIdx.ix1 r)) := by
  obtain ⟨h0, h1, h2, h3⟩ := rows_at m c q
  unfold keyAt denOf
  show (FloatOps.addf (FloatOps.mulf (FloatOps.divf (FloatOps.subf (inX (V1 m) c (r.val, q.val)) _) _) _) _, inG (V1 m) c (r.val, q.val)) = _
  rw [inX_at, inG_at, h0, h1, h2, h3]

end Cert.KernelIdeal.Own
-- ==== Proof.Bitonic.lean ====
/-
The bitonic sorting network on a sequence with values in a linear order: its stages, what they do to
two-valued sequences, and from that what they do to all.
-/
module

public import Mathlib.Order.Lattice
public import Mathlib.Order.BooleanAlgebra.Basic
public import Mathlib.Order.Monotone.Basic
public import Mathlib.Algebra.BigOperators.Group.Finset.Basic
public import Mathlib.Algebra.BigOperators.Intervals
public import Mathlib.Algebra.Order.BigOperators.Group.Finset
public import Mathlib.Tactic.Ring
public import Mathlib.Tactic.Positivity
public import Mathlib.Tactic.WLOG
public import Mathlib.Tactic.SplitIfs
public import Mathlib.Tactic.ByContra

@[expose] public section

namespace Cert.Bitonic

variable {α β : Type} [LinearOrder α] [LinearOrder β]

/-- The place a place is compared with, at distance `j`. -/
def mate (j p : ℕ) : ℕ := if (p / j) % 2 = 1 then p - j else p + j

/-- One step: every pair of places at distance `j` is put in order, ascending where `u` is true. -/
def step (j : ℕ) (u : ℕ → Bool) (a : ℕ → α) (p : ℕ) : α :=
  if (decide ((p / j) % 2 = 1)) = u p then max (a p) (a (mate j p)) else min (a p) (a (mate j p))

/-- The steps at distances `2 ^ (e - 1)`, …, 2, 1. -/
def merge (u : ℕ → Bool) : ℕ → (ℕ → α) → ℕ → α
  | 0, a => a
  | e + 1, a => merge u e (step (2 ^ e) u a)

/-- The directions of the stage of block length `2 ^ e`. -/
def dir (e : ℕ) (p : ℕ) : Bool := decide ((p / 2 ^ e) % 2 = 0)

/-- The stages of block length 2, …, `2 ^ e`. -/
def stages : ℕ → (ℕ → α) → ℕ → α
  | 0, a => a
  | e + 1, a => merge (dir (e + 1)) (e + 1) (stages e a)

/-- A monotone map may be taken before or after a step. -/
theorem step_map {f : α → β} (hf : Monotone f) (j : ℕ) (u : ℕ → Bool) (a : ℕ → α) :
    (fun p => f (step j u a p)) = step j u (fun p => f (a p)) := by
  funext p
  unfold step
  split
  · exact hf.map_max
  · exact hf.map_min

/-- A monotone map may be taken before or after a merge. -/
theorem merge_map {f : α → β} (hf : Monotone f) (u : ℕ → Bool) (e : ℕ) (a : ℕ → α) :
    (fun p => f (merge u e a p)) = merge u e (fun p => f (a p)) := by
  induction e generalizing a with
  | zero => rfl
  | succ e ih => simp only [merge]; rw [ih, step_map hf]

/-- A monotone map may be taken before or after the stages. -/
theorem stages_map {f : α → β} (hf : Monotone f) (e : ℕ) (a : ℕ → α) :
    (fun p => f (stages e a p)) = stages e (fun p => f (a p)) := by
  induction e with
  | zero => rfl
  | succ e ih => simp only [stages]; rw [merge_map hf, ih]

/-- Ascending on the `n` places from `o`. -/
def Up (o n : ℕ) (a : ℕ → α) : Prop := ∀ p q, p ≤ q → q < n → a (o + p) ≤ a (o + q)

/-- Descending on the `n` places from `o`. -/
def Down (o n : ℕ) (a : ℕ → α) : Prop := ∀ p q, p ≤ q → q < n → a (o + q) ≤ a (o + p)

/-- A sequence is ascending once all its two-valued images are. -/
theorem up_of_bool {o n : ℕ} {a : ℕ → α} (h : ∀ f : α → Bool, Monotone f → Up o n (fun p => f (a p))) : Up o n a := by
  intro p q hpq hq
  by_contra hc
  have hf : Monotone (fun x => decide (a (o + p) ≤ x)) := by
    intro x y hxy
    by_cases hx : a (o + p) ≤ x
    · simp [hx, hx.trans hxy]
    · simp [hx]
  have := h _ hf p q hpq hq
  simp [hc] at this
  exact absurd this (by decide)

/-- A sequence is descending once all its two-valued images are. -/
theorem down_of_bool {o n : ℕ} {a : ℕ → α} (h : ∀ f : α → Bool, Monotone f → Down o n (fun p => f (a p))) : Down o n a := by
  intro p q hpq hq
  by_contra hc
  have hf : Monotone (fun x => decide (a (o + q) ≤ x)) := by
    intro x y hxy
    by_cases hx : a (o + q) ≤ x
    · simp [hx, hx.trans hxy]
    · simp [hx]
  have := h _ hf p q hpq hq
  simp [hc] at this
  exact absurd this (by decide)

/-! ### Two-valued sequences -/

/-- The first `n` values are one value on an interval and the other outside it. -/
def Bit (n : ℕ) (a : ℕ → Bool) : Prop :=
  ∃ (s t : ℕ) (c : Bool), ∀ p, p < n → a p = if s ≤ p ∧ p < t then c else !c

theorem bit_const {n : ℕ} {a : ℕ → Bool} {v : Bool} (h : ∀ p, p < n → a p = v) : Bit n a :=
  ⟨0, n, v, fun p hp => by rw [h p hp, if_pos ⟨Nat.zero_le _, hp⟩]⟩

/-- The least and the greatest of each two values half a block apart: one of the two halves is of one value, in its
place, and the other is of the same kind as the block. -/
theorem halves {n : ℕ} {a : ℕ → Bool} (h : Bit (n + n) a) :
    (Bit n (fun p => a p && a (n + p)) ∧ ∀ p, p < n → (a p || a (n + p)) = true)
    ∨ ((∀ p, p < n → (a p && a (n + p)) = false) ∧ Bit n (fun p => a p || a (n + p))) := by
  obtain ⟨s, t, c, h⟩ := h
  -- the interval may be taken to end inside the block
  wlog ht : t ≤ n + n generalizing t
  · exact this (n + n) (fun p hp => by
      rw [h p hp]
      have : (s ≤ p ∧ p < t) ↔ (s ≤ p ∧ p < n + n) := by omega
      simp only [this]) le_rfl
  have h1 : ∀ p, p < n → a p = if s ≤ p ∧ p < t then c else !c := fun p hp => h p (by omega)
  have h2 : ∀ p, p < n → a (n + p) = if s ≤ n + p ∧ n + p < t then c else !c := fun p hp => h _ (by omega)
  by_cases hl : t ≤ s + n
  · -- the interval is no longer than a half
    have key : ∃ s' t' c', ∀ p, p < n →
        ((if s ≤ p ∧ p < t then (true : Bool) else false) || (if s ≤ n + p ∧ n + p < t then true else false))
          = if s' ≤ p ∧ p < t' then c' else !c' := by
      by_cases h3 : t ≤ n
      · exact ⟨s, t, true, fun p hp => by split_ifs <;> first | rfl | omega⟩
      · by_cases h4 : n ≤ s
        · exact ⟨s - n, t - n, true, fun p hp => by split_ifs <;> first | rfl | omega⟩
        · exact ⟨t - n, s, false, fun p hp => by split_ifs <;> first | rfl | omega⟩
    cases c
    · left
      obtain ⟨s', t', c', key⟩ := key
      refine ⟨⟨s', t', !c', fun p hp => ?_⟩, fun p hp => ?_⟩
      · have := key p hp
        show (a p && a (n + p)) = _
        rw [h1 p hp, h2 p hp]
        revert this
        cases c' <;> split_ifs <;> simp
      · rw [h1 p hp, h2 p hp]
        split_ifs <;> first | rfl | omega
    · right
      obtain ⟨s', t', c', key⟩ := key
      refine ⟨fun p hp => ?_, ⟨s', t', c', fun p hp => ?_⟩⟩
      · rw [h1 p hp, h2 p hp]
        split_ifs <;> first | rfl | omega
      · show (a p || a (n + p)) = _
        rw [← key p hp, h1 p hp, h2 p hp]
        rfl
  · cases c
    · right
      refine ⟨fun p hp => ?_, ⟨s, t - n, false, fun p hp => ?_⟩⟩
      · rw [h1 p hp, h2 p hp]
        split_ifs <;> first | rfl | omega
      · show (a p || a (n + p)) = _
        rw [h1 p hp, h2 p hp]
        split_ifs <;> first | rfl | omega
    · left
      refine ⟨⟨s, t - n, true, fun p hp => ?_⟩, fun p hp => ?_⟩
      · show (a p && a (n + p)) = _
        rw [h1 p hp, h2 p hp]
        split_ifs <;> first | rfl | omega
      · rw [h1 p hp, h2 p hp]
        split_ifs <;> first | rfl | omega

/-- An ascending two-valued sequence changes once. -/
theorem up_cut {n : ℕ} {a : ℕ → Bool} (h : ∀ p q, p ≤ q → q < n → a p ≤ a q) :
    ∃ s, ∀ p, p < n → a p = decide (s ≤ p) := by
  induction n with
  | zero => exact ⟨0, fun p hp => by omega⟩
  | succ n ih =>
    obtain ⟨s, hs⟩ := ih fun p q hpq hq => h p q hpq (by omega)
    cases hn : a n
    · refine ⟨n + 1, fun p hp => ?_⟩
      have := h p n (by omega) (by omega)
      rw [hn] at this
      rw [decide_eq_false (by omega)]
      revert this; cases a p <;> decide
    · by_cases hsn : s ≤ n
      · refine ⟨s, fun p hp => ?_⟩
        rcases Nat.lt_or_ge p n with h1 | h1
        · exact hs p h1
        · obtain rfl : p = n := by omega
          rw [hn, decide_eq_true hsn]
      · refine ⟨n, fun p hp => ?_⟩
        rcases Nat.lt_or_ge p n with h1 | h1
        · rw [hs p h1, decide_eq_false (by omega), decide_eq_false (by omega)]
        · obtain rfl : p = n := by omega
          rw [hn, decide_eq_true le_rfl]

/-- A descending two-valued sequence changes once. -/
theorem down_cut {n : ℕ} {a : ℕ → Bool} (h : ∀ p q, p ≤ q → q < n → a q ≤ a p) :
    ∃ s, ∀ p, p < n → a p = decide (p < s) := by
  obtain ⟨s, hs⟩ := up_cut (n := n) (a := fun p => !a p) (fun p q hpq hq => by
    have := h p q hpq hq
    show (!a p) ≤ (!a q)
    revert this
    cases a p <;> cases a q <;> decide)
  refine ⟨s, fun p hp => ?_⟩
  have := hs p hp
  by_cases hsp : s ≤ p
  · rw [decide_eq_true hsp] at this
    rw [decide_eq_false (by omega)]
    simpa using this
  · rw [decide_eq_false hsp] at this
    rw [decide_eq_true (by omega)]
    simpa using this

/-- An ascending half followed by a descending one. -/
theorem bit_of {n : ℕ} {a b : ℕ → Bool} (ha : ∀ p q, p ≤ q → q < n → a p ≤ a q) (hb : ∀ p q, p ≤ q → q < n → b q ≤ b p) :
    Bit (n + n) (fun p => if p < n then a p else b (p - n)) := by
  obtain ⟨s, hs⟩ := up_cut ha
  obtain ⟨t, ht⟩ := down_cut hb
  by_cases hsn : s ≤ n
  · refine ⟨s, n + t, true, fun p hp => ?_⟩
    show (if p < n then a p else b (p - n)) = _
    split
    · next h => rw [hs p h]; split_ifs <;> simp <;> omega
    · next h => rw [ht (p - n) (by omega)]; split_ifs <;> simp <;> omega
  · refine ⟨n, n + t, true, fun p hp => ?_⟩
    show (if p < n then a p else b (p - n)) = _
    split
    · next h => rw [hs p h]; split_ifs <;> simp <;> omega
    · next h => rw [ht (p - n) (by omega)]; split_ifs <;> simp <;> omega

/-! ### A merge sorts -/

/-- A step's values on a block of two times `n` places, all ascending: the least, then the greatest of each pair. -/
theorem step_up {u : ℕ → Bool} {o n : ℕ} {a : ℕ → Bool} (hn : 0 < n) (ho : 2 * n ∣ o) (hu : ∀ p, p < n + n → u (o + p) = true) :
    (∀ p, p < n → step n u a (o + p) = (a (o + p) && a (o + (n + p))))
    ∧ ∀ p, p < n → step n u a (o + (n + p)) = (a (o + p) || a (o + (n + p))) := by
  obtain ⟨k, rfl⟩ := ho
  have d1 : ∀ p, p < n → (2 * n * k + p) / n = 2 * k := fun p hp => by
    rw [show 2 * n * k + p = p + n * (2 * k) by ring, Nat.add_mul_div_left _ _ hn, Nat.div_eq_of_lt hp, Nat.zero_add]
  have d2 : ∀ p, p < n → (2 * n * k + (n + p)) / n = 2 * k + 1 := fun p hp => by
    rw [show 2 * n * k + (n + p) = p + n * (2 * k + 1) by ring, Nat.add_mul_div_left _ _ hn, Nat.div_eq_of_lt hp, Nat.zero_add]
  constructor
  · intro p hp
    have e1 : (2 * k) % 2 = 0 := by omega
    have e2 : 2 * n * k + p + n = 2 * n * k + (n + p) := by omega
    simp only [step, mate, d1 p hp, hu p (by omega), e1, e2, zero_ne_one, if_false, decide_false, Bool.false_eq_true]
    cases a (2 * n * k + p) <;> cases a (2 * n * k + (n + p)) <;> rfl
  · intro p hp
    have e1 : (2 * k + 1) % 2 = 1 := by omega
    have e2 : 2 * n * k + (n + p) - n = 2 * n * k + p := by omega
    simp only [step, mate, d2 p hp, hu (n + p) (by omega), e1, e2, if_true, decide_true]
    cases a (2 * n * k + p) <;> cases a (2 * n * k + (n + p)) <;> rfl

/-- A block of one value stays so. -/
theorem merge_const {u : ℕ → Bool} {v : Bool} (e : ℕ) {o : ℕ} {a : ℕ → Bool} (ho : 2 ^ e ∣ o) (hu : ∀ p, p < 2 ^ e → u (o + p) = true)
    (h : ∀ p, p < 2 ^ e → a (o + p) = v) : ∀ p, p < 2 ^ e → merge u e a (o + p) = v := by
  induction e generalizing o a with
  | zero => exact h
  | succ e ih =>
    have hp : 2 ^ (e + 1) = 2 ^ e + 2 ^ e := by ring
    obtain ⟨s1, s2⟩ := step_up (u := u) (o := o) (n := 2 ^ e) (a := a) (by positivity) (by rwa [← pow_succ']) (by rwa [← hp])
    have hd : 2 ^ e ∣ o := dvd_trans ⟨2, pow_succ 2 e⟩ ho
    intro p hpl
    rw [hp] at hpl
    simp only [merge]
    rcases Nat.lt_or_ge p (2 ^ e) with hlt | hge
    · refine ih (o := o) (a := step (2 ^ e) u a) hd (fun q hq => hu q (by omega)) (fun q hq => ?_) p hlt
      rw [s1 q hq, h q (by omega), h (2 ^ e + q) (by omega), Bool.and_self]
    · obtain ⟨q, rfl⟩ := Nat.exists_eq_add_of_le hge
      rw [← Nat.add_assoc]
      refine ih (o := o + 2 ^ e) (a := step (2 ^ e) u a) (Dvd.dvd.add hd dvd_rfl) (fun r hr => ?_) (fun r hr => ?_) q (by omega)
      · rw [Nat.add_assoc]; exact hu _ (by omega)
      · rw [Nat.add_assoc, s2 r hr, h r (by omega), h (2 ^ e + r) (by omega), Bool.or_self]

/-- A merge with all directions ascending sorts a block that is one value on an interval and the other outside it. -/
theorem merge_up {u : ℕ → Bool} (e : ℕ) {o : ℕ} {a : ℕ → Bool} (ho : 2 ^ e ∣ o) (hu : ∀ p, p < 2 ^ e → u (o + p) = true)
    (h : Bit (2 ^ e) (fun p => a (o + p))) : Up o (2 ^ e) (merge u e a) := by
  induction e generalizing o a with
  | zero =>
    intro p q hpq hq
    obtain rfl : p = q := by simp at hq; omega
    exact le_rfl
  | succ e ih =>
    have hp : 2 ^ (e + 1) = 2 ^ e + 2 ^ e := by ring
    obtain ⟨s1, s2⟩ := step_up (u := u) (o := o) (n := 2 ^ e) (a := a) (by positivity) (by rwa [← pow_succ']) (by rwa [← hp])
    have hd : 2 ^ e ∣ o := dvd_trans ⟨2, pow_succ 2 e⟩ ho
    have hd' : 2 ^ e ∣ o + 2 ^ e := Dvd.dvd.add hd dvd_rfl
    have hu1 : ∀ p, p < 2 ^ e → u (o + p) = true := fun q hq => hu q (by omega)
    have hu2 : ∀ p, p < 2 ^ e → u (o + 2 ^ e + p) = true := fun q hq => by rw [Nat.add_assoc]; exact hu _ (by omega)
    rw [hp] at h
    have hb1 : ∀ {b : ℕ → Bool}, Bit (2 ^ e) b → (∀ q, q < 2 ^ e → step (2 ^ e) u a (o + q) = b q) →
        Bit (2 ^ e) (fun q => step (2 ^ e) u a (o + q)) := by
      rintro b ⟨s, t, c, hb⟩ hq
      exact ⟨s, t, c, fun q hql => (hq q hql).trans (hb q hql)⟩
    have hb2 : ∀ {b : ℕ → Bool}, Bit (2 ^ e) b → (∀ q, q < 2 ^ e → step (2 ^ e) u a (o + (2 ^ e + q)) = b q) →
        Bit (2 ^ e) (fun q => step (2 ^ e) u a (o + 2 ^ e + q)) := by
      rintro b ⟨s, t, c, hb⟩ hq
      exact ⟨s, t, c, fun q hql => by
        show step (2 ^ e) u a (o + 2 ^ e + q) = _
        rw [Nat.add_assoc]; exact (hq q hql).trans (hb q hql)⟩
    -- both halves are sorted, and the first is nowhere above the second
    have key : Up o (2 ^ e) (merge u e (step (2 ^ e) u a)) ∧ Up (o + 2 ^ e) (2 ^ e) (merge u e (step (2 ^ e) u a))
        ∧ ∀ p q, p < 2 ^ e → q < 2 ^ e → merge u e (step (2 ^ e) u a) (o + p) ≤ merge u e (step (2 ^ e) u a) (o + 2 ^ e + q) := by
      rcases halves h with ⟨hl, hc⟩ | ⟨hc, hl⟩
      · have hc' : ∀ q, q < 2 ^ e → step (2 ^ e) u a (o + 2 ^ e + q) = true := fun q hq => by
          rw [Nat.add_assoc, s2 q hq]; exact hc q hq
        refine ⟨ih hd hu1 (hb1 hl s1), ih hd' hu2 (bit_const hc'), fun p q _ hq => ?_⟩
        rw [merge_const e hd' hu2 hc' q hq]
        exact Bool.le_true _
      · have hc' : ∀ q, q < 2 ^ e → step (2 ^ e) u a (o + q) = false := fun q hq => by
          rw [s1 q hq]; exact hc q hq
        refine ⟨ih hd hu1 (bit_const hc'), ih hd' hu2 (hb2 hl s2), fun p q hp _ => ?_⟩
        rw [merge_const e hd hu1 hc' p hp]
        exact Bool.false_le _
    obtain ⟨k1, k2, k3⟩ := key
    intro p q hpq hq
    rw [hp] at hq
    simp only [merge]
    rcases Nat.lt_or_ge q (2 ^ e) with hq1 | hq1
    · exact k1 p q hpq hq1
    · obtain ⟨q, rfl⟩ := Nat.exists_eq_add_of_le hq1
      rw [← Nat.add_assoc]
      rcases Nat.lt_or_ge p (2 ^ e) with hp1 | hp1
      · exact k3 p q hp1 (by omega)
      · obtain ⟨p, rfl⟩ := Nat.exists_eq_add_of_le hp1
        rw [← Nat.add_assoc]
        exact k2 p q (by omega) (by omega)

/-- Turning every direction and every value commutes with a step. -/
theorem step_not (j : ℕ) (u : ℕ → Bool) (a : ℕ → Bool) :
    step j (fun p => !u p) (fun p => !a p) = fun p => !step j u a p := by
  funext p
  simp only [step]
  generalize decide ((p / j) % 2 = 1) = d
  generalize u p = w
  generalize a p = x
  generalize a (mate j p) = y
  cases d <;> cases w <;> cases x <;> cases y <;> rfl

/-- … and with a merge. -/
theorem merge_not (e : ℕ) (u : ℕ → Bool) (a : ℕ → Bool) :
    merge (fun p => !u p) e (fun p => !a p) = fun p => !merge u e a p := by
  induction e generalizing a with
  | zero => rfl
  | succ e ih => simp only [merge]; rw [step_not, ih]

/-- A merge with all directions descending sorts such a block downwards. -/
theorem merge_down {u : ℕ → Bool} (e : ℕ) {o : ℕ} {a : ℕ → Bool} (ho : 2 ^ e ∣ o) (hu : ∀ p, p < 2 ^ e → u (o + p) = false)
    (h : Bit (2 ^ e) (fun p => a (o + p))) : Down o (2 ^ e) (merge u e a) := by
  have h' : Bit (2 ^ e) (fun p => (fun p => !a p) (o + p)) := by
    obtain ⟨s, t, c, h⟩ := h
    refine ⟨s, t, !c, fun p hp => ?_⟩
    show (!a (o + p)) = _
    rw [show a (o + p) = _ from h p hp]
    split_ifs <;> rfl
  have := merge_up (u := fun p => !u p) (a := fun p => !a p) e ho (fun p hp => by rw [hu p hp]; rfl) h'
  rw [merge_not] at this
  intro p q hpq hq
  have := this p q hpq hq
  revert this
  simp only []
  cases merge u e a (o + p) <;> cases merge u e a (o + q) <;> decide

/-- What a merge makes of a block whose first half ascends and whose second half descends. -/
theorem merge_sorts {u : ℕ → Bool} (e : ℕ) {o : ℕ} {a : ℕ → α} (ho : 2 ^ (e + 1) ∣ o)
    (h1 : Up o (2 ^ e) a) (h2 : Down (o + 2 ^ e) (2 ^ e) a) :
    ((∀ p, p < 2 ^ (e + 1) → u (o + p) = true) → Up o (2 ^ (e + 1)) (merge u (e + 1) a))
    ∧ ((∀ p, p < 2 ^ (e + 1) → u (o + p) = false) → Down o (2 ^ (e + 1)) (merge u (e + 1) a)) := by
  have key : ∀ f : α → Bool, Monotone f → Bit (2 ^ (e + 1)) (fun p => (fun p => f (a p)) (o + p)) := by
    intro f hf
    obtain ⟨s, t, c, h⟩ := bit_of (n := 2 ^ e) (a := fun p => f (a (o + p))) (b := fun p => f (a (o + 2 ^ e + p)))
      (fun p q hpq hq => hf (h1 p q hpq hq)) (fun p q hpq hq => hf (h2 p q hpq hq))
    refine ⟨s, t, c, fun p hp => ?_⟩
    rw [← h p (by rw [pow_succ] at hp; omega)]
    show f (a (o + p)) = if p < 2 ^ e then f (a (o + p)) else f (a (o + 2 ^ e + (p - 2 ^ e)))
    split
    · rfl
    · rw [show o + 2 ^ e + (p - 2 ^ e) = o + p by omega]
  constructor
  · intro hu
    refine up_of_bool fun f hf => ?_
    rw [merge_map hf]
    exact merge_up _ ho hu (key f hf)
  · intro hu
    refine down_of_bool fun f hf => ?_
    rw [merge_map hf]
    exact merge_down _ ho hu (key f hf)

/-- After the stages of block length 2, …, `2 ^ e` every block of length `2 ^ e` is sorted, in the block's direction. -/
theorem stages_sorts (e : ℕ) (a : ℕ → α) (k : ℕ) :
    (k % 2 = 0 → Up (2 ^ e * k) (2 ^ e) (stages e a)) ∧ (k % 2 = 1 → Down (2 ^ e * k) (2 ^ e) (stages e a)) := by
  induction e generalizing k with
  | zero =>
    constructor <;> intro _ p q hpq hq <;> (obtain rfl : p = q := by simp at hq; omega) <;> exact le_rfl
  | succ e ih =>
    have h1 : Up (2 ^ (e + 1) * k) (2 ^ e) (stages e a) := by
      have := (ih (2 * k)).1 (by omega)
      rwa [show 2 ^ e * (2 * k) = 2 ^ (e + 1) * k by ring] at this
    have h2 : Down (2 ^ (e + 1) * k + 2 ^ e) (2 ^ e) (stages e a) := by
      have := (ih (2 * k + 1)).2 (by omega)
      rwa [show 2 ^ e * (2 * k + 1) = 2 ^ (e + 1) * k + 2 ^ e by ring] at this
    have hd : ∀ p, p < 2 ^ (e + 1) → (2 ^ (e + 1) * k + p) / 2 ^ (e + 1) = k := fun p hp => by
      rw [Nat.mul_add_div (by positivity), Nat.div_eq_of_lt hp, Nat.add_zero]
    obtain ⟨m1, m2⟩ := merge_sorts (u := dir (e + 1)) e (o := 2 ^ (e + 1) * k) (Dvd.intro _ rfl) h1 h2
    constructor
    · intro hk
      exact m1 fun p hp => by rw [dir, hd p hp, hk]; rfl
    · intro hk
      exact m2 fun p hp => by rw [dir, hd p hp, hk]; rfl

end Cert.Bitonic

end
-- ==== Proof.Counts.lean ====
/-
The bitonic network only moves values: sums over all places stay. And an ascending sequence is known from
such sums.
-/
module

public import proofs.«01_k».proof.Proof.Bitonic

@[expose] public section

namespace Cert.Bitonic

variable {α : Type} [LinearOrder α]

/-- Two mates lie in the same block of two distances. -/
theorem mate_div {j : ℕ} (hj : 0 < j) (p : ℕ) : mate j p / (j * 2) = p / (j * 2) := by
  rw [← Nat.div_div_eq_div_mul, ← Nat.div_div_eq_div_mul]
  unfold mate
  split
  · next h =>
    have hle : j ≤ p := by
      by_contra hc
      rw [Nat.div_eq_of_lt (by omega)] at h
      omega
    obtain ⟨q, rfl⟩ := Nat.exists_eq_add_of_le' hle
    rw [Nat.add_sub_cancel]
    rw [Nat.add_div_right q hj] at h ⊢
    omega
  · next h =>
    rw [Nat.add_div_right p hj]
    omega

/-- The mate of the mate is the place itself, and one of the two is the upper. -/
theorem mate_mate {j : ℕ} (hj : 0 < j) (p : ℕ) :
    mate j (mate j p) = p ∧ (decide ((mate j p / j) % 2 = 1)) = !decide ((p / j) % 2 = 1) := by
  by_cases h : (p / j) % 2 = 1
  · have hle : j ≤ p := by
      by_contra hc
      rw [Nat.div_eq_of_lt (by omega)] at h
      omega
    obtain ⟨q, rfl⟩ := Nat.exists_eq_add_of_le' hle
    have e : mate j (q + j) = q := by rw [mate, if_pos h, Nat.add_sub_cancel]
    rw [Nat.add_div_right q hj] at h ⊢
    have h' : ¬ (q / j) % 2 = 1 := by omega
    rw [e]
    exact ⟨by rw [mate, if_neg h'], by rw [decide_eq_false h', decide_eq_true h]; rfl⟩
  · have e : mate j p = p + j := by rw [mate, if_neg h]
    have h' : ((p + j) / j) % 2 = 1 := by rw [Nat.add_div_right p hj]; omega
    rw [e]
    exact ⟨by rw [mate, if_pos h', Nat.add_sub_cancel], by rw [decide_eq_false h, decide_eq_true h']; rfl⟩

/-- A step leaves the sum of any function over all places as it was. -/
theorem step_sum {j N : ℕ} {u : ℕ → Bool} (hj : 0 < j) (hN : j * 2 ∣ N) (hu : ∀ p, u (mate j p) = u p) (f : α → ℕ) (a : ℕ → α) :
    ∑ p ∈ Finset.range N, f (step j u a p) = ∑ p ∈ Finset.range N, f (a p) := by
  obtain ⟨M, rfl⟩ := hN
  have hm : ∀ p, p ∈ Finset.range (j * 2 * M) → mate j p ∈ Finset.range (j * 2 * M) := by
    intro p hp
    rw [Finset.mem_range] at hp ⊢
    have h2 : 0 < j * 2 := by omega
    rw [Nat.mul_comm, ← Nat.div_lt_iff_lt_mul h2] at hp ⊢
    rwa [mate_div hj]
  have turn : ∀ g : ℕ → ℕ, ∑ p ∈ Finset.range (j * 2 * M), g (mate j p) = ∑ p ∈ Finset.range (j * 2 * M), g p := fun g =>
    Finset.sum_nbij' (mate j) (mate j) hm hm (fun p _ => (mate_mate hj p).1) (fun p _ => (mate_mate hj p).1) (fun _ _ => rfl)
  have pair : ∀ p, f (step j u a p) + f (step j u a (mate j p)) = f (a p) + f (a (mate j p)) := by
    intro p
    obtain ⟨h1, h2⟩ := mate_mate hj p
    simp only [step, h1, h2, hu p]
    rcases le_total (a p) (a (mate j p)) with h | h <;>
      rcases decide ((p / j) % 2 = 1) with _ | _ <;> rcases u p with _ | _ <;> simp [h, Nat.add_comm]
  have h := Finset.sum_congr (rfl : Finset.range (j * 2 * M) = _) fun p _ => pair p
  rw [Finset.sum_add_distrib, Finset.sum_add_distrib, turn (fun p => f (step j u a p)), turn (fun p => f (a p))] at h
  omega

/-- Directions that are the same on whole blocks of length `2 ^ E`. -/
def Blocks (E : ℕ) (u : ℕ → Bool) : Prop := ∀ p q, p / 2 ^ E = q / 2 ^ E → u p = u q

/-- A merge within blocks leaves such sums as they were. -/
theorem merge_sum {e E N : ℕ} {u : ℕ → Bool} (he : e ≤ E) (hN : 2 ^ e ∣ N) (hu : Blocks E u) (f : α → ℕ) (a : ℕ → α) :
    ∑ p ∈ Finset.range N, f (merge u e a p) = ∑ p ∈ Finset.range N, f (a p) := by
  induction e generalizing a with
  | zero => rfl
  | succ e ih =>
    simp only [merge]
    rw [ih (by omega) (dvd_trans ⟨2, pow_succ 2 e⟩ hN), step_sum (by positivity) (by rwa [← pow_succ])]
    intro p
    refine hu _ _ ?_
    obtain ⟨d, rfl⟩ := Nat.exists_eq_add_of_le he
    rw [pow_add, pow_succ, ← Nat.div_div_eq_div_mul, ← Nat.div_div_eq_div_mul _ (2 ^ e * 2), mate_div (by positivity)]

/-- The directions of a stage are the same on its blocks. -/
theorem blocks_dir (e : ℕ) : Blocks e (dir e) := fun p q h => by rw [dir, dir, h]

/-- The stages leave such sums as they were. -/
theorem stages_sum {e N : ℕ} (hN : 2 ^ e ∣ N) (f : α → ℕ) (a : ℕ → α) :
    ∑ p ∈ Finset.range N, f (stages e a p) = ∑ p ∈ Finset.range N, f (a p) := by
  induction e with
  | zero => rfl
  | succ e ih =>
    simp only [stages]
    rw [merge_sum le_rfl hN (blocks_dir _), ih (dvd_trans ⟨2, pow_succ 2 e⟩ hN)]

/-- Two sequences of `n` values, the second after the first. -/
def join (n : ℕ) (a b : ℕ → α) (p : ℕ) : α := if p < n then a p else b (p - n)

/-- The sum over two joined sequences. -/
theorem join_sum (n : ℕ) (f : α → ℕ) (a b : ℕ → α) :
    ∑ p ∈ Finset.range (n + n), f (join n a b p) = ∑ p ∈ Finset.range n, f (a p) + ∑ p ∈ Finset.range n, f (b p) := by
  rw [Finset.sum_range_add]
  refine congrArg₂ (· + ·) (Finset.sum_congr rfl fun p hp => ?_) (Finset.sum_congr rfl fun p _ => ?_)
  · rw [join, if_pos (Finset.mem_range.mp hp)]
  · rw [join, if_neg (by omega), Nat.add_sub_cancel_left]

/-- The least and the greatest of two values, summed. -/
theorem cross_sum (n : ℕ) (f : α → ℕ) (a b : ℕ → α) :
    ∑ p ∈ Finset.range n, f (min (a p) (b p)) + ∑ p ∈ Finset.range n, f (max (b p) (a p))
      = ∑ p ∈ Finset.range n, f (a p) + ∑ p ∈ Finset.range n, f (b p) := by
  rw [← Finset.sum_add_distrib, ← Finset.sum_add_distrib]
  refine Finset.sum_congr rfl fun p _ => ?_
  rcases le_total (a p) (b p) with h | h <;> simp [h, Nat.add_comm]

/-- An ascending and a descending sequence: their least values and their greatest values, each merged, are
together ascending. -/
theorem cross_sorts {e : ℕ} {u : ℕ → Bool} {a b : ℕ → α} (hu : ∀ p, p < 2 ^ e → u p = true)
    (ha : Up 0 (2 ^ e) a) (hb : Down 0 (2 ^ e) b) :
    Up 0 (2 ^ e + 2 ^ e) (join (2 ^ e) (merge u e fun p => min (a p) (b p)) (merge u e fun p => max (b p) (a p))) := by
  refine up_of_bool fun f hf => ?_
  have e1 : (fun p => f (join (2 ^ e) (merge u e fun p => min (a p) (b p)) (merge u e fun p => max (b p) (a p)) p))
      = join (2 ^ e) (merge u e fun p => f (a p) && f (b p)) (merge u e fun p => f (a p) || f (b p)) := by
    have m1 : (fun p => f (merge u e (fun p => min (a p) (b p)) p)) = merge u e fun p => f (a p) && f (b p) := by
      rw [merge_map hf]
      refine congrArg _ (funext fun p => ?_)
      rw [hf.map_min]
      cases f (a p) <;> cases f (b p) <;> rfl
    have m2 : (fun p => f (merge u e (fun p => max (b p) (a p)) p)) = merge u e fun p => f (a p) || f (b p) := by
      rw [merge_map hf]
      refine congrArg _ (funext fun p => ?_)
      rw [hf.map_max]
      cases f (a p) <;> cases f (b p) <;> rfl
    rw [← m1, ← m2]
    funext p
    unfold join
    split <;> rfl
  rw [e1]
  have hB := bit_of (n := 2 ^ e) (a := fun p => f (a p)) (b := fun p => f (b p))
    (fun p q hpq hq => hf (by simpa using ha p q hpq hq)) (fun p q hpq hq => hf (by simpa using hb p q hpq hq))
  have s1 : ∀ p, p < 2 ^ e → (fun p => if p < 2 ^ e then f (a p) else f (b (p - 2 ^ e))) p = f (a p) := fun p hp => if_pos hp
  have s2 : ∀ p, p < 2 ^ e → (fun p => if p < 2 ^ e then f (a p) else f (b (p - 2 ^ e))) (2 ^ e + p) = f (b p) := fun p _ => by
    show (if 2 ^ e + p < 2 ^ e then f (a (2 ^ e + p)) else f (b (2 ^ e + p - 2 ^ e))) = _
    rw [if_neg (by omega), Nat.add_sub_cancel_left]
  have hu0 : ∀ p, p < 2 ^ e → u (0 + p) = true := fun p hp => by rw [Nat.zero_add]; exact hu p hp
  have bits : ∀ {g h : ℕ → Bool}, Bit (2 ^ e) g → (∀ p, p < 2 ^ e → g p = h p) → Bit (2 ^ e) (fun p => h (0 + p)) := by
    rintro g h ⟨s, t, c, hb⟩ hq
    exact ⟨s, t, c, fun q hql => by
      show h (0 + q) = _
      rw [Nat.zero_add, ← hq q hql]; exact hb q hql⟩
  have key : Up 0 (2 ^ e) (merge u e fun p => f (a p) && f (b p)) ∧ Up 0 (2 ^ e) (merge u e fun p => f (a p) || f (b p))
      ∧ ∀ p q, p < 2 ^ e → q < 2 ^ e → merge u e (fun p => f (a p) && f (b p)) p ≤ merge u e (fun p => f (a p) || f (b p)) q := by
    rcases halves hB with ⟨hl, hc⟩ | ⟨hc, hl⟩
    · have hc' : ∀ p, p < 2 ^ e → (f (a p) || f (b p)) = true := fun p hp => by rw [← s1 p hp, ← s2 p hp]; exact hc p hp
      refine ⟨merge_up e (dvd_zero _) hu0 (bits (h := fun p => f (a p) && f (b p)) hl fun p hp => congrArg₂ and (s1 p hp) (s2 p hp)),
        merge_up e (dvd_zero _) hu0 (bit_const (v := true) fun p hp => by
          simp only [Nat.zero_add]; exact hc' p hp), fun p q _ hq => ?_⟩
      have := merge_const (u := u) (v := true) (a := fun p => f (a p) || f (b p)) e (dvd_zero _) hu0
        (fun p hp => by simp only [Nat.zero_add]; exact hc' p hp) q hq
      rw [Nat.zero_add] at this
      rw [this]
      exact Bool.le_true _
    · have hc' : ∀ p, p < 2 ^ e → (f (a p) && f (b p)) = false := fun p hp => by rw [← s1 p hp, ← s2 p hp]; exact hc p hp
      refine ⟨merge_up e (dvd_zero _) hu0 (bit_const (v := false) fun p hp => by
          simp only [Nat.zero_add]; exact hc' p hp),
        merge_up e (dvd_zero _) hu0 (bits (h := fun p => f (a p) || f (b p)) hl fun p hp => congrArg₂ or (s1 p hp) (s2 p hp)), fun p q hp _ => ?_⟩
      have := merge_const (u := u) (v := false) (a := fun p => f (a p) && f (b p)) e (dvd_zero _) hu0
        (fun p hp => by simp only [Nat.zero_add]; exact hc' p hp) p hp
      rw [Nat.zero_add] at this
      rw [this]
      exact Bool.false_le _
  obtain ⟨k1, k2, k3⟩ := key
  intro p q hpq hq
  simp only [Nat.zero_add, join]
  by_cases hq1 : q < 2 ^ e
  · rw [if_pos hq1, if_pos (by omega)]
    simpa using k1 p q hpq hq1
  · rw [if_neg hq1]
    by_cases hp1 : p < 2 ^ e
    · rw [if_pos hp1]
      exact k3 p _ hp1 (by omega)
    · rw [if_neg hp1]
      simpa using k2 (p - 2 ^ e) (q - 2 ^ e) (by omega) (by omega)

/-- Of two ascending sequences with the same sums neither is below the other anywhere. -/
theorem not_lt_of_sums {N : ℕ} {a b : ℕ → α} (ha : Up 0 N a) (hb : Up 0 N b)
    (h : ∀ f : α → ℕ, ∑ p ∈ Finset.range N, f (a p) = ∑ p ∈ Finset.range N, f (b p)) {r : ℕ} (hr : r < N) : ¬ a r < b r := by
  intro hlt
  have h := h fun x => if x ≤ a r then 1 else 0
  have h1 : r + 1 ≤ ∑ p ∈ Finset.range N, (if a p ≤ a r then 1 else 0) := by
    calc r + 1 = ∑ p ∈ Finset.range (r + 1), 1 := by simp
      _ = ∑ p ∈ Finset.range (r + 1), (if a p ≤ a r then 1 else 0) := by
        refine Finset.sum_congr rfl fun p hp => ?_
        rw [Finset.mem_range] at hp
        rw [if_pos (by simpa using ha p r (by omega) hr)]
      _ ≤ _ := Finset.sum_le_sum_of_subset (Finset.range_mono (by omega))
  have h2 : ∑ p ∈ Finset.range N, (if b p ≤ a r then 1 else 0) ≤ r := by
    calc ∑ p ∈ Finset.range N, (if b p ≤ a r then 1 else 0) ≤ ∑ p ∈ Finset.range N, (if p < r then 1 else 0) := by
          refine Finset.sum_le_sum fun p hp => ?_
          rw [Finset.mem_range] at hp
          by_cases hpr : p < r
          · rw [if_pos hpr]; split <;> omega
          · have : b r ≤ b p := by simpa using hb r p (by omega) hp
            rw [if_neg (not_le.mpr (hlt.trans_le this))]
            exact Nat.zero_le _
      _ = ∑ p ∈ Finset.range r, 1 := by
        rw [← Finset.sum_filter]
        refine Finset.sum_congr (Finset.ext fun p => ?_) fun _ _ => rfl
        simp only [Finset.mem_filter, Finset.mem_range]
        omega
      _ = r := by simp
  omega

/-- Two ascending sequences with the same sums are the same. -/
theorem eq_of_sums {N : ℕ} {a b : ℕ → α} (ha : Up 0 N a) (hb : Up 0 N b)
    (h : ∀ f : α → ℕ, ∑ p ∈ Finset.range N, f (a p) = ∑ p ∈ Finset.range N, f (b p)) {r : ℕ} (hr : r < N) : a r = b r :=
  le_antisymm (not_lt.mp (not_lt_of_sums hb ha (fun f => (h f).symm) hr)) (not_lt.mp (not_lt_of_sums ha hb h hr))

end Cert.Bitonic

end
-- ==== Proof.Columns.lean ====
/-
One column of the sorting network's arrays, on extended reals: its steps are those of the bitonic network on
(key, payload) pairs in the dictionary order.
-/
module

public import proofs.«01_k».proof.Proof.Counts
public import proofs.«01_k».proof.Proof.RunC
public import Idealize.ShloMosaic.PureOps.Ideal.Laws
public import Mathlib.Data.Prod.Lex

@[expose] public section

noncomputable section

namespace Cert.Net

open Idealize.ShloMosaic Cert.Bitonic

/-- (key, payload) pairs in the dictionary order. -/
abbrev L := EReal ×ₗ EReal

/-- Column `c` of an array. -/
def col (A : A2 Ideal) (c : ℕ) : ℕ → L := fun r => toLex (A (r, c))

/-- The directions as truth values. -/
def ups (up : ℕ → BitVec 1) : ℕ → Bool := fun r => decide (up r = 1#1)

/-- The comparison of pairs is the dictionary order. -/
theorem lt_eq (a b : V Ideal) : lt a b = bit ((toLex a : L) < toLex b) := by
  unfold lt bit
  show IntOp.ori (Ideal.cmp .olt a.1 b.1) (IntOp.andi (Ideal.cmp .oeq a.1 b.1) (Ideal.cmp .olt a.2 b.2)) = _
  have h : ((toLex a : L) < toLex b) ↔ a.1 < b.1 ∨ a.1 = b.1 ∧ a.2 < b.2 := Prod.Lex.toLex_lt_toLex
  unfold Ideal.cmp
  simp only [h]
  by_cases h1 : a.1 < b.1 <;> by_cases h2 : a.1 = b.1 <;> by_cases h3 : a.2 < b.2 <;> simp [h1, h2, h3] <;> rfl

/-- A word of one bit is 0 or 1. -/
theorem word1 (w : BitVec 1) : w = 0#1 ∨ w = 1#1 := by
  revert w; decide

/-- The pair taken, in the dictionary order. -/
theorem toLex_pick (c : BitVec 1) (a b : V Ideal) : (toLex (pick c a b) : L) = if c = 1#1 then toLex a else toLex b := by
  unfold pick
  split <;> rfl

/-- The step inside tiles, on a column. -/
theorem near_col (j : ℕ) (up : ℕ → BitVec 1) (A : A2 Ideal) (c : ℕ) : col (nearAt j up A) c = Bitonic.step j (ups up) (col A c) := by
  funext r
  unfold col nearAt Bitonic.step ups mate
  simp only [toLex_pick, lt_eq]
  by_cases hl : (r / j) % 2 = 1
  · simp only [hl, if_true, decide_true]
    generalize (toLex (A (r - j, c)) : L) = q
    generalize (toLex (A (r, c)) : L) = p
    rcases word1 (up r) with hu | hu <;> rw [hu] <;> by_cases hlt : q < p
    · simp [bit, hlt, hlt.le, IntOp.xori]
    · simp [bit, hlt, not_lt.mp hlt, IntOp.xori]
    · simp [bit, hlt, hlt.le, IntOp.xori]
    · simp [bit, hlt, not_lt.mp hlt, IntOp.xori]
  · simp only [hl, if_false, decide_false]
    generalize (toLex (A (r + j, c)) : L) = q
    generalize (toLex (A (r, c)) : L) = p
    rcases word1 (up r) with hu | hu <;> rw [hu] <;> by_cases hlt : q < p
    · simp [bit, hlt, hlt.le, IntOp.xori]
    · simp [bit, hlt, not_lt.mp hlt, IntOp.xori]
    · simp [bit, hlt, hlt.le, IntOp.xori]
    · simp [bit, hlt, not_lt.mp hlt, IntOp.xori]

/-- The step between tiles, on a column. -/
theorem far_col (j : ℕ) (up : ℕ → BitVec 1) (A : A2 Ideal) (c : ℕ) : col (farAt j up A) c = Bitonic.step j (ups up) (col A c) := by
  funext r
  unfold col farAt Bitonic.step ups mate
  by_cases hl : (r / j) % 2 = 1
  · simp only [hl, if_true, decide_true, toLex_pick, lt_eq]
    generalize (toLex (A (r - j, c)) : L) = q
    generalize (toLex (A (r, c)) : L) = p
    rcases word1 (up r) with hu | hu <;> rw [hu] <;> by_cases hlt : p < q
    · simp [bit, hlt, hlt.le, IntOp.xori]
    · simp [bit, hlt, not_lt.mp hlt, IntOp.xori]
    · simp [bit, hlt, hlt.le, IntOp.xori]
    · simp [bit, hlt, not_lt.mp hlt, IntOp.xori]
  · simp only [hl, if_false, decide_false, toLex_pick, lt_eq]
    generalize (toLex (A (r + j, c)) : L) = q
    generalize (toLex (A (r, c)) : L) = p
    rcases word1 (up r) with hu | hu <;> rw [hu] <;> by_cases hlt : q < p
    · simp [bit, hlt, hlt.le, IntOp.xori]
    · simp [bit, hlt, not_lt.mp hlt, IntOp.xori]
    · simp [bit, hlt, hlt.le, IntOp.xori]
    · simp [bit, hlt, not_lt.mp hlt, IntOp.xori]

/-- The last six steps of a stage, on a column. -/
theorem finish_col (up : ℕ → BitVec 1) (A : A2 Ideal) (c : ℕ) : col (finishAt up A) c = merge (ups up) 6 (col A c) := by
  simp only [finishAt, near_col, merge]
  rfl

/-- The steps of a stage between tiles and then the last six, on a column. -/
theorem fars_col (up : ℕ → BitVec 1) (n : ℕ) (A : A2 Ideal) (c : ℕ) :
    merge (ups up) 6 (col (farsAt up n A) c) = merge (ups up) (n + 6) (col A c) := by
  induction n generalizing A with
  | zero => rw [Nat.zero_add]; rfl
  | succ n ih =>
    rw [farsAt, ih, far_col, show n + 1 + 6 = (n + 6) + 1 by omega, show (64 : ℕ) * 2 ^ n = 2 ^ (n + 6) by rw [pow_add]; omega]
    rfl

/-- A whole stage, on a column. -/
theorem stage_col (n : ℕ) (flip : BitVec 1) (A : A2 Ideal) (c : ℕ) :
    col (stageAt (n + 6) flip A) c = merge (ups (upAt (2 ^ (n + 6)) flip)) (n + 6) (col A c) := by
  rw [stageAt, finish_col, Nat.add_sub_cancel, fars_col]

/-- The directions of a stage that is not turned. -/
theorem ups_dir (e : ℕ) : ups (upAt (2 ^ e) 0#1) = Bitonic.dir e := by
  funext r
  unfold ups upAt Bitonic.dir bit
  by_cases h : (r / 2 ^ e) % 2 = 0 <;> simp [h, IntOp.xori]

/-- The stages inside tiles, on a column. -/
theorem tiles_col (A : A2 Ideal) (c : ℕ) : col (tileSortAt A) c = stages 6 (col A c) := by
  have h1 : ups (upAt 2 0#1) = Bitonic.dir 1 := ups_dir 1
  have h2 : ups (upAt 4 0#1) = Bitonic.dir 2 := ups_dir 2
  have h3 : ups (upAt 8 0#1) = Bitonic.dir 3 := ups_dir 3
  have h4 : ups (upAt 16 0#1) = Bitonic.dir 4 := ups_dir 4
  have h5 : ups (upAt 32 0#1) = Bitonic.dir 5 := ups_dir 5
  have h6 : ups (upAt 64 0#1) = Bitonic.dir 6 := ups_dir 6
  simp only [tileSortAt, tileSortUp, finish_col, near_col, h1, h2, h3, h4, h5, h6, stages, merge]
  rfl

/-- The stages up to block length 16384, on a column. -/
theorem stages14_col (A : A2 Ideal) (c : ℕ) : col (stages14 (tileSortAt A)) c = stages 14 (col A c) := by
  have h : ∀ n (B : A2 Ideal), col (stageAt (n + 6) 0#1 B) c = merge (Bitonic.dir (n + 6)) (n + 6) (col B c) := fun n B => by
    rw [stage_col, ups_dir]
  rw [stages14, h 8, h 7, h 6, h 5, h 4, h 3, h 2, h 1, tiles_col]
  rfl

/-- The step between the halves, on a column: the least of each two, -/
theorem cross_lo (X Y : A2 Ideal) (c : ℕ) : col (crossAt 0#1 X Y) c = fun r => min (col X c r) (col Y c r) := by
  funext r
  unfold col crossAt
  simp only [toLex_pick, lt_eq]
  generalize (toLex (X (r, c)) : L) = p
  generalize (toLex (Y (r, c)) : L) = q
  by_cases hlt : q < p
  · simp [bit, hlt, hlt.le, IntOp.xori]
  · simp [bit, hlt, not_lt.mp hlt, IntOp.xori]

/-- and the greatest. -/
theorem cross_hi (X Y : A2 Ideal) (c : ℕ) : col (crossAt 1#1 X Y) c = fun r => max (col X c r) (col Y c r) := by
  funext r
  unfold col crossAt
  simp only [toLex_pick, lt_eq]
  generalize (toLex (X (r, c)) : L) = p
  generalize (toLex (Y (r, c)) : L) = q
  by_cases hlt : q < p
  · simp [bit, hlt, hlt.le, IntOp.xori]
  · simp [bit, hlt, not_lt.mp hlt, IntOp.xori]

/-- What the first kernel makes of a half, before its keys are known. -/
def sortHalf (i : ℕ) (X : A2 Ideal) : A2 Ideal := stageAt 15 (flipOf i) (stages14 (tileSortAt X))

theorem sortHalf_col (i : ℕ) (X : A2 Ideal) (c : ℕ) :
    col (sortHalf i X) c = merge (ups (upAt (2 ^ 15) (flipOf i))) 15 (stages 14 (col X c)) := by
  rw [sortHalf, show (15 : ℕ) = 9 + 6 from rfl, stage_col, stages14_col]

theorem lastC_col (i : ℕ) (J : A2 Ideal) (c : ℕ) :
    col (lastC i J) c = merge (Bitonic.dir 16) 15 (col (crossAt (flipOf i) (halfOf i J) (halfOf (1 - i) J)) c) := by
  rw [lastC, finish_col, fars_col, ups_dir]

/-- The first half ends ascending, the second descending, -/
theorem sortHalf_sorts (X : A2 Ideal) (c : ℕ) :
    Up 0 (2 ^ 15) (col (sortHalf 0 X) c) ∧ Down 0 (2 ^ 15) (col (sortHalf 1 X) c) := by
  have h1 : Up 0 (2 ^ 14) (stages 14 (col X c)) := by simpa using (stages_sorts 14 (col X c) 0).1 rfl
  have h2 : Down (0 + 2 ^ 14) (2 ^ 14) (stages 14 (col X c)) := by simpa using (stages_sorts 14 (col X c) 1).2 rfl
  have hd : ∀ p, p < 2 ^ 15 → (0 + p) / 2 ^ 15 % 2 = 0 := fun p hp => by rw [Nat.zero_add, Nat.div_eq_of_lt hp]
  rw [sortHalf_col, sortHalf_col]
  constructor
  · refine (merge_sorts 14 (dvd_zero _) h1 h2).1 fun p hp => ?_
    unfold ups upAt bit
    rw [decide_eq_true (hd p hp)]
    decide
  · refine (merge_sorts 14 (dvd_zero _) h1 h2).2 fun p hp => ?_
    unfold ups upAt bit
    rw [decide_eq_true (hd p hp)]
    decide

/-- and either with the values it began with. -/
theorem sortHalf_sum (i : ℕ) (X : A2 Ideal) (c : ℕ) (f : L → ℕ) :
    ∑ p ∈ Finset.range (2 ^ 15), f (col (sortHalf i X) c p) = ∑ p ∈ Finset.range (2 ^ 15), f (col X c p) := by
  rw [sortHalf_col, merge_sum (E := 15) le_rfl dvd_rfl, stages_sum (e := 14) (N := 2 ^ 15) ⟨2, by norm_num⟩]
  intro p q h
  unfold ups upAt
  rw [h]

/-- What the second kernel makes of the two halves: ascending from the first row to the last, -/
theorem whole_sorts {J : A2 Ideal} {X Y : A2 Ideal} {c : ℕ}
    (hX : ∀ r, r < 2 ^ 15 → halfOf 0 J (r, c) = sortHalf 0 X (r, c)) (hY : ∀ r, r < 2 ^ 15 → halfOf 1 J (r, c) = sortHalf 1 Y (r, c)) :
    Up 0 (2 ^ 15 + 2 ^ 15) (join (2 ^ 15) (col (lastC 0 J) c) (col (lastC 1 J) c)) := by
  rw [lastC_col, lastC_col, show flipOf 0 = 0#1 by decide, show flipOf 1 = 1#1 by decide, cross_lo, cross_hi]
  refine cross_sorts (a := col (halfOf 0 J) c) (b := col (halfOf 1 J) c) (fun p hp => ?_) ?_ ?_
  · unfold Bitonic.dir
    rw [Nat.div_eq_of_lt (hp.trans (by decide))]
    rfl
  · intro p q hpq hq
    have := (sortHalf_sorts X c).1 p q hpq hq
    rw [Nat.zero_add, Nat.zero_add] at this ⊢
    unfold col at this ⊢
    rwa [hX p (by omega), hX q hq]
  · intro p q hpq hq
    have := (sortHalf_sorts Y c).2 p q hpq hq
    rw [Nat.zero_add, Nat.zero_add] at this ⊢
    unfold col at this ⊢
    rwa [hY p (by omega), hY q hq]

/-- with the values the halves began with. -/
theorem whole_sum {J : A2 Ideal} {X Y : A2 Ideal} {c : ℕ}
    (hX : ∀ r, r < 2 ^ 15 → halfOf 0 J (r, c) = sortHalf 0 X (r, c)) (hY : ∀ r, r < 2 ^ 15 → halfOf 1 J (r, c) = sortHalf 1 Y (r, c))
    (f : L → ℕ) :
    ∑ p ∈ Finset.range (2 ^ 15 + 2 ^ 15), f (join (2 ^ 15) (col (lastC 0 J) c) (col (lastC 1 J) c) p)
      = ∑ p ∈ Finset.range (2 ^ 15 + 2 ^ 15), f (join (2 ^ 15) (col X c) (col Y c) p) := by
  have hd : Blocks 16 (Bitonic.dir 16) := blocks_dir 16
  rw [join_sum, join_sum, lastC_col, lastC_col, show flipOf 0 = 0#1 by decide, show flipOf 1 = 1#1 by decide, cross_lo, cross_hi,
    merge_sum (E := 16) (by omega) dvd_rfl hd, merge_sum (E := 16) (by omega) dvd_rfl hd]
  refine (cross_sum (2 ^ 15) f (col (halfOf 0 J) c) (col (halfOf 1 J) c)).trans ?_
  rw [← sortHalf_sum 0 X c f, ← sortHalf_sum 1 Y c f]
  refine congrArg₂ (· + ·) (Finset.sum_congr rfl fun p hp => ?_) (Finset.sum_congr rfl fun p hp => ?_)
  · unfold col
    rw [hX p (Finset.mem_range.mp hp)]
  · unfold col
    rw [hY p (Finset.mem_range.mp hp)]

end Cert.Net

end
-- ==== Proof.Stable.lean ====
/-
A stable sort of positions by a key puts them in the order of the key, positions of equal keys in their own order.
-/
module

public import Idealize.ShloMosaic.Lib.SortFacts
public import Mathlib.Order.Fin.Basic

@[expose] public section

namespace Cert.Stable

open Idealize.ShloMosaic

variable {n : ℕ} {κ : Type} [LinearOrder κ]

/-- Position `a` may stand before position `b`: its key is smaller, or the keys agree and `a` comes first. -/
def Ahead (key : Fin n → κ) (a b : Fin n) : Prop := key a < key b ∨ key a = key b ∧ a < b

/-- A position inserted into later ones that are in order leaves them in order. -/
theorem insert_ahead (key : Fin n → κ) (R : Fin n → Fin n → Bool) (hR : ∀ a b, R a b = decide (key a < key b))
    (a : Fin n) (l : List (Fin n)) (hl : l.Pairwise (Ahead key)) (ha : ∀ b ∈ l, a < b) :
    (insertBefore R a l).Pairwise (Ahead key) := by
  induction l with
  | nil => exact List.pairwise_singleton _ _
  | cons b l ih =>
    obtain ⟨hb, hl'⟩ := List.pairwise_cons.mp hl
    unfold insertBefore
    split
    · rename_i h
      rw [hR, decide_eq_true_eq] at h
      refine List.pairwise_cons.mpr ⟨fun x hx => ?_, ih hl' fun y hy => ha y (List.mem_cons_of_mem _ hy)⟩
      rcases List.mem_cons.mp ((perm_insertBefore R a l).mem_iff.mp hx) with rfl | hx
      · exact Or.inl h
      · exact hb x hx
    · rename_i h
      rw [hR, decide_eq_true_eq, not_lt] at h
      refine List.pairwise_cons.mpr ⟨fun x hx => ?_, hl⟩
      have hle : key a ≤ key x := by
        rcases List.mem_cons.mp hx with rfl | hx
        · exact h
        · rcases hb x hx with h' | h'
          · exact h.trans h'.le
          · exact h.trans h'.1.le
      rcases hle.lt_or_eq with h' | h'
      · exact Or.inl h'
      · exact Or.inr ⟨h', ha x hx⟩

/-- Sorting positions that come in their own order puts them in the order of the key. -/
theorem sort_ahead (key : Fin n → κ) (R : Fin n → Fin n → Bool) (hR : ∀ a b, R a b = decide (key a < key b))
    (l : List (Fin n)) (hl : l.Pairwise (· < ·)) : (stableSort R l).Pairwise (Ahead key) := by
  induction l with
  | nil => exact List.Pairwise.nil
  | cons a l ih =>
    obtain ⟨ha, hl'⟩ := List.pairwise_cons.mp hl
    unfold stableSort
    exact insert_ahead key R hR a _ (ih hl') fun b hb => ha b ((perm_stableSort R l).mem_iff.mp hb)

/-- The position sorted to place `i` may stand before the one sorted to a later place. -/
theorem sorted_ahead (key : Fin n → κ) (R : Fin n → Fin n → Bool) (hR : ∀ a b, R a b = decide (key a < key b))
    (i j : Fin n) (hij : i < j) : Ahead key (sortedFrom R i) (sortedFrom R j) :=
  List.pairwise_iff_get.mp (sort_ahead key R hR (List.finRange n) (List.pairwise_lt_finRange n)) _ _ hij

end Cert.Stable
-- ==== Proof.Argsort.lean ====
/-
An ascending list of (key, target) pairs that holds each pair as often as a given list does is the given list taken
in the stable order of its keys, the targets never decreasing.
-/
module

public import proofs.«01_k».proof.Proof.Columns
public import proofs.«01_k».proof.Proof.Stable
public import Mathlib.Algebra.BigOperators.Fin

@[expose] public section

noncomputable section

namespace Cert.Net

open Idealize.ShloMosaic Cert.Bitonic Finset

/-- The ascending list, element by element. -/
theorem argsort_eq {N : ℕ} (A O : ℕ → L) (T g : Fin N → EReal) (hA : ∀ i : Fin N, A i.val = toLex (T i, g i))
    (hO : Up 0 N O) (hs : ∀ f : L → ℕ, ∑ p ∈ range N, f (O p) = ∑ p ∈ range N, f (A p))
    (hg : ∀ a b : Fin N, a ≤ b → g a ≤ g b) (i : Fin N) :
    O i.val = toLex (T (sortedFrom (fun k k' => decide (T k < T k')) i), g (sortedFrom (fun k k' => decide (T k < T k')) i)) := by
  obtain ⟨σ, hσ⟩ : ∃ σ : Fin N → Fin N, σ = sortedFrom (fun k k' => decide (T k < T k')) := ⟨_, rfl⟩
  have ahead : ∀ i j : Fin N, i < j → Stable.Ahead T (σ i) (σ j) := by
    intro i j hij
    rw [hσ]
    exact Stable.sorted_ahead T _ (fun _ _ => rfl) i j hij
  have bij : Function.Bijective σ := by
    rw [hσ]
    exact ⟨sortedFrom_injective _, sortedFrom_surjective _⟩
  rw [← hσ]
  obtain ⟨B, hB⟩ : ∃ B : ℕ → L, ∀ i : Fin N, B i.val = toLex (T (σ i), g (σ i)) :=
    ⟨fun r => if h : r < N then toLex (T (σ ⟨r, h⟩), g (σ ⟨r, h⟩)) else toLex (0, 0), fun i => dif_pos i.isLt⟩
  have up : Up 0 N B := by
    intro p q hpq hq
    rw [Nat.zero_add, Nat.zero_add]
    rcases hpq.eq_or_lt with rfl | hlt
    · exact le_refl _
    · have e1 := hB ⟨p, by omega⟩
      have e2 := hB ⟨q, hq⟩
      show B (⟨p, by omega⟩ : Fin N).val ≤ B (⟨q, hq⟩ : Fin N).val
      rw [e1, e2, Prod.Lex.toLex_le_toLex]
      rcases ahead ⟨p, by omega⟩ ⟨q, hq⟩ hlt with h | h
      · exact Or.inl h
      · exact Or.inr ⟨h.1, hg _ _ h.2.le⟩
  have sum : ∀ f : L → ℕ, ∑ p ∈ range N, f (O p) = ∑ p ∈ range N, f (B p) := by
    intro f
    rw [hs f, Finset.sum_range, Finset.sum_range]
    simp only [hA, hB]
    exact (bij.sum_comp fun i => f (toLex (T i, g i))).symm
  rw [eq_of_sums hO up sum i.isLt, hB]

end Cert.Net
-- ==== Proof.Result.lean ====
/-
What the kernel's result holds, by column: the payloads of one ascending list of (key, payload) pairs.
-/
module

public import proofs.«01_k».proof.Proof.Entry
public import proofs.«01_k».proof.Proof.Argsort

@[expose] public section

noncomputable section

namespace Cert.KernelIdeal.Own

open Cert.KernelIdeal Cert.KernelIdeal.Gen Cert.Net Cert.Bitonic
open Idealize.ShloMosaic Idealize.ShloMosaic.TcCoe

/-- Two halves put one after the other. -/
theorem put_put {α : Type} (W : ℕ → ℕ × ℕ → α) (A : ℕ × ℕ → α) (r q : ℕ) (hr : r < 65536) :
    put 32768 (1 * 32768) (W 1) (put 32768 (0 * 32768) (W 0) A) (r, q) = if r < 32768 then W 0 (r, q) else W 1 (r - 32768, q) := by
  unfold put
  by_cases h : r < 32768
  · rw [if_neg (by show ¬(1 * 32768 ≤ r ∧ r < 1 * 32768 + 32768); omega),
      if_pos (by show 0 * 32768 ≤ r ∧ r < 0 * 32768 + 32768; omega), if_pos h]
    rfl
  · rw [if_pos (by show 1 * 32768 ≤ r ∧ r < 1 * 32768 + 32768; omega), if_neg h]

/-- An array stored in a buffer and read back. -/
theorem arrOf_bufOf {F : FTy → Type} (A : ℕ × ℕ → F .f32) (r q : ℕ) (hr : r < 65536) (hq : q < 128) :
    arrOf (bufOf A) (r, q) = A (r, q) :=
  congrArg A (Prod.ext (Nat.mod_eq_of_lt hr) (Nat.mod_eq_of_lt hq))

variable (m : (ℓ : Loc nD τ sig) → Buf (Elt Ideal) ℓ)

/-- The first kernel's (key, payload) pairs before sorting. -/
def keyed (c : Dev nD) : A2 Ideal :=
  keyAt (denOf (colOf (rowVals (V1 m) c 1))) (colOf (rowVals (V1 m) c 0)) (colOf (rowVals (V1 m) c 2)) (colOf (rowVals (V1 m) c 3))
    (fun p => (inX (V1 m) c p, inG (V1 m) c p))

/-- What the second kernel receives: the two halves as the first left them. -/
theorem between (c : Dev nD) (r q : ℕ) (hr : r < 65536) (hq : q < 128) :
    inJ (W2 m) c (r, q) = if r < 32768 then half0 (V1 m) c 0 (r, q) else half0 (V1 m) c 1 (r - 32768, q) := by
  have e0 : arrOf (W2 m c main_v6_0) (r, q) = if r < 32768 then (half0 (V1 m) c 0 (r, q)).1 else (half0 (V1 m) c 1 (r - 32768, q)).1 := by
    rw [W2_keys]
    exact (arrOf_bufOf _ r q hr hq).trans (put_put (fun n p => (half0 (V1 m) c n p).1) _ r q hr)
  have e1 : arrOf (W2 m c main_v6_1) (r, q) = if r < 32768 then (half0 (V1 m) c 0 (r, q)).2 else (half0 (V1 m) c 1 (r - 32768, q)).2 := by
    rw [W2_pays]
    exact (arrOf_bufOf _ r q hr hq).trans (put_put (fun n p => (half0 (V1 m) c n p).2) _ r q hr)
  refine (congrArg₂ Prod.mk e0 e1).trans ?_
  by_cases h : r < 32768
  · rw [if_pos h, if_pos h, if_pos h]
  · rw [if_neg h, if_neg h, if_neg h]

/-- The first half received. -/
theorem low_half (c : Dev nD) (q : ℕ) (hq : q < 128) (r : ℕ) (hr : r < 2 ^ 15) :
    halfOf 0 (inJ (W2 m) c) (r, q) = sortHalf 0 (halfOf 0 (keyed m c)) (r, q) := by
  have h : halfOf 0 (inJ (W2 m) c) (r, q) = inJ (W2 m) c (0 * 32768 + r, q) := rfl
  rw [h, between m c _ q (by omega) hq, if_pos (by omega), Nat.zero_mul, Nat.zero_add]
  rfl

/-- The second half received. -/
theorem high_half (c : Dev nD) (q : ℕ) (hq : q < 128) (r : ℕ) (hr : r < 2 ^ 15) :
    halfOf 1 (inJ (W2 m) c) (r, q) = sortHalf 1 (halfOf 1 (keyed m c)) (r, q) := by
  have h : halfOf 1 (inJ (W2 m) c) (r, q) = inJ (W2 m) c (1 * 32768 + r, q) := rfl
  rw [h, between m c _ q (by omega) hq, if_neg (by omega), show 1 * 32768 + r - 32768 = r by omega]
  rfl

/-- The pairs by column, in the order the second kernel leaves them. -/
def sorted (c : Dev nD) (q : ℕ) : ℕ → Net.L := join (2 ^ 15) (col (lastC 0 (inJ (W2 m) c)) q) (col (lastC 1 (inJ (W2 m) c)) q)

/-- They ascend. -/
theorem sorted_up (c : Dev nD) (q : ℕ) (hq : q < 128) : Up 0 65536 (sorted m c q) :=
  whole_sorts (low_half m c q hq) (high_half m c q hq)

/-- The two halves of a column, joined, are the column. -/
theorem join_halves (A : A2 Ideal) (q p : ℕ) : join (2 ^ 15) (col (halfOf 0 A) q) (col (halfOf 1 A) q) p = col A q p := by
  unfold join
  by_cases h : p < 2 ^ 15
  · rw [if_pos h]
    show toLex (A (0 * 32768 + p, q)) = toLex (A (p, q))
    rw [Nat.zero_mul, Nat.zero_add]
  · rw [if_neg h]
    show toLex (A (1 * 32768 + (p - 2 ^ 15), q)) = toLex (A (p, q))
    rw [show 1 * 32768 + (p - 2 ^ 15) = p by omega]

/-- Each pair is there as often as before. -/
theorem sorted_sum (c : Dev nD) (q : ℕ) (hq : q < 128) (f : Net.L → ℕ) :
    ∑ p ∈ Finset.range 65536, f (sorted m c q p) = ∑ p ∈ Finset.range 65536, f (col (keyed m c) q p) := by
  refine (whole_sum (low_half m c q hq) (high_half m c q hq) f).trans ?_
  exact Finset.sum_congr rfl fun p _ => congrArg f (join_halves _ q p)

/-- The result's elements are their payloads. -/
theorem result_at (c : Dev nD) (r q : ℕ) (hr : r < 65536) :
    res1 (W2 m) c 2 (r, q) = (ofLex (sorted m c q r)).2 := by
  refine (put_put (fun n p => (lastC n (inJ (W2 m) c) p).2) _ r q hr).trans ?_
  unfold sorted join
  by_cases h : r < 32768
  · rw [if_pos h, if_pos (by omega)]
    rfl
  · rw [if_neg h, if_neg (by omega)]
    rfl

end Cert.KernelIdeal.Own
-- ==== Proof.Ref.lean ====
/-
What the reference's operations leave at one element: after the sort of the keys along the rows, the target at
the sorted row.
-/
module

public import proofs.«01_k».proof.Proof.Stable
public import proofs.«01_k».proof.Proof.Gen.ReferenceIdeal.Run
public import Idealize.ShloMosaic.Lib.ValueIdxCore
public import Idealize.ShloMosaic.Lib.IdealHost
public import Idealize.ShloMosaic.Lib.ReduceAll
public import Idealize.ShloMosaic.Lib.Pipeline.Value
public import Idealize.ShloMosaic.PureOps.Ideal.Laws

@[expose] public section

noncomputable section

namespace Cert.ReferenceIdeal.Value

open Idealize.ShloMosaic Idealize.ShloMosaic.ValueIdx Cert.ReferenceIdeal.Facts₀

/-- The sort's comparison of two (key, row) pairs is the order of the keys. -/
theorem compare_eq (l r : Ideal .f32 × BitVec 32) :
    comparator_f32_i32_d0 (F := Ideal) l r = BitVec.ofBool (decide ((l.1 : EReal) < r.1)) := by
  have keep : ∀ z o x : EReal, Scalar.select (Ideal.cmp .une x x) z (Scalar.select (Ideal.cmp .oeq x o) o x) = x := by
    intro z o x
    unfold Scalar.select Ideal.cmp
    by_cases h : x = o <;> simp [h]
  show Ideal.cmp .olt (Scalar.select _ _ (Scalar.select _ _ _)) (Scalar.select _ _ (Scalar.select _ _ _)) = _
  exact congrArg₂ (Ideal.cmp .olt) (keep _ _ _) (keep _ _ _)

/-- The normalized input. -/
def keys [Facts] (x : FVec Ideal S65536x128 .f32) (w b mean var : FVec Ideal S128 .f32) : FVec Ideal S65536x128 .f32 :=
  addf (mulf (Host.divf (subf x (broadcastInDim S65536x128 ![0, 1] bcast_S1x128_S65536x128_0_1 (broadcastInDim S1x128 ![1] bcast_S128_S1x128_1 mean))) (broadcastInDim S65536x128 ![0, 1] bcast_S1x128_S65536x128_0_1 (Host.sqrt (addf (broadcastInDim S1x128 ![1] bcast_S128_S1x128_1 var) (broadcastInDim S1x128 ![] bcast_S_S1x128 (constant S_ .f32 0x3727C5AC#32)))))) (broadcastInDim S65536x128 ![0, 1] bcast_S1x128_S65536x128_0_1 (broadcastInDim S1x128 ![1] bcast_S128_S1x128_1 w))) (broadcastInDim S65536x128 ![0, 1] bcast_S1x128_S65536x128_0_1 (broadcastInDim S1x128 ![1] bcast_S128_S1x128_1 b))

/-- The rows in the order of the keys. -/
def order (K : FVec Ideal S65536x128 .f32) : IVec S65536x128 32 :=
  (Host.sort2 S65536x128 0 (comparator_f32_i32_d0 (F := Ideal)) K (iotaInDim S65536x128 32 0)).2

/-- A negative row counted from the end. -/
def wrap [Facts] (S : IVec S65536x128 32) : IVec S65536x128 32 :=
  select (cmpi .slt S (broadcastInDim S65536x128 ![] bcast_S_S65536x128 (constantI S_ 32 0#32))) (addi S (broadcastInDim S65536x128 ![] bcast_S_S65536x128 (constantI S_ 32 65536#32))) S

/-- The targets at the rows `I`, rows out of range marked. -/
def take [Facts] (g : FVec Ideal S65536 .f32) (I : IVec S65536x128 32) : FVec Ideal S65536x128 .f32 :=
  select (Host.reduce IntOp.andi (andi (cmpi .sge (broadcastInDim S65536x128x1 ![0, 1] bcast_S65536x128_S65536x128x1_0_1 I) (broadcastInDim S65536x128x1 ![] bcast_S_S65536x128x1 (constantI S_ 32 0#32))) (cmpi .sle (broadcastInDim S65536x128x1 ![0, 1] bcast_S65536x128_S65536x128x1_0_1 I) (broadcastInDim S65536x128x1 ![0, 1, 2] bcast_S1x1x1_S65536x128x1_0_1_2 (broadcastInDim S1x1x1 ![2] bcast_S1_S1x1x1_2 (constantI S1 32 65535#32))))) (constantI S_ 1 1#1) reducesTo_S65536x128x1_S65536x128_d2 h_S_) (Host.gather gather_S65536_S65536x128x1_S65536x128_n_0_n_n_0_2_1 g (broadcastInDim S65536x128x1 ![0, 1] bcast_S65536x128_S65536x128x1_0_1 I)) (broadcastInDim S65536x128 ![] bcast_S_S65536x128 (constant S_ .f32 0x7FC00000#32))

/-- The reference's result, operation by operation. -/
theorem res_eq [Facts] (m : (ℓ : Loc nD τ sig) → Buf (Elt Ideal) ℓ) (c : Dev nD)
    (x : FVec Ideal S65536x128 .f32) (w b mean var : FVec Ideal S128 .f32) (g : FVec Ideal S65536 .f32)
    (hx : m ((c.tc : Thread nD τ).loc main_arg0) = x) (hw : m ((c.tc : Thread nD τ).loc main_arg1) = w)
    (hb : m ((c.tc : Thread nD τ).loc main_arg2) = b) (hm : m ((c.tc : Thread nD τ).loc main_arg3) = mean)
    (hv : m ((c.tc : Thread nD τ).loc main_arg4) = var) (hg : m ((c.tc : Thread nD τ).loc main_arg5) = g) :
    res_main_v18 m c = addf (keys x w b mean var) (subf (take g (wrap (order (keys x w b mean var)))) (keys x w b mean var)) := by
  subst hx hw hb hm hv hg
  rfl

/-- The second operand of a sort of two, at an element. -/
theorem sort2_snd {s : Shape} {d : ℕ} {α β : Type} (cmp : α × β → α × β → BitVec 1) (x : s.Idx → α) (y : s.Idx → β)
    (h : d < s.rank) (j : s.Idx) :
    (Host.sort2 s d cmp x y).2 j = y (j.along ⟨d, h⟩ (sortedFrom (fun k k' =>
      cmp (x (j.along ⟨d, h⟩ k), y (j.along ⟨d, h⟩ k)) (x (j.along ⟨d, h⟩ k'), y (j.along ⟨d, h⟩ k')) == 1#1) (j ⟨d, h⟩))) := by
  unfold Host.sort2
  rw [dif_pos h]

/-- The row sorted to row `r` of column `c`. -/
def from' {R C : ℕ} (K : (⟨2, ![R, C]⟩ : Shape).Idx → EReal) (c : Fin C) : Fin R → Fin R :=
  sortedFrom fun k k' => decide (K (ix2 k c) < K (ix2 k' c))

/-- Row numbers sorted with their keys: the row at an element. -/
theorem rows_sorted {R C : ℕ} (cmp : EReal × BitVec 32 → EReal × BitVec 32 → BitVec 1)
    (hc : ∀ l r, cmp l r = BitVec.ofBool (decide (l.1 < r.1)))
    (K : (⟨2, ![R, C]⟩ : Shape).Idx → EReal) (r : Fin R) (c : Fin C) :
    (Host.sort2 ⟨2, ![R, C]⟩ 0 cmp K (iotaInDim ⟨2, ![R, C]⟩ 32 0)).2 (ix2 r c) = BitVec.ofNat 32 (from' K c r).val := by
  have h0 : 0 < (⟨2, ![R, C]⟩ : Shape).rank := Nat.zero_lt_two
  have al : ∀ k : Fin R, (ix2 r c : (⟨2, ![R, C]⟩ : Shape).Idx).along ⟨0, h0⟩ k = ix2 k c := by
    intro k
    funext a
    match a with
    | ⟨0, _⟩ => rfl
    | ⟨1, _⟩ => rfl
  have hf : (fun k k' : Fin R => cmp
      (K ((ix2 r c : (⟨2, ![R, C]⟩ : Shape).Idx).along ⟨0, h0⟩ k), iotaInDim ⟨2, ![R, C]⟩ 32 0 ((ix2 r c : (⟨2, ![R, C]⟩ : Shape).Idx).along ⟨0, h0⟩ k))
      (K ((ix2 r c : (⟨2, ![R, C]⟩ : Shape).Idx).along ⟨0, h0⟩ k'), iotaInDim ⟨2, ![R, C]⟩ 32 0 ((ix2 r c : (⟨2, ![R, C]⟩ : Shape).Idx).along ⟨0, h0⟩ k')) == 1#1)
      = fun k k' => decide (K (ix2 k c) < K (ix2 k' c)) := by
    funext k k'
    rw [al, al, hc]
    by_cases h : K (ix2 k c) < K (ix2 k' c) <;> simp [h]
  refine (sort2_snd cmp K _ h0 (ix2 r c)).trans ?_
  exact congrArg (fun f => BitVec.ofNat 32 (sortedFrom (n := R) f r).val) hf

/-- The order's row at an element. -/
theorem order_apply (K : FVec Ideal S65536x128 .f32) (r : Fin 65536) (c : Fin 128) :
    order K (ix2 r c) = BitVec.ofNat 32 (from' K c r).val :=
  rows_sorted _ compare_eq K r c

/-- Rows in range are their own words' values. -/
theorem word_int (p : ℕ) (hp : p < 65536) : (BitVec.ofNat 32 p).toInt = (p : ℤ) := by
  rw [BitVec.toInt_eq_toNat_of_lt, BitVec.toNat_ofNat, Nat.mod_eq_of_lt (by omega)]
  rw [BitVec.toNat_ofNat, Nat.mod_eq_of_lt (by omega)]
  omega

/-- A row in range is kept. -/
theorem wrap_apply [Facts] (S : IVec S65536x128 32) (j : S65536x128.Idx) (p : ℕ) (hp : p < 65536)
    (hS : S j = BitVec.ofNat 32 p) : wrap S j = BitVec.ofNat 32 p := by
  have h : IntOp.cmpi .slt (BitVec.ofNat 32 p) 0#32 = 0#1 := by
    show BitVec.ofBool (BitVec.slt _ _) = _
    rw [BitVec.slt, word_int p hp, BitVec.toInt_zero, decide_eq_false (by omega)]
    rfl
  show Scalar.select (IntOp.cmpi .slt (S j) 0#32) (IntOp.addi (S j) 65536#32) (S j) = _
  rw [hS, h]
  rfl

/-- A selection at an element. -/
theorem select_apply {s : Shape} {α : Type} (a : IVec s 1) (x y : s.Idx → α) (j : s.Idx) (h : a j = 1#1) :
    select a x y j = x j := by
  show Scalar.select (a j) (x j) (y j) = _
  rw [h]
  rfl

/-- The targets at rows in range. -/
theorem take_apply [Facts] (g : FVec Ideal S65536 .f32) (I : IVec S65536x128 32) (p : Fin 65536 → Fin 128 → Fin 65536)
    (hI : ∀ r q, I (ix2 r q) = BitVec.ofNat 32 (p r q).val) (r : Fin 65536) (q : Fin 128) :
    take g I (ix2 r q) = g (ix1 (p r q)) := by
  have hb : ∀ i : S65536x128x1.Idx, ∃ q : Fin 65536,
      broadcastInDim S65536x128x1 ![0, 1] bcast_S65536x128_S65536x128x1_0_1 I i = BitVec.ofNat 32 q.val := by
    have hI' : ∀ j : S65536x128.Idx, ∃ q : Fin 65536, I j = BitVec.ofNat 32 q.val := by
      intro j
      rw [eq_ix2 j]
      exact ⟨_, hI _ _⟩
    exact fun i => hI' _
  have mask : Host.reduce IntOp.andi (andi (cmpi .sge (broadcastInDim S65536x128x1 ![0, 1] bcast_S65536x128_S65536x128x1_0_1 I) (broadcastInDim S65536x128x1 ![] bcast_S_S65536x128x1 (constantI S_ 32 0#32))) (cmpi .sle (broadcastInDim S65536x128x1 ![0, 1] bcast_S65536x128_S65536x128x1_0_1 I) (broadcastInDim S65536x128x1 ![0, 1, 2] bcast_S1x1x1_S65536x128x1_0_1_2 (broadcastInDim S1x1x1 ![2] bcast_S1_S1x1x1_2 (constantI S1 32 65535#32))))) (constantI S_ 1 1#1) reducesTo_S65536x128x1_S65536x128_d2 h_S_ (ix2 r q) = 1#1 := by
    refine Host.reduce_andi_one _ _ _ _ _ rfl fun i => ?_
    obtain ⟨q, hq⟩ := hb i
    show IntOp.andi (IntOp.cmpi .sge (broadcastInDim S65536x128x1 ![0, 1] bcast_S65536x128_S65536x128x1_0_1 I i) 0#32)
      (IntOp.cmpi .sle (broadcastInDim S65536x128x1 ![0, 1] bcast_S65536x128_S65536x128x1_0_1 I i) 65535#32) = 1#1
    rw [hq]
    have h1 : IntOp.cmpi .sge (BitVec.ofNat 32 q.val) 0#32 = 1#1 := by
      show BitVec.ofBool (BitVec.sle _ _) = _
      rw [BitVec.sle, word_int q.val q.isLt]
      simp
    have h2 : IntOp.cmpi .sle (BitVec.ofNat 32 q.val) 65535#32 = 1#1 := by
      show BitVec.ofBool (BitVec.sle _ _) = _
      rw [BitVec.sle, word_int q.val q.isLt]
      have := q.isLt
      have e : (65535#32 : BitVec 32).toInt = 65535 := by decide
      rw [e]
      have : (q.val : ℤ) ≤ 65535 := by omega
      simp [this]
    rw [h1, h2]
    rfl
  have pick : Host.gather gather_S65536_S65536x128x1_S65536x128_n_0_n_n_0_2_1 g (broadcastInDim S65536x128x1 ![0, 1] bcast_S65536x128_S65536x128x1_0_1 I) (ix2 r q) = g (ix1 (p r q)) := by
    refine (gather_take_apply (N := 65536) (R := 65536) (C := 128) (by norm_num) gather_S65536_S65536x128x1_S65536x128_n_0_n_n_0_2_1_wf g _ (ix2 r q)).trans ?_
    have e : broadcastInDim S65536x128x1 ![0, 1] bcast_S65536x128_S65536x128x1_0_1 I (takeIdx (ix2 r q)) = BitVec.ofNat 32 (p r q).val := by
      rw [← hI r q]
      refine broadcastInDim_apply (s := S65536x128) (t := S65536x128x1) ![0, 1] _ I _ _ fun a => ?_
      match a with
      | ⟨0, _⟩ => rfl
      | ⟨1, _⟩ => rfl
    refine congrArg (fun k => g (ix1 k)) (Fin.ext ?_)
    show min (broadcastInDim S65536x128x1 ![0, 1] bcast_S65536x128_S65536x128x1_0_1 I (takeIdx (ix2 r q))).toInt.toNat (65536 - 1) = _
    rw [e, word_int _ (p r q).isLt, Int.toNat_natCast]
    have := (p r q).isLt
    omega
  unfold take
  rw [select_apply _ _ _ _ mask, pick]

/-- Adding the difference to a finite value gives the other value. -/
theorem add_sub_self (a b : EReal) (h1 : a ≠ ⊤) (h2 : a ≠ ⊥) : a + (b - a) = b := by
  lift a to ℝ using ⟨h1, h2⟩
  induction b with
  | bot => rfl
  | top => rfl
  | coe b =>
    rw [← EReal.coe_sub, ← EReal.coe_add]
    congr 1
    ring

/-- A finite array plus the difference of another from it, at an element. -/
theorem add_sub_apply (A B : FVec Ideal S65536x128 .f32) (j : S65536x128.Idx)
    (fin : (A j : EReal) ≠ ⊤ ∧ (A j : EReal) ≠ ⊥) : addf A (subf B A) j = B j :=
  add_sub_self (A j) (B j) fin.1 fin.2

/-- The targets at the sorted rows. -/
theorem sorted_take [Facts] (K : FVec Ideal S65536x128 .f32) (g : FVec Ideal S65536 .f32) (r : Fin 65536) (q : Fin 128) :
    take g (wrap (order K)) (ix2 r q) = g (ix1 (from' K q r)) := by
  obtain ⟨p, hp⟩ : ∃ p : Fin 65536 → Fin 128 → Fin 65536, ∀ r q, p r q = from' K q r := ⟨_, fun _ _ => rfl⟩
  have ho : ∀ r q, order K (ix2 r q) = BitVec.ofNat 32 (p r q).val := by
    intro r q
    rw [hp]
    exact order_apply K r q
  have hw : ∀ r q, wrap (order K) (ix2 r q) = BitVec.ofNat 32 (p r q).val :=
    fun r q => wrap_apply _ _ _ (p r q).isLt (ho r q)
  rw [← hp r q]
  exact take_apply g _ p hw r q

/-- The operations after the keys, at an element, the keys finite: the target at the sorted row. -/
theorem result_apply [Facts] (K : FVec Ideal S65536x128 .f32) (g : FVec Ideal S65536 .f32)
    (fin : ∀ j, (K j : EReal) ≠ ⊤ ∧ (K j : EReal) ≠ ⊥) (r : Fin 65536) (q : Fin 128) :
    addf K (subf (take g (wrap (order K))) K) (ix2 r q) = g (ix1 (from' K q r)) :=
  (add_sub_apply K _ _ (fin _)).trans (sorted_take K g r q)

end Cert.ReferenceIdeal.Value
-- ==== Proof.Given.lean ====
/-
What the precondition says: every normalized input is finite, and the targets never decrease.
-/
module

public import proofs.«01_k».proof.Defs
public import proofs.«01_k».proof.Proof.Ref

@[expose] public section

noncomputable section

namespace Cert.ReferenceIdeal.Value

open Idealize.ShloMosaic Idealize.ShloMosaic.ValueIdx Cert.ReferenceIdeal.Facts₀

/-- The precondition's shape relations. -/
theorem preFacts : Cert.Pre_sortable.Facts where
  bcast_S128_S1x128_1 := by decide
  bcast_S1x128_S65536x128_0_1 := by decide
  bcast_S_S1x128 := by decide
  bcast_S_S65536x128 := by decide
  slices_S65536_S65535_0 := by decide
  slices_S65536_S65535_1 := by decide

/-- The pattern of the infinite bound is the top value. -/
theorem bound_top : Ideal.ofBits .f32 0x7F800000#32 = (⊤ : EReal) := by
  simp [Ideal.ofBits, Ideal.ieee]

/-- A value whose size is below the infinite bound is finite. -/
theorem finite_of_bit (k : EReal) (h : Ideal.cmp .olt (max k (-k)) (Ideal.ofBits .f32 0x7F800000#32) = 1#1) : k ≠ ⊤ ∧ k ≠ ⊥ := by
  rw [bound_top] at h
  have hlt : max k (-k) < ⊤ := by
    by_contra hn
    unfold Ideal.cmp at h
    simp [hn] at h
  refine ⟨?_, ?_⟩
  · rintro rfl
    simp at hlt
  · rintro rfl
    simp at hlt

/-- The first half of the precondition: the keys are finite. -/
theorem keys_finite [Facts] [Cert.Pre_sortable.Facts] (x : FVec Ideal S65536x128 .f32) (w b mean var : FVec Ideal S128 .f32)
    (g : FVec Ideal S65536 .f32) (h : (Cert.Pre_sortable.fn (F := Ideal) x w b mean var g).1 = fun _ => 1#1)
    (j : S65536x128.Idx) : (keys x w b mean var j : EReal) ≠ ⊤ ∧ (keys x w b mean var j : EReal) ≠ ⊥ :=
  finite_of_bit (keys x w b mean var j) (congrFun h j)

/-- The second half of the precondition: a target is at most the next. -/
theorem target_next [Cert.Pre_sortable.Facts] (x : FVec Ideal S65536x128 .f32) (w b mean var : FVec Ideal S128 .f32)
    (g : FVec Ideal S65536 .f32) (h : (Cert.Pre_sortable.fn (F := Ideal) x w b mean var g).2 = fun _ => 1#1)
    (k : ℕ) (hk : k < 65535) : (g (ix1 ⟨k, by omega⟩) : EReal) ≤ g (ix1 ⟨k + 1, by omega⟩) := by
  have e := congrFun h (ix1 (⟨k, hk⟩ : Fin 65535))
  have e1 : Ideal.cmp .ole
      (extractStridedSlice Cert.Pre_sortable.S65535 ![0] g Cert.Pre_sortable.Facts.slices_S65536_S65535_0 (ix1 (⟨k, hk⟩ : Fin 65535)))
      (extractStridedSlice Cert.Pre_sortable.S65535 ![1] g Cert.Pre_sortable.Facts.slices_S65536_S65535_1 (ix1 (⟨k, hk⟩ : Fin 65535))) = 1#1 := e
  rw [extractStridedSlice_apply ![0] g _ _ (ix1 (⟨k, by omega⟩ : Fin 65536)) (fun a => by
      obtain rfl : a = 0 := Subsingleton.elim _ _
      exact (Nat.zero_add k).symm),
    extractStridedSlice_apply ![1] g _ _ (ix1 (⟨k + 1, by omega⟩ : Fin 65536)) (fun a => by
      obtain rfl : a = 0 := Subsingleton.elim _ _
      exact Nat.add_comm k 1)] at e1
  by_contra hn
  unfold Ideal.cmp at e1
  simp [hn] at e1

/-- The targets never decrease. -/
theorem targets_up (g : FVec Ideal S65536 .f32)
    (h : ∀ (k : ℕ) (hk : k < 65535), (g (ix1 ⟨k, by omega⟩) : EReal) ≤ g (ix1 ⟨k + 1, by omega⟩))
    (a b : Fin 65536) (hab : a ≤ b) : (g (ix1 a) : EReal) ≤ g (ix1 b) := by
  have key : ∀ (d k : ℕ) (hk : k + d < 65536), (g (ix1 ⟨k, by omega⟩) : EReal) ≤ g (ix1 ⟨k + d, hk⟩) := by
    intro d
    induction d with
    | zero => exact fun k hk => le_refl _
    | succ d ih => exact fun k hk => (ih k (by omega)).trans (h (k + d) (by omega))
  have hv : a.val ≤ b.val := hab
  have e := key (b.val - a.val) a.val (by omega)
  have eb : (⟨a.val + (b.val - a.val), by omega⟩ : Fin 65536) = b := Fin.ext (by show a.val + (b.val - a.val) = b.val; omega)
  rw [eb] at e
  exact e

/-- A row given by column, read anywhere below: its own value. -/
theorem row_apply [Facts] (v : FVec Ideal S128 .f32) (r : Fin 1) (q : Fin 128) :
    broadcastInDim S1x128 ![1] bcast_S128_S1x128_1 v (ix2 r q) = v (ix1 q) :=
  broadcastInDim_apply (s := S128) (t := S1x128) ![1] _ v _ (ix1 q) fun a => by
    obtain rfl : a = 0 := Subsingleton.elim _ _
    rfl

/-- One row read at every row. -/
theorem rows_apply [Facts] (v : FVec Ideal S1x128 .f32) (r : Fin 65536) (q : Fin 128) :
    broadcastInDim S65536x128 ![0, 1] bcast_S1x128_S65536x128_0_1 v (ix2 r q) = v (ix2 0 q) :=
  broadcastInDim_apply (s := S1x128) (t := S65536x128) ![0, 1] _ v _ (ix2 0 q) fun a => by
    match a with
    | ⟨0, _⟩ => rfl
    | ⟨1, _⟩ => rfl

/-- A key at an element. -/
theorem keys_apply [Facts] (x : FVec Ideal S65536x128 .f32) (w b mean var : FVec Ideal S128 .f32) (r : Fin 65536) (q : Fin 128) :
    keys x w b mean var (ix2 r q) =
      FloatOps.addf (F := Ideal) (FloatOps.mulf (FloatOps.divf (FloatOps.subf (x (ix2 r q)) (mean (ix1 q)))
        (FloatOps.sqrt (FloatOps.addf (var (ix1 q)) (Scalar.ofBits .f32 0x3727C5AC#32)))) (w (ix1 q))) (b (ix1 q)) := by
  rw [← row_apply mean 0 q, ← row_apply var 0 q, ← row_apply w 0 q, ← row_apply b 0 q,
    ← rows_apply (broadcastInDim S1x128 ![1] bcast_S128_S1x128_1 mean) r q,
    ← rows_apply (broadcastInDim S1x128 ![1] bcast_S128_S1x128_1 w) r q,
    ← rows_apply (broadcastInDim S1x128 ![1] bcast_S128_S1x128_1 b) r q]
  have hs := rows_apply (Host.sqrt (addf (broadcastInDim S1x128 ![1] bcast_S128_S1x128_1 var) (broadcastInDim S1x128 ![] bcast_S_S1x128 (constant S_ .f32 0x3727C5AC#32)))) r q
  refine Eq.trans ?_ (congrArg (fun d => FloatOps.addf (F := Ideal) (φ := .f32) (FloatOps.mulf (FloatOps.divf (FloatOps.subf (x (ix2 r q)) _) d) _) _) hs)
  rfl

end Cert.ReferenceIdeal.Value
-- ==== Proof.Equal.lean ====
/-
The kernel's result is the reference's, on extended reals.
-/
module

public import proofs.«01_k».proof.Proof.Result
public import proofs.«01_k».proof.Proof.Given

@[expose] public section

noncomputable section

namespace Cert.Proof

open Idealize.ShloMosaic Idealize.SL.Sem
open Idealize.ShloMosaic.TcCoe

/-- The kernel's result at an element: the target at the row that the column's stable sort puts there. -/
theorem kernel_at (m : (ℓ : Loc Cert.KernelIdeal.nD Cert.KernelIdeal.τ Cert.KernelIdeal.sig) → Buf (Elt Ideal) ℓ) (c : Dev Cert.KernelIdeal.nD)
    (x : FVec Ideal Cert.ReferenceIdeal.S65536x128 .f32) (w b mean var : FVec Ideal Cert.ReferenceIdeal.S128 .f32) (g : FVec Ideal Cert.ReferenceIdeal.S65536 .f32)
    (hx : m ((c.tc : Thread Cert.KernelIdeal.nD Cert.KernelIdeal.τ).loc Cert.KernelIdeal.main_arg0) = x)
    (hw : m ((c.tc : Thread Cert.KernelIdeal.nD Cert.KernelIdeal.τ).loc Cert.KernelIdeal.main_arg1) = w)
    (hb : m ((c.tc : Thread Cert.KernelIdeal.nD Cert.KernelIdeal.τ).loc Cert.KernelIdeal.main_arg2) = b)
    (hm : m ((c.tc : Thread Cert.KernelIdeal.nD Cert.KernelIdeal.τ).loc Cert.KernelIdeal.main_arg3) = mean)
    (hv : m ((c.tc : Thread Cert.KernelIdeal.nD Cert.KernelIdeal.τ).loc Cert.KernelIdeal.main_arg4) = var)
    (hg : m ((c.tc : Thread Cert.KernelIdeal.nD Cert.KernelIdeal.τ).loc Cert.KernelIdeal.main_arg5) = g)
    (up : ∀ a b : Fin 65536, a ≤ b → (g (ValueIdx.ix1 a) : EReal) ≤ g (ValueIdx.ix1 b)) (r : Fin 65536) (q : Fin 128) :
    Cert.KernelIdeal.Own.res1 (Cert.KernelIdeal.Own.W2 m) c 2 (r.val, q.val)
      = g (ValueIdx.ix1 (Cert.ReferenceIdeal.Value.from' (Cert.ReferenceIdeal.Value.keys x w b mean var) q r)) := by
  rw [Cert.KernelIdeal.Own.result_at m c r.val q.val r.isLt]
  have hA : ∀ i : Fin 65536, Net.col (Cert.KernelIdeal.Own.keyed m c) q.val i.val
      = toLex (Cert.ReferenceIdeal.Value.keys x w b mean var (ValueIdx.ix2 i q), g (ValueIdx.ix1 i)) := by
    intro i
    rw [Cert.ReferenceIdeal.Value.keys_apply, ← hx, ← hw, ← hb, ← hm, ← hv, ← hg]
    exact congrArg toLex (Cert.KernelIdeal.Own.keyed_at m c i q)
  rw [Net.argsort_eq (Net.col (Cert.KernelIdeal.Own.keyed m c) q.val) _
    (fun i => Cert.ReferenceIdeal.Value.keys x w b mean var (ValueIdx.ix2 i q)) (fun i => g (ValueIdx.ix1 i)) hA
    (Cert.KernelIdeal.Own.sorted_up m c q.val q.isLt) (Cert.KernelIdeal.Own.sorted_sum m c q.val q.isLt) up r]
  rfl

/-- The two results are one array. -/
theorem same_result [Cert.Pre_sortable.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (x : FVec Ideal Cert.ReferenceIdeal.S65536x128 .f32) (w b mean var : FVec Ideal Cert.ReferenceIdeal.S128 .f32) (g : FVec Ideal Cert.ReferenceIdeal.S65536 .f32)
    (hx : m ((c.tc : Thread Cert.KernelIdeal.nD Cert.KernelIdeal.τ).loc Cert.KernelIdeal.main_arg0) = x)
    (hw : m ((c.tc : Thread Cert.KernelIdeal.nD Cert.KernelIdeal.τ).loc Cert.KernelIdeal.main_arg1) = w)
    (hb : m ((c.tc : Thread Cert.KernelIdeal.nD Cert.KernelIdeal.τ).loc Cert.KernelIdeal.main_arg2) = b)
    (hm : m ((c.tc : Thread Cert.KernelIdeal.nD Cert.KernelIdeal.τ).loc Cert.KernelIdeal.main_arg3) = mean)
    (hv : m ((c.tc : Thread Cert.KernelIdeal.nD Cert.KernelIdeal.τ).loc Cert.KernelIdeal.main_arg4) = var)
    (hg : m ((c.tc : Thread Cert.KernelIdeal.nD Cert.KernelIdeal.τ).loc Cert.KernelIdeal.main_arg5) = g)
    (hx' : m' ((c.tc : Thread Cert.ReferenceIdeal.nD Cert.ReferenceIdeal.τ).loc Cert.ReferenceIdeal.main_arg0) = x)
    (hw' : m' ((c.tc : Thread Cert.ReferenceIdeal.nD Cert.ReferenceIdeal.τ).loc Cert.ReferenceIdeal.main_arg1) = w)
    (hb' : m' ((c.tc : Thread Cert.ReferenceIdeal.nD Cert.ReferenceIdeal.τ).loc Cert.ReferenceIdeal.main_arg2) = b)
    (hm' : m' ((c.tc : Thread Cert.ReferenceIdeal.nD Cert.ReferenceIdeal.τ).loc Cert.ReferenceIdeal.main_arg3) = mean)
    (hv' : m' ((c.tc : Thread Cert.ReferenceIdeal.nD Cert.ReferenceIdeal.τ).loc Cert.ReferenceIdeal.main_arg4) = var)
    (hg' : m' ((c.tc : Thread Cert.ReferenceIdeal.nD Cert.ReferenceIdeal.τ).loc Cert.ReferenceIdeal.main_arg5) = g)
    (h1 : (Cert.Pre_sortable.fn (F := Ideal) x w b mean var g).1 = fun _ => 1#1)
    (h2 : (Cert.Pre_sortable.fn (F := Ideal) x w b mean var g).2 = fun _ => 1#1) :
    Cert.ReferenceIdeal.Value.res_main_v18 m' c = Net.bufOf (Cert.KernelIdeal.Own.res1 (Cert.KernelIdeal.Own.W2 m) c 2) := by
  refine (Cert.ReferenceIdeal.Value.res_eq m' c x w b mean var g hx' hw' hb' hm' hv' hg').trans ?_
  have fin := Cert.ReferenceIdeal.Value.keys_finite x w b mean var g h1
  have up := Cert.ReferenceIdeal.Value.targets_up g (Cert.ReferenceIdeal.Value.target_next x w b mean var g h2)
  funext j
  obtain ⟨r, q, rfl⟩ : ∃ (r : Fin 65536) (q : Fin 128), j = ValueIdx.ix2 r q := ⟨j 0, j 1, ValueIdx.eq_ix2 j⟩
  exact (Cert.ReferenceIdeal.Value.result_apply _ g fin r q).trans (kernel_at m c x w b mean var g hx hw hb hm hv hg up r q).symm

/-- From memories with the same arguments, every normalized input finite and the targets never decreasing, the two
    programs end with the same result and their arguments as they were. -/
theorem equal : letI := Cert.KernelIdeal.Gen.facts; letI := Cert.ReferenceIdeal.Gen.facts; letI := Cert.ReferenceIdeal.Value.preFacts;
    Cert.algebraic_KernelIdeal_ReferenceIdeal_pre_sortable := by
  letI := Cert.ReferenceIdeal.Value.preFacts
  intro m g m' g' pre args
  refine ⟨fun c => Net.bufOf (Cert.KernelIdeal.Own.res1 (Cert.KernelIdeal.Own.W2 m) c 2), ?_, ?_⟩
  · refine (θ_run _ _ _).mono (fun r hr c => ?_) (Cert.KernelIdeal.Own.run m g)
    obtain ⟨h0, h1, h2, h3, h4, h5, h6⟩ := hr.1 c
    exact ⟨h6, h0, h1, h2, h3, h4, h5⟩
  · refine (θ_run _ _ _).mono (fun r hr c => ⟨(hr c).1.trans ?_, (hr c).2⟩) (Cert.ReferenceIdeal.Value.run m' g')
    obtain ⟨a0, a1, a2, a3, a4, a5⟩ := args c
    exact same_result m m' c _ _ _ _ _ _ rfl rfl rfl rfl rfl rfl a0 a1 a2 a3 a4 a5 (pre c).1 (pre c).2

end Cert.Proof
-- ==== Proof.lean ====
/-
The claims, put together from the modules beside this one.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Equal

@[expose] public section

noncomputable section

namespace Cert.Proof

open Idealize.ShloMosaic Idealize.SL.Sem

/-- The claims. -/
theorem claim : Cert.Claim := by
  letI := Cert.ReferenceIdeal.Value.preFacts
  exact ⟨Cert.Kernel.Gen.facts, Cert.KernelIdeal.Gen.facts, Cert.ReferenceIdeal.Gen.facts, Cert.ReferenceIdeal.Value.preFacts,
    frameBits, frameIdeal, frameIdealPre, frameRef, frameRefPre, trivial, equal⟩

end Cert.Proof

end
